-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v34_0)) (v1 : (c : Dev Cert.Kernel2Ideal.nD) → Buf (Elt Ideal) ((c.tc : Thread Cert.Kernel2Ideal.nD Cert.Kernel2Ideal.τ).loc Cert.Kernel2Ideal.main_v34_1)) (v2 : (c : Dev Cert.Kernel2Ideal.nD) → Buf (Elt Ideal) ((c.tc : Thread Cert.Kernel2Ideal.nD Cert.Kernel2Ideal.τ).loc Cert.Kernel2Ideal.main_v34_2)) (v3 : (c : Dev Cert.Kernel2Ideal.nD) → Buf (Elt Ideal) ((c.tc : Thread Cert.Kernel2Ideal.nD Cert.Kernel2Ideal.τ).loc Cert.Kernel2Ideal.main_v34_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v34_0) = v0 c
          ∧ r.2.mem ((c.tc : Thread Cert.Kernel2Ideal.nD Cert.Kernel2Ideal.τ).loc Cert.Kernel2Ideal.main_v34_1) = v1 c
          ∧ r.2.mem ((c.tc : Thread Cert.Kernel2Ideal.nD Cert.Kernel2Ideal.τ).loc Cert.Kernel2Ideal.main_v34_2) = v2 c
          ∧ r.2.mem ((c.tc : Thread Cert.Kernel2Ideal.nD Cert.Kernel2Ideal.τ).loc Cert.Kernel2Ideal.main_v34_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_v54) = v1 c
          ∧ r.2.mem ((c.tc : Thread Cert.Reference2Ideal.nD Cert.Reference2Ideal.τ).loc Cert.Reference2Ideal.main_v62) = v2 c
          ∧ r.2.mem ((c.tc : Thread Cert.Reference2Ideal.nD Cert.Reference2Ideal.τ).loc Cert.Reference2Ideal.main_v72) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v43_0)) (v1 : (c : Dev Cert.Kernel4Ideal.nD) → Buf (Elt Ideal) ((c.tc : Thread Cert.Kernel4Ideal.nD Cert.Kernel4Ideal.τ).loc Cert.Kernel4Ideal.main_v43_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v43_0) = v0 c
          ∧ r.2.mem ((c.tc : Thread Cert.Kernel4Ideal.nD Cert.Kernel4Ideal.τ).loc Cert.Kernel4Ideal.main_v43_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v42) = v0 c
          ∧ r.2.mem ((c.tc : Thread Cert.Reference4Ideal.nD Cert.Reference4Ideal.τ).loc Cert.Reference4Ideal.main_v43) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  IdealRules.named_const.Statement Cert.Kernel5Ideal.κ "mask" .f32 0xF149F2CA#32 ⊥

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
-- ==== Kernel.lean ====
abbrev S8x4096x1024 : Shape := ⟨3, ![8, 4096, 1024]⟩
abbrev S8x1792x4096 : Shape := ⟨3, ![8, 1792, 4096]⟩
abbrev S4x768x1024 : Shape := ⟨3, ![4, 768, 1024]⟩
abbrev S16 : Shape := ⟨1, ![16]⟩
abbrev S105 : Shape := ⟨1, ![105]⟩
abbrev S16x256x128 : Shape := ⟨3, ![16, 256, 128]⟩
abbrev S_ : Shape := ⟨0, ![]⟩
abbrev S4096x128 : Shape := ⟨2, ![4096, 128]⟩
abbrev S8x512x4096 : Shape := ⟨3, ![8, 512, 4096]⟩
abbrev S1x256x4096 : Shape := ⟨3, ![1, 256, 4096]⟩
abbrev S1x4096x256 : Shape := ⟨3, ![1, 4096, 256]⟩
abbrev S1x768x1024 : Shape := ⟨3, ![1, 768, 1024]⟩
abbrev S4x128x128 : Shape := ⟨3, ![4, 128, 128]⟩
abbrev S4096x512 : Shape := ⟨2, ![4096, 512]⟩
abbrev S4x80x4096 : Shape := ⟨3, ![4, 80, 4096]⟩
abbrev S4x128x4096 : Shape := ⟨3, ![4, 128, 4096]⟩
abbrev S256x1024 : Shape := ⟨2, ![256, 1024]⟩
abbrev S1x16384 : Shape := ⟨2, ![1, 16384]⟩
abbrev S80x16384 : Shape := ⟨2, ![80, 16384]⟩
abbrev S16x4096 : Shape := ⟨2, ![16, 4096]⟩
abbrev S64x4096 : Shape := ⟨2, ![64, 4096]⟩
abbrev S1x4096x128 : Shape := ⟨3, ![1, 4096, 128]⟩
abbrev S1x64x4096 : Shape := ⟨3, ![1, 64, 4096]⟩
abbrev S80x4096 : Shape := ⟨2, ![80, 4096]⟩
abbrev S1x80x4096 : Shape := ⟨3, ![1, 80, 4096]⟩
abbrev S256x128 : Shape := ⟨2, ![256, 128]⟩
abbrev S128 : Shape := ⟨1, ![128]⟩
abbrev S1x128 : Shape := ⟨2, ![1, 128]⟩
abbrev S1x1x128 : Shape := ⟨3, ![1, 1, 128]⟩
abbrev S128x4096 : Shape := ⟨2, ![128, 4096]⟩
abbrev S1x16x128 : Shape := ⟨3, ![1, 16, 128]⟩
abbrev S16x128 : Shape := ⟨2, ![16, 128]⟩
abbrev S8x4096 : Shape := ⟨2, ![8, 4096]⟩
abbrev S1x4096 : Shape := ⟨2, ![1, 4096]⟩
abbrev S48x4096 : Shape := ⟨2, ![48, 4096]⟩
abbrev S1x128x4096 : Shape := ⟨3, ![1, 128, 4096]⟩
abbrev S1 : Shape := ⟨1, ![1]⟩
abbrev S1x256 : Shape := ⟨2, ![1, 256]⟩
abbrev S1x1024 : Shape := ⟨2, ![1, 1024]⟩
abbrev S1x128x256 : Shape := ⟨3, ![1, 128, 256]⟩
abbrev S128x256 : Shape := ⟨2, ![128, 256]⟩
abbrev S256x256 : Shape := ⟨2, ![256, 256]⟩
abbrev S1x256x1024 : Shape := ⟨3, ![1, 256, 1024]⟩
abbrev S1024 : Shape := ⟨1, ![1024]⟩
abbrev S1x80x256 : Shape := ⟨3, ![1, 80, 256]⟩
abbrev S80x256 : Shape := ⟨2, ![80, 256]⟩
abbrev S80x1024 : Shape := ⟨2, ![80, 1024]⟩
abbrev S64x1024 : Shape := ⟨2, ![64, 1024]⟩
abbrev S64x256 : Shape := ⟨2, ![64, 256]⟩
abbrev S1x64x256 : Shape := ⟨3, ![1, 64, 256]⟩

abbrev nBuf : Space → Nat
  | .hbm => 16
  | .vmem => 19
  | .smem => 3
  | _ => 0

abbrev bufTy : (tb : Table) → Fin (tcTables nBuf tb) → BufTy
  | .hbm, ⟨0, _⟩ => ⟨S8x4096x1024, .bf16⟩
  | .hbm, ⟨1, _⟩ => ⟨S8x1792x4096, .bf16⟩
  | .hbm, ⟨2, _⟩ => ⟨S4x768x1024, .f32⟩
  | .hbm, ⟨3, _⟩ => ⟨S16, .f32⟩
  | .hbm, ⟨4, _⟩ => ⟨S105, .i32⟩
  | .hbm, ⟨5, _⟩ => ⟨S105, .i32⟩
  | .hbm, ⟨6, _⟩ => ⟨S16x256x128, .i32⟩
  | .hbm, ⟨7, _⟩ => ⟨S16x256x128, .i32⟩
  | .hbm, ⟨8, _⟩ => ⟨S_, .i32⟩
  | .hbm, ⟨9, _⟩ => ⟨S16x256x128, .i32⟩
  | .hbm, ⟨10, _⟩ => ⟨S16x256x128, .i32⟩
  | .hbm, ⟨11, _⟩ => ⟨S16x256x128, .i1⟩
  | .hbm, ⟨12, _⟩ => ⟨S16x256x128, .f32⟩
  | .hbm, ⟨13, _⟩ => ⟨S4096x128, .f32⟩
  | .hbm, ⟨14, _⟩ => ⟨S4096x128, .bf16⟩
  | .hbm, ⟨15, _⟩ => ⟨S8x512x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x4096, .bf16⟩
  | .local _ .vmem, ⟨5, _⟩ => ⟨S1x256x4096, .bf16⟩
  | .local _ .vmem, ⟨6, _⟩ => ⟨S4096x128, .bf16⟩
  | .local _ .vmem, ⟨7, _⟩ => ⟨S1x768x1024, .f32⟩
  | .local _ .vmem, ⟨8, _⟩ => ⟨S1x768x1024, .f32⟩
  | .local _ .vmem, ⟨9, _⟩ => ⟨S1x256x4096, .bf16⟩
  | .local _ .vmem, ⟨10, _⟩ => ⟨S1x256x4096, .bf16⟩
  | .local _ .vmem, ⟨11, _⟩ => ⟨S4x128x128, .f32⟩
  | .local _ .vmem, ⟨12, _⟩ => ⟨S4096x512, .bf16⟩
  | .local _ .vmem, ⟨13, _⟩ => ⟨S4x80x4096, .bf16⟩
  | .local _ .vmem, ⟨14, _⟩ => ⟨S4x128x4096, .bf16⟩
  | .local _ .vmem, ⟨15, _⟩ => ⟨S256x1024, .f32⟩
  | .local _ .vmem, ⟨16, _⟩ => ⟨S256x1024, .f32⟩
  | .local _ .vmem, ⟨17, _⟩ => ⟨S1x16384, .f32⟩
  | .local _ .vmem, ⟨18, _⟩ => ⟨S80x16384, .f32⟩
  | .local _ .smem, ⟨0, _⟩ => ⟨S16, .f32⟩
  | .local _ .smem, ⟨1, _⟩ => ⟨S105, .i32⟩
  | .local _ .smem, ⟨2, _⟩ => ⟨S105, .i32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_c_1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg7_1 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_scratch7 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![8, 2], ![false, false]⟩

def k0_off1 (i : grid0.Coords) (c0_i32_879 : BitVec 32) : Fin 1 → Nat :=
  let arg1 : BitVec 32 := BitVec.ofNat 32 (i 1).val
  let c4_i32_878 : BitVec 32 := 4#32
  let v2377 : BitVec 32 := Scalar.muli arg1 c4_i32_878
  let v2378 : BitVec 32 := Scalar.addi v2377 c0_i32_879
  let v2379 : Index := Scalar.indexCast v2378
  ![v2379.toNat]
def k0_mult1 : BitVec 32 :=
  let c0_i32_884 : BitVec 32 := 0#32
  let c15_i32_885 : BitVec 32 := 15#32
  let v2396 : BitVec 32 := Scalar.minsi c0_i32_884 c15_i32_885
  let c256_i32_886 : BitVec 32 := 256#32
  let v2397 : BitVec 32 := Scalar.muli v2396 c256_i32_886
  v2397
def k0_mult2 : BitVec 32 :=
  let c0_i32_884 : BitVec 32 := 0#32
  let c15_i32_885 : BitVec 32 := 15#32
  let v2396 : BitVec 32 := Scalar.minsi c0_i32_884 c15_i32_885
  let c256_i32_887 : BitVec 32 := 256#32
  let v2399 : BitVec 32 := Scalar.muli v2396 c256_i32_887
  v2399
def k0_off2 (c15_i32_885 : BitVec 32) : Fin 2 → Nat :=
  let c0_i32_884 : BitVec 32 := 0#32
  let v2396 : BitVec 32 := Scalar.minsi c0_i32_884 c15_i32_885
  let c256_i32_887 : BitVec 32 := 256#32
  let v2399 : BitVec 32 := Scalar.muli v2396 c256_i32_887
  let v2400 : BitVec 32 := v2399
  let v2401 : Index := Scalar.indexCast v2400
  let c0_888 : Index := 0#32
  ![v2401.toNat, 0]
def k0_off3 : Fin 3 → Nat :=
  let c0_889 : Index := 0#32
  let c0_890 : Index := 0#32
  let c0_i32_884 : BitVec 32 := 0#32
  let c15_i32_885 : BitVec 32 := 15#32
  let v2396 : BitVec 32 := Scalar.minsi c0_i32_884 c15_i32_885
  let c256_i32_886 : BitVec 32 := 256#32
  let v2397 : BitVec 32 := Scalar.muli v2396 c256_i32_886
  let v2398 : BitVec 32 := v2397
  let v2403 : Index := Scalar.indexCast v2398
  ![0, 0, v2403.toNat]
def k0_off4 (c15_i32_885 : BitVec 32) : Fin 2 → Nat :=
  let c0_i32_884 : BitVec 32 := 0#32
  let v2396 : BitVec 32 := Scalar.minsi c0_i32_884 c15_i32_885
  let c256_i32_887 : BitVec 32 := 256#32
  let v2399 : BitVec 32 := Scalar.muli v2396 c256_i32_887
  let v2400 : BitVec 32 := v2399
  let v2407 : Index := Scalar.indexCast v2400
  let c128_892 : Index := 128#32
  ![v2407.toNat, 128]
def k0_off5 : Fin 3 → Nat :=
  let c1_893 : Index := 1#32
  let c0_894 : Index := 0#32
  let c0_i32_884 : BitVec 32 := 0#32
  let c15_i32_885 : BitVec 32 := 15#32
  let v2396 : BitVec 32 := Scalar.minsi c0_i32_884 c15_i32_885
  let c256_i32_886 : BitVec 32 := 256#32
  let v2397 : BitVec 32 := Scalar.muli v2396 c256_i32_886
  let v2398 : BitVec 32 := v2397
  let v2409 : Index := Scalar.indexCast v2398
  ![1, 0, v2409.toNat]
def k0_off6 (c15_i32_885 : BitVec 32) : Fin 2 → Nat :=
  let c0_i32_884 : BitVec 32 := 0#32
  let v2396 : BitVec 32 := Scalar.minsi c0_i32_884 c15_i32_885
  let c256_i32_887 : BitVec 32 := 256#32
  let v2399 : BitVec 32 := Scalar.muli v2396 c256_i32_887
  let v2400 : BitVec 32 := v2399
  let v2413 : Index := Scalar.indexCast v2400
  let c256_896 : Index := 256#32
  ![v2413.toNat, 256]
def k0_off7 : Fin 3 → Nat :=
  let c2_897 : Index := 2#32
  let c0_898 : Index := 0#32
  let c0_i32_884 : BitVec 32 := 0#32
  let c15_i32_885 : BitVec 32 := 15#32
  let v2396 : BitVec 32 := Scalar.minsi c0_i32_884 c15_i32_885
  let c256_i32_886 : BitVec 32 := 256#32
  let v2397 : BitVec 32 := Scalar.muli v2396 c256_i32_886
  let v2398 : BitVec 32 := v2397
  let v2415 : Index := Scalar.indexCast v2398
  ![2, 0, v2415.toNat]
def k0_off8 (c15_i32_885 : BitVec 32) : Fin 2 → Nat :=
  let c0_i32_884 : BitVec 32 := 0#32
  let v2396 : BitVec 32 := Scalar.minsi c0_i32_884 c15_i32_885
  let c256_i32_887 : BitVec 32 := 256#32
  let v2399 : BitVec 32 := Scalar.muli v2396 c256_i32_887
  let v2400 : BitVec 32 := v2399
  let v2419 : Index := Scalar.indexCast v2400
  let c384_900 : Index := 384#32
  ![v2419.toNat, 384]
def k0_off9 : Fin 3 → Nat :=
  let c3_901 : Index := 3#32
  let c0_902 : Index := 0#32
  let c0_i32_884 : BitVec 32 := 0#32
  let c15_i32_885 : BitVec 32 := 15#32
  let v2396 : BitVec 32 := Scalar.minsi c0_i32_884 c15_i32_885
  let c256_i32_886 : BitVec 32 := 256#32
  let v2397 : BitVec 32 := Scalar.muli v2396 c256_i32_886
  let v2398 : BitVec 32 := v2397
  let v2421 : Index := Scalar.indexCast v2398
  ![3, 0, v2421.toNat]
def k0_mult3 : BitVec 32 :=
  let c2_i32_907 : BitVec 32 := 2#32
  let c0_i32_906 : BitVec 32 := 0#32
  let v2429 : BitVec 32 := Scalar.muli c2_i32_907 c0_i32_906
  let c1_i32_908 : BitVec 32 := 1#32
  let v2430 : BitVec 32 := Scalar.addi v2429 c1_i32_908
  let c15_i32_909 : BitVec 32 := 15#32
  let v2431 : BitVec 32 := Scalar.minsi v2430 c15_i32_909
  let c256_i32_910 : BitVec 32 := 256#32
  let v2432 : BitVec 32 := Scalar.muli v2431 c256_i32_910
  v2432
def k0_mult4 : BitVec 32 :=
  let c2_i32_907 : BitVec 32 := 2#32
  let c0_i32_906 : BitVec 32 := 0#32
  let v2429 : BitVec 32 := Scalar.muli c2_i32_907 c0_i32_906
  let c1_i32_908 : BitVec 32 := 1#32
  let v2430 : BitVec 32 := Scalar.addi v2429 c1_i32_908
  let c15_i32_909 : BitVec 32 := 15#32
  let v2431 : BitVec 32 := Scalar.minsi v2430 c15_i32_909
  let c256_i32_911 : BitVec 32 := 256#32
  let v2434 : BitVec 32 := Scalar.muli v2431 c256_i32_911
  v2434
def k0_off10 (c0_i32_906 : BitVec 32) (c1_i32_908 : BitVec 32) (c15_i32_909 : BitVec 32) : Fin 2 → Nat :=
  let c2_i32_907 : BitVec 32 := 2#32
  let v2429 : BitVec 32 := Scalar.muli c2_i32_907 c0_i32_906
  let v2430 : BitVec 32 := Scalar.addi v2429 c1_i32_908
  let v2431 : BitVec 32 := Scalar.minsi v2430 c15_i32_909
  let c256_i32_911 : BitVec 32 := 256#32
  let v2434 : BitVec 32 := Scalar.muli v2431 c256_i32_911
  let v2435 : BitVec 32 := v2434
  let v2436 : Index := Scalar.indexCast v2435
  let c0_912 : Index := 0#32
  ![v2436.toNat, 0]
def k0_off10_at (r : Fin 30) : BitVec 32 × BitVec 32 × BitVec 32 :=
  if r.val < 15 then
    if r.val < 7 then
      if r.val < 3 then
        if r.val < 1 then
          (0#32, 1#32, 15#32)
        else
          if r.val < 2 then
            (0#32, 2#32, 15#32)
          else
            (1#32, 1#32, 15#32)
      else
        if r.val < 5 then
          if r.val < 4 then
            (1#32, 2#32, 15#32)
          else
            (2#32, 1#32, 15#32)
        else
          if r.val < 6 then
            (2#32, 2#32, 15#32)
          else
            (3#32, 1#32, 15#32)
    else
      if r.val < 11 then
        if r.val < 9 then
          if r.val < 8 then
            (3#32, 2#32, 15#32)
          else
            (4#32, 1#32, 15#32)
        else
          if r.val < 10 then
            (4#32, 2#32, 15#32)
          else
            (5#32, 1#32, 15#32)
      else
        if r.val < 13 then
          if r.val < 12 then
            (5#32, 2#32, 15#32)
          else
            (6#32, 1#32, 15#32)
        else
          if r.val < 14 then
            (6#32, 2#32, 15#32)
          else
            (7#32, 1#32, 15#32)
  else
    if r.val < 22 then
      if r.val < 18 then
        if r.val < 16 then
          (7#32, 2#32, 15#32)
        else
          if r.val < 17 then
            (0#32, 1#32, 14#32)
          else
            (0#32, 2#32, 14#32)
      else
        if r.val < 20 then
          if r.val < 19 then
            (1#32, 1#32, 14#32)
          else
            (1#32, 2#32, 14#32)
        else
          if r.val < 21 then
            (2#32, 1#32, 14#32)
          else
            (2#32, 2#32, 14#32)
    else
      if r.val < 26 then
        if r.val < 24 then
          if r.val < 23 then
            (3#32, 1#32, 14#32)
          else
            (3#32, 2#32, 14#32)
        else
          if r.val < 25 then
            (4#32, 1#32, 14#32)
          else
            (4#32, 2#32, 14#32)
      else
        if r.val < 28 then
          if r.val < 27 then
            (5#32, 1#32, 14#32)
          else
            (5#32, 2#32, 14#32)
        else
          if r.val < 29 then
            (6#32, 1#32, 14#32)
          else
            (6#32, 2#32, 14#32)
def k0_off11 (c0_i32_906 : BitVec 32) (c1_i32_908 : BitVec 32) : Fin 3 → Nat :=
  let c0_913 : Index := 0#32
  let c0_914 : Index := 0#32
  let c2_i32_907 : BitVec 32 := 2#32
  let v2429 : BitVec 32 := Scalar.muli c2_i32_907 c0_i32_906
  let v2430 : BitVec 32 := Scalar.addi v2429 c1_i32_908
  let c15_i32_909 : BitVec 32 := 15#32
  let v2431 : BitVec 32 := Scalar.minsi v2430 c15_i32_909
  let c256_i32_910 : BitVec 32 := 256#32
  let v2432 : BitVec 32 := Scalar.muli v2431 c256_i32_910
  let v2433 : BitVec 32 := v2432
  let v2438 : Index := Scalar.indexCast v2433
  ![0, 0, v2438.toNat]
def k0_off12 (c0_i32_906 : BitVec 32) (c1_i32_908 : BitVec 32) (c15_i32_909 : BitVec 32) : Fin 2 → Nat :=
  let c2_i32_907 : BitVec 32 := 2#32
  let v2429 : BitVec 32 := Scalar.muli c2_i32_907 c0_i32_906
  let v2430 : BitVec 32 := Scalar.addi v2429 c1_i32_908
  let v2431 : BitVec 32 := Scalar.minsi v2430 c15_i32_909
  let c256_i32_911 : BitVec 32 := 256#32
  let v2434 : BitVec 32 := Scalar.muli v2431 c256_i32_911
  let v2435 : BitVec 32 := v2434
  let v2442 : Index := Scalar.indexCast v2435
  let c128_916 : Index := 128#32
  ![v2442.toNat, 128]
def k0_off12_at (r : Fin 30) : BitVec 32 × BitVec 32 × BitVec 32 :=
  if r.val < 15 then
    if r.val < 7 then
      if r.val < 3 then
        if r.val < 1 then
          (0#32, 1#32, 15#32)
        else
          if r.val < 2 then
            (0#32, 2#32, 15#32)
          else
            (1#32, 1#32, 15#32)
      else
        if r.val < 5 then
          if r.val < 4 then
            (1#32, 2#32, 15#32)
          else
            (2#32, 1#32, 15#32)
        else
          if r.val < 6 then
            (2#32, 2#32, 15#32)
          else
            (3#32, 1#32, 15#32)
    else
      if r.val < 11 then
        if r.val < 9 then
          if r.val < 8 then
            (3#32, 2#32, 15#32)
          else
            (4#32, 1#32, 15#32)
        else
          if r.val < 10 then
            (4#32, 2#32, 15#32)
          else
            (5#32, 1#32, 15#32)
      else
        if r.val < 13 then
          if r.val < 12 then
            (5#32, 2#32, 15#32)
          else
            (6#32, 1#32, 15#32)
        else
          if r.val < 14 then
            (6#32, 2#32, 15#32)
          else
            (7#32, 1#32, 15#32)
  else
    if r.val < 22 then
      if r.val < 18 then
        if r.val < 16 then
          (7#32, 2#32, 15#32)
        else
          if r.val < 17 then
            (0#32, 1#32, 14#32)
          else
            (0#32, 2#32, 14#32)
      else
        if r.val < 20 then
          if r.val < 19 then
            (1#32, 1#32, 14#32)
          else
            (1#32, 2#32, 14#32)
        else
          if r.val < 21 then
            (2#32, 1#32, 14#32)
          else
            (2#32, 2#32, 14#32)
    else
      if r.val < 26 then
        if r.val < 24 then
          if r.val < 23 then
            (3#32, 1#32, 14#32)
          else
            (3#32, 2#32, 14#32)
        else
          if r.val < 25 then
            (4#32, 1#32, 14#32)
          else
            (4#32, 2#32, 14#32)
      else
        if r.val < 28 then
          if r.val < 27 then
            (5#32, 1#32, 14#32)
          else
            (5#32, 2#32, 14#32)
        else
          if r.val < 29 then
            (6#32, 1#32, 14#32)
          else
            (6#32, 2#32, 14#32)
def k0_off13 (c0_i32_906 : BitVec 32) (c1_i32_908 : BitVec 32) : Fin 3 → Nat :=
  let c1_917 : Index := 1#32
  let c0_918 : Index := 0#32
  let c2_i32_907 : BitVec 32 := 2#32
  let v2429 : BitVec 32 := Scalar.muli c2_i32_907 c0_i32_906
  let v2430 : BitVec 32 := Scalar.addi v2429 c1_i32_908
  let c15_i32_909 : BitVec 32 := 15#32
  let v2431 : BitVec 32 := Scalar.minsi v2430 c15_i32_909
  let c256_i32_910 : BitVec 32 := 256#32
  let v2432 : BitVec 32 := Scalar.muli v2431 c256_i32_910
  let v2433 : BitVec 32 := v2432
  let v2444 : Index := Scalar.indexCast v2433
  ![1, 0, v2444.toNat]
def k0_off14 (c0_i32_906 : BitVec 32) (c1_i32_908 : BitVec 32) (c15_i32_909 : BitVec 32) : Fin 2 → Nat :=
  let c2_i32_907 : BitVec 32 := 2#32
  let v2429 : BitVec 32 := Scalar.muli c2_i32_907 c0_i32_906
  let v2430 : BitVec 32 := Scalar.addi v2429 c1_i32_908
  let v2431 : BitVec 32 := Scalar.minsi v2430 c15_i32_909
  let c256_i32_911 : BitVec 32 := 256#32
  let v2434 : BitVec 32 := Scalar.muli v2431 c256_i32_911
  let v2435 : BitVec 32 := v2434
  let v2448 : Index := Scalar.indexCast v2435
  let c256_920 : Index := 256#32
  ![v2448.toNat, 256]
def k0_off14_at (r : Fin 30) : BitVec 32 × BitVec 32 × BitVec 32 :=
  if r.val < 15 then
    if r.val < 7 then
      if r.val < 3 then
        if r.val < 1 then
          (0#32, 1#32, 15#32)
        else
          if r.val < 2 then
            (0#32, 2#32, 15#32)
          else
            (1#32, 1#32, 15#32)
      else
        if r.val < 5 then
          if r.val < 4 then
            (1#32, 2#32, 15#32)
          else
            (2#32, 1#32, 15#32)
        else
          if r.val < 6 then
            (2#32, 2#32, 15#32)
          else
            (3#32, 1#32, 15#32)
    else
      if r.val < 11 then
        if r.val < 9 then
          if r.val < 8 then
            (3#32, 2#32, 15#32)
          else
            (4#32, 1#32, 15#32)
        else
          if r.val < 10 then
            (4#32, 2#32, 15#32)
          else
            (5#32, 1#32, 15#32)
      else
        if r.val < 13 then
          if r.val < 12 then
            (5#32, 2#32, 15#32)
          else
            (6#32, 1#32, 15#32)
        else
          if r.val < 14 then
            (6#32, 2#32, 15#32)
          else
            (7#32, 1#32, 15#32)
  else
    if r.val < 22 then
      if r.val < 18 then
        if r.val < 16 then
          (7#32, 2#32, 15#32)
        else
          if r.val < 17 then
            (0#32, 1#32, 14#32)
          else
            (0#32, 2#32, 14#32)
      else
        if r.val < 20 then
          if r.val < 19 then
            (1#32, 1#32, 14#32)
          else
            (1#32, 2#32, 14#32)
        else
          if r.val < 21 then
            (2#32, 1#32, 14#32)
          else
            (2#32, 2#32, 14#32)
    else
      if r.val < 26 then
        if r.val < 24 then
          if r.val < 23 then
            (3#32, 1#32, 14#32)
          else
            (3#32, 2#32, 14#32)
        else
          if r.val < 25 then
            (4#32, 1#32, 14#32)
          else
            (4#32, 2#32, 14#32)
      else
        if r.val < 28 then
          if r.val < 27 then
            (5#32, 1#32, 14#32)
          else
            (5#32, 2#32, 14#32)
        else
          if r.val < 29 then
            (6#32, 1#32, 14#32)
          else
            (6#32, 2#32, 14#32)
def k0_off15 (c0_i32_906 : BitVec 32) (c1_i32_908 : BitVec 32) : Fin 3 → Nat :=
  let c2_921 : Index := 2#32
  let c0_922 : Index := 0#32
  let c2_i32_907 : BitVec 32 := 2#32
  let v2429 : BitVec 32 := Scalar.muli c2_i32_907 c0_i32_906
  let v2430 : BitVec 32 := Scalar.addi v2429 c1_i32_908
  let c15_i32_909 : BitVec 32 := 15#32
  let v2431 : BitVec 32 := Scalar.minsi v2430 c15_i32_909
  let c256_i32_910 : BitVec 32 := 256#32
  let v2432 : BitVec 32 := Scalar.muli v2431 c256_i32_910
  let v2433 : BitVec 32 := v2432
  let v2450 : Index := Scalar.indexCast v2433
  ![2, 0, v2450.toNat]
def k0_off16 (c0_i32_906 : BitVec 32) (c1_i32_908 : BitVec 32) (c15_i32_909 : BitVec 32) : Fin 2 → Nat :=
  let c2_i32_907 : BitVec 32 := 2#32
  let v2429 : BitVec 32 := Scalar.muli c2_i32_907 c0_i32_906
  let v2430 : BitVec 32 := Scalar.addi v2429 c1_i32_908
  let v2431 : BitVec 32 := Scalar.minsi v2430 c15_i32_909
  let c256_i32_911 : BitVec 32 := 256#32
  let v2434 : BitVec 32 := Scalar.muli v2431 c256_i32_911
  let v2435 : BitVec 32 := v2434
  let v2454 : Index := Scalar.indexCast v2435
  let c384_924 : Index := 384#32
  ![v2454.toNat, 384]
def k0_off16_at (r : Fin 30) : BitVec 32 × BitVec 32 × BitVec 32 :=
  if r.val < 15 then
    if r.val < 7 then
      if r.val < 3 then
        if r.val < 1 then
          (0#32, 1#32, 15#32)
        else
          if r.val < 2 then
            (0#32, 2#32, 15#32)
          else
            (1#32, 1#32, 15#32)
      else
        if r.val < 5 then
          if r.val < 4 then
            (1#32, 2#32, 15#32)
          else
            (2#32, 1#32, 15#32)
        else
          if r.val < 6 then
            (2#32, 2#32, 15#32)
          else
            (3#32, 1#32, 15#32)
    else
      if r.val < 11 then
        if r.val < 9 then
          if r.val < 8 then
            (3#32, 2#32, 15#32)
          else
            (4#32, 1#32, 15#32)
        else
          if r.val < 10 then
            (4#32, 2#32, 15#32)
          else
            (5#32, 1#32, 15#32)
      else
        if r.val < 13 then
          if r.val < 12 then
            (5#32, 2#32, 15#32)
          else
            (6#32, 1#32, 15#32)
        else
          if r.val < 14 then
            (6#32, 2#32, 15#32)
          else
            (7#32, 1#32, 15#32)
  else
    if r.val < 22 then
      if r.val < 18 then
        if r.val < 16 then
          (7#32, 2#32, 15#32)
        else
          if r.val < 17 then
            (0#32, 1#32, 14#32)
          else
            (0#32, 2#32, 14#32)
      else
        if r.val < 20 then
          if r.val < 19 then
            (1#32, 1#32, 14#32)
          else
            (1#32, 2#32, 14#32)
        else
          if r.val < 21 then
            (2#32, 1#32, 14#32)
          else
            (2#32, 2#32, 14#32)
    else
      if r.val < 26 then
        if r.val < 24 then
          if r.val < 23 then
            (3#32, 1#32, 14#32)
          else
            (3#32, 2#32, 14#32)
        else
          if r.val < 25 then
            (4#32, 1#32, 14#32)
          else
            (4#32, 2#32, 14#32)
      else
        if r.val < 28 then
          if r.val < 27 then
            (5#32, 1#32, 14#32)
          else
            (5#32, 2#32, 14#32)
        else
          if r.val < 29 then
            (6#32, 1#32, 14#32)
          else
            (6#32, 2#32, 14#32)
def k0_off17 (c0_i32_906 : BitVec 32) (c1_i32_908 : BitVec 32) : Fin 3 → Nat :=
  let c3_925 : Index := 3#32
  let c0_926 : Index := 0#32
  let c2_i32_907 : BitVec 32 := 2#32
  let v2429 : BitVec 32 := Scalar.muli c2_i32_907 c0_i32_906
  let v2430 : BitVec 32 := Scalar.addi v2429 c1_i32_908
  let c15_i32_909 : BitVec 32 := 15#32
  let v2431 : BitVec 32 := Scalar.minsi v2430 c15_i32_909
  let c256_i32_910 : BitVec 32 := 256#32
  let v2432 : BitVec 32 := Scalar.muli v2431 c256_i32_910
  let v2433 : BitVec 32 := v2432
  let v2456 : Index := Scalar.indexCast v2433
  ![3, 0, v2456.toNat]
def k0_mult5 : BitVec 32 :=
  let c2_i32_907 : BitVec 32 := 2#32
  let c0_i32_906 : BitVec 32 := 0#32
  let v2429 : BitVec 32 := Scalar.muli c2_i32_907 c0_i32_906
  let c15_i32_930 : BitVec 32 := 15#32
  let v2464 : BitVec 32 := Scalar.minsi v2429 c15_i32_930
  let c1024_i32 : BitVec 32 := 1024#32
  let v2471 : BitVec 32 := Scalar.muli v2464 c1024_i32
  v2471
def k0_off18 (c0_i32_906 : BitVec 32) : Fin 2 → Nat :=
  let c0_936 : Index := 0#32
  let c2_i32_907 : BitVec 32 := 2#32
  let v2429 : BitVec 32 := Scalar.muli c2_i32_907 c0_i32_906
  let c15_i32_930 : BitVec 32 := 15#32
  let v2464 : BitVec 32 := Scalar.minsi v2429 c15_i32_930
  let c1024_i32 : BitVec 32 := 1024#32
  let v2471 : BitVec 32 := Scalar.muli v2464 c1024_i32
  let v2472 : BitVec 32 := v2471
  let v2473 : Index := Scalar.indexCast v2472
  ![0, v2473.toNat]
def k0_mult6 : BitVec 32 :=
  let c2_i32_907 : BitVec 32 := 2#32
  let c0_i32_906 : BitVec 32 := 0#32
  let v2429 : BitVec 32 := Scalar.muli c2_i32_907 c0_i32_906
  let c15_i32_930 : BitVec 32 := 15#32
  let v2464 : BitVec 32 := Scalar.minsi v2429 c15_i32_930
  let c256_i32_937 : BitVec 32 := 256#32
  let v2477 : BitVec 32 := Scalar.muli v2464 c256_i32_937
  v2477
def k0_off19 (c0_i32_906 : BitVec 32) (c15_i32_930 : BitVec 32) : Fin 3 → Nat :=
  let c0_938 : Index := 0#32
  let c0_939 : Index := 0#32
  let c2_i32_907 : BitVec 32 := 2#32
  let v2429 : BitVec 32 := Scalar.muli c2_i32_907 c0_i32_906
  let v2464 : BitVec 32 := Scalar.minsi v2429 c15_i32_930
  let c256_i32_937 : BitVec 32 := 256#32
  let v2477 : BitVec 32 := Scalar.muli v2464 c256_i32_937
  let v2478 : BitVec 32 := v2477
  let v2483 : Index := Scalar.indexCast v2478
  ![0, 0, v2483.toNat]
def k0_off19_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_off20 (c0_i32_906 : BitVec 32) (c15_i32_930 : BitVec 32) : Fin 3 → Nat :=
  let c1_941 : Index := 1#32
  let c0_942 : Index := 0#32
  let c2_i32_907 : BitVec 32 := 2#32
  let v2429 : BitVec 32 := Scalar.muli c2_i32_907 c0_i32_906
  let v2464 : BitVec 32 := Scalar.minsi v2429 c15_i32_930
  let c256_i32_937 : BitVec 32 := 256#32
  let v2477 : BitVec 32 := Scalar.muli v2464 c256_i32_937
  let v2478 : BitVec 32 := v2477
  let v2488 : Index := Scalar.indexCast v2478
  ![1, 0, v2488.toNat]
def k0_off20_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_off21 (c0_i32_906 : BitVec 32) (c15_i32_930 : BitVec 32) : Fin 3 → Nat :=
  let c2_944 : Index := 2#32
  let c0_945 : Index := 0#32
  let c2_i32_907 : BitVec 32 := 2#32
  let v2429 : BitVec 32 := Scalar.muli c2_i32_907 c0_i32_906
  let v2464 : BitVec 32 := Scalar.minsi v2429 c15_i32_930
  let c256_i32_937 : BitVec 32 := 256#32
  let v2477 : BitVec 32 := Scalar.muli v2464 c256_i32_937
  let v2478 : BitVec 32 := v2477
  let v2493 : Index := Scalar.indexCast v2478
  ![2, 0, v2493.toNat]
def k0_off21_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_off22 (c0_i32_906 : BitVec 32) (c15_i32_930 : BitVec 32) : Fin 3 → Nat :=
  let c3_947 : Index := 3#32
  let c0_948 : Index := 0#32
  let c2_i32_907 : BitVec 32 := 2#32
  let v2429 : BitVec 32 := Scalar.muli c2_i32_907 c0_i32_906
  let v2464 : BitVec 32 := Scalar.minsi v2429 c15_i32_930
  let c256_i32_937 : BitVec 32 := 256#32
  let v2477 : BitVec 32 := Scalar.muli v2464 c256_i32_937
  let v2478 : BitVec 32 := v2477
  let v2498 : Index := Scalar.indexCast v2478
  ![3, 0, v2498.toNat]
def k0_off22_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_mult7 : BitVec 32 :=
  let c2_i32_907 : BitVec 32 := 2#32
  let c0_i32_906 : BitVec 32 := 0#32
  let v2429 : BitVec 32 := Scalar.muli c2_i32_907 c0_i32_906
  let c15_i32_930 : BitVec 32 := 15#32
  let v2464 : BitVec 32 := Scalar.minsi v2429 c15_i32_930
  let c1024_i32_950 : BitVec 32 := 1024#32
  let v2504 : BitVec 32 := Scalar.muli v2464 c1024_i32_950
  v2504
def k0_off23 (c0_i32_906 : BitVec 32) : Fin 2 → Nat :=
  let c0_951 : Index := 0#32
  let c2_i32_907 : BitVec 32 := 2#32
  let v2429 : BitVec 32 := Scalar.muli c2_i32_907 c0_i32_906
  let c15_i32_930 : BitVec 32 := 15#32
  let v2464 : BitVec 32 := Scalar.minsi v2429 c15_i32_930
  let c1024_i32_950 : BitVec 32 := 1024#32
  let v2504 : BitVec 32 := Scalar.muli v2464 c1024_i32_950
  let v2505 : BitVec 32 := v2504
  let v2506 : Index := Scalar.indexCast v2505
  ![0, v2506.toNat]
def k0_mult8 : BitVec 32 :=
  let c2_i32_907 : BitVec 32 := 2#32
  let c0_i32_906 : BitVec 32 := 0#32
  let v2429 : BitVec 32 := Scalar.muli c2_i32_907 c0_i32_906
  let c2_i32_952 : BitVec 32 := 2#32
  let v2510 : BitVec 32 := Scalar.addi v2429 c2_i32_952
  let c15_i32_953 : BitVec 32 := 15#32
  let v2511 : BitVec 32 := Scalar.minsi v2510 c15_i32_953
  let c256_i32_954 : BitVec 32 := 256#32
  let v2512 : BitVec 32 := Scalar.muli v2511 c256_i32_954
  v2512
def k0_mult9 : BitVec 32 :=
  let c2_i32_907 : BitVec 32 := 2#32
  let c0_i32_906 : BitVec 32 := 0#32
  let v2429 : BitVec 32 := Scalar.muli c2_i32_907 c0_i32_906
  let c2_i32_952 : BitVec 32 := 2#32
  let v2510 : BitVec 32 := Scalar.addi v2429 c2_i32_952
  let c15_i32_953 : BitVec 32 := 15#32
  let v2511 : BitVec 32 := Scalar.minsi v2510 c15_i32_953
  let c256_i32_955 : BitVec 32 := 256#32
  let v2514 : BitVec 32 := Scalar.muli v2511 c256_i32_955
  v2514
def k0_mult10 : BitVec 32 :=
  let c2_i32_907 : BitVec 32 := 2#32
  let c0_i32_906 : BitVec 32 := 0#32
  let v2429 : BitVec 32 := Scalar.muli c2_i32_907 c0_i32_906
  let c1_i32_974 : BitVec 32 := 1#32
  let v2544 : BitVec 32 := Scalar.addi v2429 c1_i32_974
  let c15_i32_975 : BitVec 32 := 15#32
  let v2545 : BitVec 32 := Scalar.minsi v2544 c15_i32_975
  let c1024_i32_982 : BitVec 32 := 1024#32
  let v2552 : BitVec 32 := Scalar.muli v2545 c1024_i32_982
  v2552
def k0_off24 (c0_i32_906 : BitVec 32) : Fin 2 → Nat :=
  let c0_983 : Index := 0#32
  let c2_i32_907 : BitVec 32 := 2#32
  let v2429 : BitVec 32 := Scalar.muli c2_i32_907 c0_i32_906
  let c1_i32_974 : BitVec 32 := 1#32
  let v2544 : BitVec 32 := Scalar.addi v2429 c1_i32_974
  let c15_i32_975 : BitVec 32 := 15#32
  let v2545 : BitVec 32 := Scalar.minsi v2544 c15_i32_975
  let c1024_i32_982 : BitVec 32 := 1024#32
  let v2552 : BitVec 32 := Scalar.muli v2545 c1024_i32_982
  let v2553 : BitVec 32 := v2552
  let v2554 : Index := Scalar.indexCast v2553
  ![0, v2554.toNat]
def k0_mult11 : BitVec 32 :=
  let c2_i32_907 : BitVec 32 := 2#32
  let c0_i32_906 : BitVec 32 := 0#32
  let v2429 : BitVec 32 := Scalar.muli c2_i32_907 c0_i32_906
  let c1_i32_974 : BitVec 32 := 1#32
  let v2544 : BitVec 32 := Scalar.addi v2429 c1_i32_974
  let c15_i32_975 : BitVec 32 := 15#32
  let v2545 : BitVec 32 := Scalar.minsi v2544 c15_i32_975
  let c256_i32_984 : BitVec 32 := 256#32
  let v2558 : BitVec 32 := Scalar.muli v2545 c256_i32_984
  v2558
def k0_off25 (c0_i32_906 : BitVec 32) (c15_i32_975 : BitVec 32) : Fin 3 → Nat :=
  let c0_985 : Index := 0#32
  let c0_986 : Index := 0#32
  let c2_i32_907 : BitVec 32 := 2#32
  let v2429 : BitVec 32 := Scalar.muli c2_i32_907 c0_i32_906
  let c1_i32_974 : BitVec 32 := 1#32
  let v2544 : BitVec 32 := Scalar.addi v2429 c1_i32_974
  let v2545 : BitVec 32 := Scalar.minsi v2544 c15_i32_975
  let c256_i32_984 : BitVec 32 := 256#32
  let v2558 : BitVec 32 := Scalar.muli v2545 c256_i32_984
  let v2559 : BitVec 32 := v2558
  let v2564 : Index := Scalar.indexCast v2559
  ![0, 0, v2564.toNat]
def k0_off25_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_off26 (c0_i32_906 : BitVec 32) (c15_i32_975 : BitVec 32) : Fin 3 → Nat :=
  let c1_988 : Index := 1#32
  let c0_989 : Index := 0#32
  let c2_i32_907 : BitVec 32 := 2#32
  let v2429 : BitVec 32 := Scalar.muli c2_i32_907 c0_i32_906
  let c1_i32_974 : BitVec 32 := 1#32
  let v2544 : BitVec 32 := Scalar.addi v2429 c1_i32_974
  let v2545 : BitVec 32 := Scalar.minsi v2544 c15_i32_975
  let c256_i32_984 : BitVec 32 := 256#32
  let v2558 : BitVec 32 := Scalar.muli v2545 c256_i32_984
  let v2559 : BitVec 32 := v2558
  let v2569 : Index := Scalar.indexCast v2559
  ![1, 0, v2569.toNat]
def k0_off26_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_off27 (c0_i32_906 : BitVec 32) (c15_i32_975 : BitVec 32) : Fin 3 → Nat :=
  let c2_991 : Index := 2#32
  let c0_992 : Index := 0#32
  let c2_i32_907 : BitVec 32 := 2#32
  let v2429 : BitVec 32 := Scalar.muli c2_i32_907 c0_i32_906
  let c1_i32_974 : BitVec 32 := 1#32
  let v2544 : BitVec 32 := Scalar.addi v2429 c1_i32_974
  let v2545 : BitVec 32 := Scalar.minsi v2544 c15_i32_975
  let c256_i32_984 : BitVec 32 := 256#32
  let v2558 : BitVec 32 := Scalar.muli v2545 c256_i32_984
  let v2559 : BitVec 32 := v2558
  let v2574 : Index := Scalar.indexCast v2559
  ![2, 0, v2574.toNat]
def k0_off27_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_off28 (c0_i32_906 : BitVec 32) (c15_i32_975 : BitVec 32) : Fin 3 → Nat :=
  let c3_994 : Index := 3#32
  let c0_995 : Index := 0#32
  let c2_i32_907 : BitVec 32 := 2#32
  let v2429 : BitVec 32 := Scalar.muli c2_i32_907 c0_i32_906
  let c1_i32_974 : BitVec 32 := 1#32
  let v2544 : BitVec 32 := Scalar.addi v2429 c1_i32_974
  let v2545 : BitVec 32 := Scalar.minsi v2544 c15_i32_975
  let c256_i32_984 : BitVec 32 := 256#32
  let v2558 : BitVec 32 := Scalar.muli v2545 c256_i32_984
  let v2559 : BitVec 32 := v2558
  let v2579 : Index := Scalar.indexCast v2559
  ![3, 0, v2579.toNat]
def k0_off28_at (r : Fin 15) : BitVec 32 × BitVec 32 :=
  if r.val < 7 then
    if r.val < 3 then
      if r.val < 1 then
        (0#32, 15#32)
      else
        if r.val < 2 then
          (1#32, 15#32)
        else
          (2#32, 15#32)
    else
      if r.val < 5 then
        if r.val < 4 then
          (3#32, 15#32)
        else
          (4#32, 15#32)
      else
        if r.val < 6 then
          (5#32, 15#32)
        else
          (6#32, 15#32)
  else
    if r.val < 11 then
      if r.val < 9 then
        if r.val < 8 then
          (7#32, 15#32)
        else
          (0#32, 14#32)
      else
        if r.val < 10 then
          (1#32, 14#32)
        else
          (2#32, 14#32)
    else
      if r.val < 13 then
        if r.val < 12 then
          (3#32, 14#32)
        else
          (4#32, 14#32)
      else
        if r.val < 14 then
          (5#32, 14#32)
        else
          (6#32, 14#32)
def k0_mult12 : BitVec 32 :=
  let c2_i32_907 : BitVec 32 := 2#32
  let c0_i32_906 : BitVec 32 := 0#32
  let v2429 : BitVec 32 := Scalar.muli c2_i32_907 c0_i32_906
  let c1_i32_974 : BitVec 32 := 1#32
  let v2544 : BitVec 32 := Scalar.addi v2429 c1_i32_974
  let c15_i32_975 : BitVec 32 := 15#32
  let v2545 : BitVec 32 := Scalar.minsi v2544 c15_i32_975
  let c1024_i32_997 : BitVec 32 := 1024#32
  let v2585 : BitVec 32 := Scalar.muli v2545 c1024_i32_997
  v2585
def k0_off29 (c0_i32_906 : BitVec 32) : Fin 2 → Nat :=
  let c0_998 : Index := 0#32
  let c2_i32_907 : BitVec 32 := 2#32
  let v2429 : BitVec 32 := Scalar.muli c2_i32_907 c0_i32_906
  let c1_i32_974 : BitVec 32 := 1#32
  let v2544 : BitVec 32 := Scalar.addi v2429 c1_i32_974
  let c15_i32_975 : BitVec 32 := 15#32
  let v2545 : BitVec 32 := Scalar.minsi v2544 c15_i32_975
  let c1024_i32_997 : BitVec 32 := 1024#32
  let v2585 : BitVec 32 := Scalar.muli v2545 c1024_i32_997
  let v2586 : BitVec 32 := v2585
  let v2587 : Index := Scalar.indexCast v2586
  ![0, v2587.toNat]
def k0_mult13 : BitVec 32 :=
  let c2_i32_1000 : BitVec 32 := 2#32
  let c1_i32_999 : BitVec 32 := 1#32
  let v2591 : BitVec 32 := Scalar.muli c2_i32_1000 c1_i32_999
  let c1_i32_1001 : BitVec 32 := 1#32
  let v2592 : BitVec 32 := Scalar.addi v2591 c1_i32_1001
  let c15_i32_1002 : BitVec 32 := 15#32
  let v2593 : BitVec 32 := Scalar.minsi v2592 c15_i32_1002
  let c256_i32_1003 : BitVec 32 := 256#32
  let v2594 : BitVec 32 := Scalar.muli v2593 c256_i32_1003
  v2594
def k0_mult14 : BitVec 32 :=
  let c2_i32_1000 : BitVec 32 := 2#32
  let c1_i32_999 : BitVec 32 := 1#32
  let v2591 : BitVec 32 := Scalar.muli c2_i32_1000 c1_i32_999
  let c1_i32_1001 : BitVec 32 := 1#32
  let v2592 : BitVec 32 := Scalar.addi v2591 c1_i32_1001
  let c15_i32_1002 : BitVec 32 := 15#32
  let v2593 : BitVec 32 := Scalar.minsi v2592 c15_i32_1002
  let c256_i32_1004 : BitVec 32 := 256#32
  let v2596 : BitVec 32 := Scalar.muli v2593 c256_i32_1004
  v2596
def k0_mult15 : BitVec 32 :=
  let c2_i32_1000 : BitVec 32 := 2#32
  let c1_i32_999 : BitVec 32 := 1#32
  let v2591 : BitVec 32 := Scalar.muli c2_i32_1000 c1_i32_999
  let c15_i32_1023 : BitVec 32 := 15#32
  let v2626 : BitVec 32 := Scalar.minsi v2591 c15_i32_1023
  let c1024_i32_1030 : BitVec 32 := 1024#32
  let v2633 : BitVec 32 := Scalar.muli v2626 c1024_i32_1030
  v2633
def k0_mult16 : BitVec 32 :=
  let c2_i32_1000 : BitVec 32 := 2#32
  let c1_i32_999 : BitVec 32 := 1#32
  let v2591 : BitVec 32 := Scalar.muli c2_i32_1000 c1_i32_999
  let c15_i32_1023 : BitVec 32 := 15#32
  let v2626 : BitVec 32 := Scalar.minsi v2591 c15_i32_1023
  let c256_i32_1032 : BitVec 32 := 256#32
  let v2639 : BitVec 32 := Scalar.muli v2626 c256_i32_1032
  v2639
def k0_mult17 : BitVec 32 :=
  let c2_i32_1000 : BitVec 32 := 2#32
  let c1_i32_999 : BitVec 32 := 1#32
  let v2591 : BitVec 32 := Scalar.muli c2_i32_1000 c1_i32_999
  let c15_i32_1023 : BitVec 32 := 15#32
  let v2626 : BitVec 32 := Scalar.minsi v2591 c15_i32_1023
  let c1024_i32_1045 : BitVec 32 := 1024#32
  let v2666 : BitVec 32 := Scalar.muli v2626 c1024_i32_1045
  v2666
def k0_mult18 : BitVec 32 :=
  let c2_i32_1000 : BitVec 32 := 2#32
  let c1_i32_999 : BitVec 32 := 1#32
  let v2591 : BitVec 32 := Scalar.muli c2_i32_1000 c1_i32_999
  let c2_i32_1047 : BitVec 32 := 2#32
  let v2672 : BitVec 32 := Scalar.addi v2591 c2_i32_1047
  let c15_i32_1048 : BitVec 32 := 15#32
  let v2673 : BitVec 32 := Scalar.minsi v2672 c15_i32_1048
  let c256_i32_1049 : BitVec 32 := 256#32
  let v2674 : BitVec 32 := Scalar.muli v2673 c256_i32_1049
  v2674
def k0_mult19 : BitVec 32 :=
  let c2_i32_1000 : BitVec 32 := 2#32
  let c1_i32_999 : BitVec 32 := 1#32
  let v2591 : BitVec 32 := Scalar.muli c2_i32_1000 c1_i32_999
  let c2_i32_1047 : BitVec 32 := 2#32
  let v2672 : BitVec 32 := Scalar.addi v2591 c2_i32_1047
  let c15_i32_1048 : BitVec 32 := 15#32
  let v2673 : BitVec 32 := Scalar.minsi v2672 c15_i32_1048
  let c256_i32_1050 : BitVec 32 := 256#32
  let v2676 : BitVec 32 := Scalar.muli v2673 c256_i32_1050
  v2676
def k0_mult20 : BitVec 32 :=
  let c2_i32_1000 : BitVec 32 := 2#32
  let c1_i32_999 : BitVec 32 := 1#32
  let v2591 : BitVec 32 := Scalar.muli c2_i32_1000 c1_i32_999
  let c1_i32_1069 : BitVec 32 := 1#32
  let v2706 : BitVec 32 := Scalar.addi v2591 c1_i32_1069
  let c15_i32_1070 : BitVec 32 := 15#32
  let v2707 : BitVec 32 := Scalar.minsi v2706 c15_i32_1070
  let c1024_i32_1077 : BitVec 32 := 1024#32
  let v2714 : BitVec 32 := Scalar.muli v2707 c1024_i32_1077
  v2714
def k0_mult21 : BitVec 32 :=
  let c2_i32_1000 : BitVec 32 := 2#32
  let c1_i32_999 : BitVec 32 := 1#32
  let v2591 : BitVec 32 := Scalar.muli c2_i32_1000 c1_i32_999
  let c1_i32_1069 : BitVec 32 := 1#32
  let v2706 : BitVec 32 := Scalar.addi v2591 c1_i32_1069
  let c15_i32_1070 : BitVec 32 := 15#32
  let v2707 : BitVec 32 := Scalar.minsi v2706 c15_i32_1070
  let c256_i32_1079 : BitVec 32 := 256#32
  let v2720 : BitVec 32 := Scalar.muli v2707 c256_i32_1079
  v2720
def k0_mult22 : BitVec 32 :=
  let c2_i32_1000 : BitVec 32 := 2#32
  let c1_i32_999 : BitVec 32 := 1#32
  let v2591 : BitVec 32 := Scalar.muli c2_i32_1000 c1_i32_999
  let c1_i32_1069 : BitVec 32 := 1#32
  let v2706 : BitVec 32 := Scalar.addi v2591 c1_i32_1069
  let c15_i32_1070 : BitVec 32 := 15#32
  let v2707 : BitVec 32 := Scalar.minsi v2706 c15_i32_1070
  let c1024_i32_1092 : BitVec 32 := 1024#32
  let v2747 : BitVec 32 := Scalar.muli v2707 c1024_i32_1092
  v2747
def k0_mult23 : BitVec 32 :=
  let c2_i32_1095 : BitVec 32 := 2#32
  let c2_i32_1094 : BitVec 32 := 2#32
  let v2753 : BitVec 32 := Scalar.muli c2_i32_1095 c2_i32_1094
  let c1_i32_1096 : BitVec 32 := 1#32
  let v2754 : BitVec 32 := Scalar.addi v2753 c1_i32_1096
  let c15_i32_1097 : BitVec 32 := 15#32
  let v2755 : BitVec 32 := Scalar.minsi v2754 c15_i32_1097
  let c256_i32_1098 : BitVec 32 := 256#32
  let v2756 : BitVec 32 := Scalar.muli v2755 c256_i32_1098
  v2756
def k0_mult24 : BitVec 32 :=
  let c2_i32_1095 : BitVec 32 := 2#32
  let c2_i32_1094 : BitVec 32 := 2#32
  let v2753 : BitVec 32 := Scalar.muli c2_i32_1095 c2_i32_1094
  let c1_i32_1096 : BitVec 32 := 1#32
  let v2754 : BitVec 32 := Scalar.addi v2753 c1_i32_1096
  let c15_i32_1097 : BitVec 32 := 15#32
  let v2755 : BitVec 32 := Scalar.minsi v2754 c15_i32_1097
  let c256_i32_1099 : BitVec 32 := 256#32
  let v2758 : BitVec 32 := Scalar.muli v2755 c256_i32_1099
  v2758
def k0_mult25 : BitVec 32 :=
  let c2_i32_1095 : BitVec 32 := 2#32
  let c2_i32_1094 : BitVec 32 := 2#32
  let v2753 : BitVec 32 := Scalar.muli c2_i32_1095 c2_i32_1094
  let c15_i32_1118 : BitVec 32 := 15#32
  let v2788 : BitVec 32 := Scalar.minsi v2753 c15_i32_1118
  let c1024_i32_1125 : BitVec 32 := 1024#32
  let v2795 : BitVec 32 := Scalar.muli v2788 c1024_i32_1125
  v2795
def k0_mult26 : BitVec 32 :=
  let c2_i32_1095 : BitVec 32 := 2#32
  let c2_i32_1094 : BitVec 32 := 2#32
  let v2753 : BitVec 32 := Scalar.muli c2_i32_1095 c2_i32_1094
  let c15_i32_1118 : BitVec 32 := 15#32
  let v2788 : BitVec 32 := Scalar.minsi v2753 c15_i32_1118
  let c256_i32_1127 : BitVec 32 := 256#32
  let v2801 : BitVec 32 := Scalar.muli v2788 c256_i32_1127
  v2801
def k0_mult27 : BitVec 32 :=
  let c2_i32_1095 : BitVec 32 := 2#32
  let c2_i32_1094 : BitVec 32 := 2#32
  let v2753 : BitVec 32 := Scalar.muli c2_i32_1095 c2_i32_1094
  let c15_i32_1118 : BitVec 32 := 15#32
  let v2788 : BitVec 32 := Scalar.minsi v2753 c15_i32_1118
  let c1024_i32_1140 : BitVec 32 := 1024#32
  let v2828 : BitVec 32 := Scalar.muli v2788 c1024_i32_1140
  v2828
def k0_mult28 : BitVec 32 :=
  let c2_i32_1095 : BitVec 32 := 2#32
  let c2_i32_1094 : BitVec 32 := 2#32
  let v2753 : BitVec 32 := Scalar.muli c2_i32_1095 c2_i32_1094
  let c2_i32_1142 : BitVec 32 := 2#32
  let v2834 : BitVec 32 := Scalar.addi v2753 c2_i32_1142
  let c15_i32_1143 : BitVec 32 := 15#32
  let v2835 : BitVec 32 := Scalar.minsi v2834 c15_i32_1143
  let c256_i32_1144 : BitVec 32 := 256#32
  let v2836 : BitVec 32 := Scalar.muli v2835 c256_i32_1144
  v2836
def k0_mult29 : BitVec 32 :=
  let c2_i32_1095 : BitVec 32 := 2#32
  let c2_i32_1094 : BitVec 32 := 2#32
  let v2753 : BitVec 32 := Scalar.muli c2_i32_1095 c2_i32_1094
  let c2_i32_1142 : BitVec 32 := 2#32
  let v2834 : BitVec 32 := Scalar.addi v2753 c2_i32_1142
  let c15_i32_1143 : BitVec 32 := 15#32
  let v2835 : BitVec 32 := Scalar.minsi v2834 c15_i32_1143
  let c256_i32_1145 : BitVec 32 := 256#32
  let v2838 : BitVec 32 := Scalar.muli v2835 c256_i32_1145
  v2838
def k0_mult30 : BitVec 32 :=
  let c2_i32_1095 : BitVec 32 := 2#32
  let c2_i32_1094 : BitVec 32 := 2#32
  let v2753 : BitVec 32 := Scalar.muli c2_i32_1095 c2_i32_1094
  let c1_i32_1164 : BitVec 32 := 1#32
  let v2868 : BitVec 32 := Scalar.addi v2753 c1_i32_1164
  let c15_i32_1165 : BitVec 32 := 15#32
  let v2869 : BitVec 32 := Scalar.minsi v2868 c15_i32_1165
  let c1024_i32_1172 : BitVec 32 := 1024#32
  let v2876 : BitVec 32 := Scalar.muli v2869 c1024_i32_1172
  v2876
def k0_mult31 : BitVec 32 :=
  let c2_i32_1095 : BitVec 32 := 2#32
  let c2_i32_1094 : BitVec 32 := 2#32
  let v2753 : BitVec 32 := Scalar.muli c2_i32_1095 c2_i32_1094
  let c1_i32_1164 : BitVec 32 := 1#32
  let v2868 : BitVec 32 := Scalar.addi v2753 c1_i32_1164
  let c15_i32_1165 : BitVec 32 := 15#32
  let v2869 : BitVec 32 := Scalar.minsi v2868 c15_i32_1165
  let c256_i32_1174 : BitVec 32 := 256#32
  let v2882 : BitVec 32 := Scalar.muli v2869 c256_i32_1174
  v2882
def k0_mult32 : BitVec 32 :=
  let c2_i32_1095 : BitVec 32 := 2#32
  let c2_i32_1094 : BitVec 32 := 2#32
  let v2753 : BitVec 32 := Scalar.muli c2_i32_1095 c2_i32_1094
  let c1_i32_1164 : BitVec 32 := 1#32
  let v2868 : BitVec 32 := Scalar.addi v2753 c1_i32_1164
  let c15_i32_1165 : BitVec 32 := 15#32
  let v2869 : BitVec 32 := Scalar.minsi v2868 c15_i32_1165
  let c1024_i32_1187 : BitVec 32 := 1024#32
  let v2909 : BitVec 32 := Scalar.muli v2869 c1024_i32_1187
  v2909
def k0_mult33 : BitVec 32 :=
  let c2_i32_1190 : BitVec 32 := 2#32
  let c3_i32_1189 : BitVec 32 := 3#32
  let v2915 : BitVec 32 := Scalar.muli c2_i32_1190 c3_i32_1189
  let c1_i32_1191 : BitVec 32 := 1#32
  let v2916 : BitVec 32 := Scalar.addi v2915 c1_i32_1191
  let c15_i32_1192 : BitVec 32 := 15#32
  let v2917 : BitVec 32 := Scalar.minsi v2916 c15_i32_1192
  let c256_i32_1193 : BitVec 32 := 256#32
  let v2918 : BitVec 32 := Scalar.muli v2917 c256_i32_1193
  v2918
def k0_mult34 : BitVec 32 :=
  let c2_i32_1190 : BitVec 32 := 2#32
  let c3_i32_1189 : BitVec 32 := 3#32
  let v2915 : BitVec 32 := Scalar.muli c2_i32_1190 c3_i32_1189
  let c1_i32_1191 : BitVec 32 := 1#32
  let v2916 : BitVec 32 := Scalar.addi v2915 c1_i32_1191
  let c15_i32_1192 : BitVec 32 := 15#32
  let v2917 : BitVec 32 := Scalar.minsi v2916 c15_i32_1192
  let c256_i32_1194 : BitVec 32 := 256#32
  let v2920 : BitVec 32 := Scalar.muli v2917 c256_i32_1194
  v2920
def k0_mult35 : BitVec 32 :=
  let c2_i32_1190 : BitVec 32 := 2#32
  let c3_i32_1189 : BitVec 32 := 3#32
  let v2915 : BitVec 32 := Scalar.muli c2_i32_1190 c3_i32_1189
  let c15_i32_1213 : BitVec 32 := 15#32
  let v2950 : BitVec 32 := Scalar.minsi v2915 c15_i32_1213
  let c1024_i32_1220 : BitVec 32 := 1024#32
  let v2957 : BitVec 32 := Scalar.muli v2950 c1024_i32_1220
  v2957
def k0_mult36 : BitVec 32 :=
  let c2_i32_1190 : BitVec 32 := 2#32
  let c3_i32_1189 : BitVec 32 := 3#32
  let v2915 : BitVec 32 := Scalar.muli c2_i32_1190 c3_i32_1189
  let c15_i32_1213 : BitVec 32 := 15#32
  let v2950 : BitVec 32 := Scalar.minsi v2915 c15_i32_1213
  let c256_i32_1222 : BitVec 32 := 256#32
  let v2963 : BitVec 32 := Scalar.muli v2950 c256_i32_1222
  v2963
def k0_mult37 : BitVec 32 :=
  let c2_i32_1190 : BitVec 32 := 2#32
  let c3_i32_1189 : BitVec 32 := 3#32
  let v2915 : BitVec 32 := Scalar.muli c2_i32_1190 c3_i32_1189
  let c15_i32_1213 : BitVec 32 := 15#32
  let v2950 : BitVec 32 := Scalar.minsi v2915 c15_i32_1213
  let c1024_i32_1235 : BitVec 32 := 1024#32
  let v2990 : BitVec 32 := Scalar.muli v2950 c1024_i32_1235
  v2990
def k0_mult38 : BitVec 32 :=
  let c2_i32_1190 : BitVec 32 := 2#32
  let c3_i32_1189 : BitVec 32 := 3#32
  let v2915 : BitVec 32 := Scalar.muli c2_i32_1190 c3_i32_1189
  let c2_i32_1237 : BitVec 32 := 2#32
  let v2996 : BitVec 32 := Scalar.addi v2915 c2_i32_1237
  let c15_i32_1238 : BitVec 32 := 15#32
  let v2997 : BitVec 32 := Scalar.minsi v2996 c15_i32_1238
  let c256_i32_1239 : BitVec 32 := 256#32
  let v2998 : BitVec 32 := Scalar.muli v2997 c256_i32_1239
  v2998
def k0_mult39 : BitVec 32 :=
  let c2_i32_1190 : BitVec 32 := 2#32
  let c3_i32_1189 : BitVec 32 := 3#32
  let v2915 : BitVec 32 := Scalar.muli c2_i32_1190 c3_i32_1189
  let c2_i32_1237 : BitVec 32 := 2#32
  let v2996 : BitVec 32 := Scalar.addi v2915 c2_i32_1237
  let c15_i32_1238 : BitVec 32 := 15#32
  let v2997 : BitVec 32 := Scalar.minsi v2996 c15_i32_1238
  let c256_i32_1240 : BitVec 32 := 256#32
  let v3000 : BitVec 32 := Scalar.muli v2997 c256_i32_1240
  v3000
def k0_mult40 : BitVec 32 :=
  let c2_i32_1190 : BitVec 32 := 2#32
  let c3_i32_1189 : BitVec 32 := 3#32
  let v2915 : BitVec 32 := Scalar.muli c2_i32_1190 c3_i32_1189
  let c1_i32_1259 : BitVec 32 := 1#32
  let v3030 : BitVec 32 := Scalar.addi v2915 c1_i32_1259
  let c15_i32_1260 : BitVec 32 := 15#32
  let v3031 : BitVec 32 := Scalar.minsi v3030 c15_i32_1260
  let c1024_i32_1267 : BitVec 32 := 1024#32
  let v3038 : BitVec 32 := Scalar.muli v3031 c1024_i32_1267
  v3038
def k0_mult41 : BitVec 32 :=
  let c2_i32_1190 : BitVec 32 := 2#32
  let c3_i32_1189 : BitVec 32 := 3#32
  let v2915 : BitVec 32 := Scalar.muli c2_i32_1190 c3_i32_1189
  let c1_i32_1259 : BitVec 32 := 1#32
  let v3030 : BitVec 32 := Scalar.addi v2915 c1_i32_1259
  let c15_i32_1260 : BitVec 32 := 15#32
  let v3031 : BitVec 32 := Scalar.minsi v3030 c15_i32_1260
  let c256_i32_1269 : BitVec 32 := 256#32
  let v3044 : BitVec 32 := Scalar.muli v3031 c256_i32_1269
  v3044
def k0_mult42 : BitVec 32 :=
  let c2_i32_1190 : BitVec 32 := 2#32
  let c3_i32_1189 : BitVec 32 := 3#32
  let v2915 : BitVec 32 := Scalar.muli c2_i32_1190 c3_i32_1189
  let c1_i32_1259 : BitVec 32 := 1#32
  let v3030 : BitVec 32 := Scalar.addi v2915 c1_i32_1259
  let c15_i32_1260 : BitVec 32 := 15#32
  let v3031 : BitVec 32 := Scalar.minsi v3030 c15_i32_1260
  let c1024_i32_1282 : BitVec 32 := 1024#32
  let v3071 : BitVec 32 := Scalar.muli v3031 c1024_i32_1282
  v3071
def k0_mult43 : BitVec 32 :=
  let c2_i32_1285 : BitVec 32 := 2#32
  let c4_i32_1284 : BitVec 32 := 4#32
  let v3077 : BitVec 32 := Scalar.muli c2_i32_1285 c4_i32_1284
  let c1_i32_1286 : BitVec 32 := 1#32
  let v3078 : BitVec 32 := Scalar.addi v3077 c1_i32_1286
  let c15_i32_1287 : BitVec 32 := 15#32
  let v3079 : BitVec 32 := Scalar.minsi v3078 c15_i32_1287
  let c256_i32_1288 : BitVec 32 := 256#32
  let v3080 : BitVec 32 := Scalar.muli v3079 c256_i32_1288
  v3080
def k0_mult44 : BitVec 32 :=
  let c2_i32_1285 : BitVec 32 := 2#32
  let c4_i32_1284 : BitVec 32 := 4#32
  let v3077 : BitVec 32 := Scalar.muli c2_i32_1285 c4_i32_1284
  let c1_i32_1286 : BitVec 32 := 1#32
  let v3078 : BitVec 32 := Scalar.addi v3077 c1_i32_1286
  let c15_i32_1287 : BitVec 32 := 15#32
  let v3079 : BitVec 32 := Scalar.minsi v3078 c15_i32_1287
  let c256_i32_1289 : BitVec 32 := 256#32
  let v3082 : BitVec 32 := Scalar.muli v3079 c256_i32_1289
  v3082
def k0_mult45 : BitVec 32 :=
  let c2_i32_1285 : BitVec 32 := 2#32
  let c4_i32_1284 : BitVec 32 := 4#32
  let v3077 : BitVec 32 := Scalar.muli c2_i32_1285 c4_i32_1284
  let c15_i32_1308 : BitVec 32 := 15#32
  let v3112 : BitVec 32 := Scalar.minsi v3077 c15_i32_1308
  let c1024_i32_1315 : BitVec 32 := 1024#32
  let v3119 : BitVec 32 := Scalar.muli v3112 c1024_i32_1315
  v3119
def k0_mult46 : BitVec 32 :=
  let c2_i32_1285 : BitVec 32 := 2#32
  let c4_i32_1284 : BitVec 32 := 4#32
  let v3077 : BitVec 32 := Scalar.muli c2_i32_1285 c4_i32_1284
  let c15_i32_1308 : BitVec 32 := 15#32
  let v3112 : BitVec 32 := Scalar.minsi v3077 c15_i32_1308
  let c256_i32_1317 : BitVec 32 := 256#32
  let v3125 : BitVec 32 := Scalar.muli v3112 c256_i32_1317
  v3125
def k0_mult47 : BitVec 32 :=
  let c2_i32_1285 : BitVec 32 := 2#32
  let c4_i32_1284 : BitVec 32 := 4#32
  let v3077 : BitVec 32 := Scalar.muli c2_i32_1285 c4_i32_1284
  let c15_i32_1308 : BitVec 32 := 15#32
  let v3112 : BitVec 32 := Scalar.minsi v3077 c15_i32_1308
  let c1024_i32_1330 : BitVec 32 := 1024#32
  let v3152 : BitVec 32 := Scalar.muli v3112 c1024_i32_1330
  v3152
def k0_mult48 : BitVec 32 :=
  let c2_i32_1285 : BitVec 32 := 2#32
  let c4_i32_1284 : BitVec 32 := 4#32
  let v3077 : BitVec 32 := Scalar.muli c2_i32_1285 c4_i32_1284
  let c2_i32_1332 : BitVec 32 := 2#32
  let v3158 : BitVec 32 := Scalar.addi v3077 c2_i32_1332
  let c15_i32_1333 : BitVec 32 := 15#32
  let v3159 : BitVec 32 := Scalar.minsi v3158 c15_i32_1333
  let c256_i32_1334 : BitVec 32 := 256#32
  let v3160 : BitVec 32 := Scalar.muli v3159 c256_i32_1334
  v3160
def k0_mult49 : BitVec 32 :=
  let c2_i32_1285 : BitVec 32 := 2#32
  let c4_i32_1284 : BitVec 32 := 4#32
  let v3077 : BitVec 32 := Scalar.muli c2_i32_1285 c4_i32_1284
  let c2_i32_1332 : BitVec 32 := 2#32
  let v3158 : BitVec 32 := Scalar.addi v3077 c2_i32_1332
  let c15_i32_1333 : BitVec 32 := 15#32
  let v3159 : BitVec 32 := Scalar.minsi v3158 c15_i32_1333
  let c256_i32_1335 : BitVec 32 := 256#32
  let v3162 : BitVec 32 := Scalar.muli v3159 c256_i32_1335
  v3162
def k0_mult50 : BitVec 32 :=
  let c2_i32_1285 : BitVec 32 := 2#32
  let c4_i32_1284 : BitVec 32 := 4#32
  let v3077 : BitVec 32 := Scalar.muli c2_i32_1285 c4_i32_1284
  let c1_i32_1354 : BitVec 32 := 1#32
  let v3192 : BitVec 32 := Scalar.addi v3077 c1_i32_1354
  let c15_i32_1355 : BitVec 32 := 15#32
  let v3193 : BitVec 32 := Scalar.minsi v3192 c15_i32_1355
  let c1024_i32_1362 : BitVec 32 := 1024#32
  let v3200 : BitVec 32 := Scalar.muli v3193 c1024_i32_1362
  v3200
def k0_mult51 : BitVec 32 :=
  let c2_i32_1285 : BitVec 32 := 2#32
  let c4_i32_1284 : BitVec 32 := 4#32
  let v3077 : BitVec 32 := Scalar.muli c2_i32_1285 c4_i32_1284
  let c1_i32_1354 : BitVec 32 := 1#32
  let v3192 : BitVec 32 := Scalar.addi v3077 c1_i32_1354
  let c15_i32_1355 : BitVec 32 := 15#32
  let v3193 : BitVec 32 := Scalar.minsi v3192 c15_i32_1355
  let c256_i32_1364 : BitVec 32 := 256#32
  let v3206 : BitVec 32 := Scalar.muli v3193 c256_i32_1364
  v3206
def k0_mult52 : BitVec 32 :=
  let c2_i32_1285 : BitVec 32 := 2#32
  let c4_i32_1284 : BitVec 32 := 4#32
  let v3077 : BitVec 32 := Scalar.muli c2_i32_1285 c4_i32_1284
  let c1_i32_1354 : BitVec 32 := 1#32
  let v3192 : BitVec 32 := Scalar.addi v3077 c1_i32_1354
  let c15_i32_1355 : BitVec 32 := 15#32
  let v3193 : BitVec 32 := Scalar.minsi v3192 c15_i32_1355
  let c1024_i32_1377 : BitVec 32 := 1024#32
  let v3233 : BitVec 32 := Scalar.muli v3193 c1024_i32_1377
  v3233
def k0_mult53 : BitVec 32 :=
  let c2_i32_1380 : BitVec 32 := 2#32
  let c5_i32_1379 : BitVec 32 := 5#32
  let v3239 : BitVec 32 := Scalar.muli c2_i32_1380 c5_i32_1379
  let c1_i32_1381 : BitVec 32 := 1#32
  let v3240 : BitVec 32 := Scalar.addi v3239 c1_i32_1381
  let c15_i32_1382 : BitVec 32 := 15#32
  let v3241 : BitVec 32 := Scalar.minsi v3240 c15_i32_1382
  let c256_i32_1383 : BitVec 32 := 256#32
  let v3242 : BitVec 32 := Scalar.muli v3241 c256_i32_1383
  v3242
def k0_mult54 : BitVec 32 :=
  let c2_i32_1380 : BitVec 32 := 2#32
  let c5_i32_1379 : BitVec 32 := 5#32
  let v3239 : BitVec 32 := Scalar.muli c2_i32_1380 c5_i32_1379
  let c1_i32_1381 : BitVec 32 := 1#32
  let v3240 : BitVec 32 := Scalar.addi v3239 c1_i32_1381
  let c15_i32_1382 : BitVec 32 := 15#32
  let v3241 : BitVec 32 := Scalar.minsi v3240 c15_i32_1382
  let c256_i32_1384 : BitVec 32 := 256#32
  let v3244 : BitVec 32 := Scalar.muli v3241 c256_i32_1384
  v3244
def k0_mult55 : BitVec 32 :=
  let c2_i32_1380 : BitVec 32 := 2#32
  let c5_i32_1379 : BitVec 32 := 5#32
  let v3239 : BitVec 32 := Scalar.muli c2_i32_1380 c5_i32_1379
  let c15_i32_1403 : BitVec 32 := 15#32
  let v3274 : BitVec 32 := Scalar.minsi v3239 c15_i32_1403
  let c1024_i32_1410 : BitVec 32 := 1024#32
  let v3281 : BitVec 32 := Scalar.muli v3274 c1024_i32_1410
  v3281
def k0_mult56 : BitVec 32 :=
  let c2_i32_1380 : BitVec 32 := 2#32
  let c5_i32_1379 : BitVec 32 := 5#32
  let v3239 : BitVec 32 := Scalar.muli c2_i32_1380 c5_i32_1379
  let c15_i32_1403 : BitVec 32 := 15#32
  let v3274 : BitVec 32 := Scalar.minsi v3239 c15_i32_1403
  let c256_i32_1412 : BitVec 32 := 256#32
  let v3287 : BitVec 32 := Scalar.muli v3274 c256_i32_1412
  v3287
def k0_mult57 : BitVec 32 :=
  let c2_i32_1380 : BitVec 32 := 2#32
  let c5_i32_1379 : BitVec 32 := 5#32
  let v3239 : BitVec 32 := Scalar.muli c2_i32_1380 c5_i32_1379
  let c15_i32_1403 : BitVec 32 := 15#32
  let v3274 : BitVec 32 := Scalar.minsi v3239 c15_i32_1403
  let c1024_i32_1425 : BitVec 32 := 1024#32
  let v3314 : BitVec 32 := Scalar.muli v3274 c1024_i32_1425
  v3314
def k0_mult58 : BitVec 32 :=
  let c2_i32_1380 : BitVec 32 := 2#32
  let c5_i32_1379 : BitVec 32 := 5#32
  let v3239 : BitVec 32 := Scalar.muli c2_i32_1380 c5_i32_1379
  let c2_i32_1427 : BitVec 32 := 2#32
  let v3320 : BitVec 32 := Scalar.addi v3239 c2_i32_1427
  let c15_i32_1428 : BitVec 32 := 15#32
  let v3321 : BitVec 32 := Scalar.minsi v3320 c15_i32_1428
  let c256_i32_1429 : BitVec 32 := 256#32
  let v3322 : BitVec 32 := Scalar.muli v3321 c256_i32_1429
  v3322
def k0_mult59 : BitVec 32 :=
  let c2_i32_1380 : BitVec 32 := 2#32
  let c5_i32_1379 : BitVec 32 := 5#32
  let v3239 : BitVec 32 := Scalar.muli c2_i32_1380 c5_i32_1379
  let c2_i32_1427 : BitVec 32 := 2#32
  let v3320 : BitVec 32 := Scalar.addi v3239 c2_i32_1427
  let c15_i32_1428 : BitVec 32 := 15#32
  let v3321 : BitVec 32 := Scalar.minsi v3320 c15_i32_1428
  let c256_i32_1430 : BitVec 32 := 256#32
  let v3324 : BitVec 32 := Scalar.muli v3321 c256_i32_1430
  v3324
def k0_mult60 : BitVec 32 :=
  let c2_i32_1380 : BitVec 32 := 2#32
  let c5_i32_1379 : BitVec 32 := 5#32
  let v3239 : BitVec 32 := Scalar.muli c2_i32_1380 c5_i32_1379
  let c1_i32_1449 : BitVec 32 := 1#32
  let v3354 : BitVec 32 := Scalar.addi v3239 c1_i32_1449
  let c15_i32_1450 : BitVec 32 := 15#32
  let v3355 : BitVec 32 := Scalar.minsi v3354 c15_i32_1450
  let c1024_i32_1457 : BitVec 32 := 1024#32
  let v3362 : BitVec 32 := Scalar.muli v3355 c1024_i32_1457
  v3362
def k0_mult61 : BitVec 32 :=
  let c2_i32_1380 : BitVec 32 := 2#32
  let c5_i32_1379 : BitVec 32 := 5#32
  let v3239 : BitVec 32 := Scalar.muli c2_i32_1380 c5_i32_1379
  let c1_i32_1449 : BitVec 32 := 1#32
  let v3354 : BitVec 32 := Scalar.addi v3239 c1_i32_1449
  let c15_i32_1450 : BitVec 32 := 15#32
  let v3355 : BitVec 32 := Scalar.minsi v3354 c15_i32_1450
  let c256_i32_1459 : BitVec 32 := 256#32
  let v3368 : BitVec 32 := Scalar.muli v3355 c256_i32_1459
  v3368
def k0_mult62 : BitVec 32 :=
  let c2_i32_1380 : BitVec 32 := 2#32
  let c5_i32_1379 : BitVec 32 := 5#32
  let v3239 : BitVec 32 := Scalar.muli c2_i32_1380 c5_i32_1379
  let c1_i32_1449 : BitVec 32 := 1#32
  let v3354 : BitVec 32 := Scalar.addi v3239 c1_i32_1449
  let c15_i32_1450 : BitVec 32 := 15#32
  let v3355 : BitVec 32 := Scalar.minsi v3354 c15_i32_1450
  let c1024_i32_1472 : BitVec 32 := 1024#32
  let v3395 : BitVec 32 := Scalar.muli v3355 c1024_i32_1472
  v3395
def k0_mult63 : BitVec 32 :=
  let c2_i32_1475 : BitVec 32 := 2#32
  let c6_i32_1474 : BitVec 32 := 6#32
  let v3401 : BitVec 32 := Scalar.muli c2_i32_1475 c6_i32_1474
  let c1_i32_1476 : BitVec 32 := 1#32
  let v3402 : BitVec 32 := Scalar.addi v3401 c1_i32_1476
  let c15_i32_1477 : BitVec 32 := 15#32
  let v3403 : BitVec 32 := Scalar.minsi v3402 c15_i32_1477
  let c256_i32_1478 : BitVec 32 := 256#32
  let v3404 : BitVec 32 := Scalar.muli v3403 c256_i32_1478
  v3404
def k0_mult64 : BitVec 32 :=
  let c2_i32_1475 : BitVec 32 := 2#32
  let c6_i32_1474 : BitVec 32 := 6#32
  let v3401 : BitVec 32 := Scalar.muli c2_i32_1475 c6_i32_1474
  let c1_i32_1476 : BitVec 32 := 1#32
  let v3402 : BitVec 32 := Scalar.addi v3401 c1_i32_1476
  let c15_i32_1477 : BitVec 32 := 15#32
  let v3403 : BitVec 32 := Scalar.minsi v3402 c15_i32_1477
  let c256_i32_1479 : BitVec 32 := 256#32
  let v3406 : BitVec 32 := Scalar.muli v3403 c256_i32_1479
  v3406
def k0_mult65 : BitVec 32 :=
  let c2_i32_1475 : BitVec 32 := 2#32
  let c6_i32_1474 : BitVec 32 := 6#32
  let v3401 : BitVec 32 := Scalar.muli c2_i32_1475 c6_i32_1474
  let c15_i32_1498 : BitVec 32 := 15#32
  let v3436 : BitVec 32 := Scalar.minsi v3401 c15_i32_1498
  let c1024_i32_1505 : BitVec 32 := 1024#32
  let v3443 : BitVec 32 := Scalar.muli v3436 c1024_i32_1505
  v3443
def k0_mult66 : BitVec 32 :=
  let c2_i32_1475 : BitVec 32 := 2#32
  let c6_i32_1474 : BitVec 32 := 6#32
  let v3401 : BitVec 32 := Scalar.muli c2_i32_1475 c6_i32_1474
  let c15_i32_1498 : BitVec 32 := 15#32
  let v3436 : BitVec 32 := Scalar.minsi v3401 c15_i32_1498
  let c256_i32_1507 : BitVec 32 := 256#32
  let v3449 : BitVec 32 := Scalar.muli v3436 c256_i32_1507
  v3449
def k0_mult67 : BitVec 32 :=
  let c2_i32_1475 : BitVec 32 := 2#32
  let c6_i32_1474 : BitVec 32 := 6#32
  let v3401 : BitVec 32 := Scalar.muli c2_i32_1475 c6_i32_1474
  let c15_i32_1498 : BitVec 32 := 15#32
  let v3436 : BitVec 32 := Scalar.minsi v3401 c15_i32_1498
  let c1024_i32_1520 : BitVec 32 := 1024#32
  let v3476 : BitVec 32 := Scalar.muli v3436 c1024_i32_1520
  v3476
def k0_mult68 : BitVec 32 :=
  let c2_i32_1475 : BitVec 32 := 2#32
  let c6_i32_1474 : BitVec 32 := 6#32
  let v3401 : BitVec 32 := Scalar.muli c2_i32_1475 c6_i32_1474
  let c2_i32_1522 : BitVec 32 := 2#32
  let v3482 : BitVec 32 := Scalar.addi v3401 c2_i32_1522
  let c15_i32_1523 : BitVec 32 := 15#32
  let v3483 : BitVec 32 := Scalar.minsi v3482 c15_i32_1523
  let c256_i32_1524 : BitVec 32 := 256#32
  let v3484 : BitVec 32 := Scalar.muli v3483 c256_i32_1524
  v3484
def k0_mult69 : BitVec 32 :=
  let c2_i32_1475 : BitVec 32 := 2#32
  let c6_i32_1474 : BitVec 32 := 6#32
  let v3401 : BitVec 32 := Scalar.muli c2_i32_1475 c6_i32_1474
  let c2_i32_1522 : BitVec 32 := 2#32
  let v3482 : BitVec 32 := Scalar.addi v3401 c2_i32_1522
  let c15_i32_1523 : BitVec 32 := 15#32
  let v3483 : BitVec 32 := Scalar.minsi v3482 c15_i32_1523
  let c256_i32_1525 : BitVec 32 := 256#32
  let v3486 : BitVec 32 := Scalar.muli v3483 c256_i32_1525
  v3486
def k0_mult70 : BitVec 32 :=
  let c2_i32_1475 : BitVec 32 := 2#32
  let c6_i32_1474 : BitVec 32 := 6#32
  let v3401 : BitVec 32 := Scalar.muli c2_i32_1475 c6_i32_1474
  let c1_i32_1544 : BitVec 32 := 1#32
  let v3516 : BitVec 32 := Scalar.addi v3401 c1_i32_1544
  let c15_i32_1545 : BitVec 32 := 15#32
  let v3517 : BitVec 32 := Scalar.minsi v3516 c15_i32_1545
  let c1024_i32_1552 : BitVec 32 := 1024#32
  let v3524 : BitVec 32 := Scalar.muli v3517 c1024_i32_1552
  v3524
def k0_mult71 : BitVec 32 :=
  let c2_i32_1475 : BitVec 32 := 2#32
  let c6_i32_1474 : BitVec 32 := 6#32
  let v3401 : BitVec 32 := Scalar.muli c2_i32_1475 c6_i32_1474
  let c1_i32_1544 : BitVec 32 := 1#32
  let v3516 : BitVec 32 := Scalar.addi v3401 c1_i32_1544
  let c15_i32_1545 : BitVec 32 := 15#32
  let v3517 : BitVec 32 := Scalar.minsi v3516 c15_i32_1545
  let c256_i32_1554 : BitVec 32 := 256#32
  let v3530 : BitVec 32 := Scalar.muli v3517 c256_i32_1554
  v3530
def k0_mult72 : BitVec 32 :=
  let c2_i32_1475 : BitVec 32 := 2#32
  let c6_i32_1474 : BitVec 32 := 6#32
  let v3401 : BitVec 32 := Scalar.muli c2_i32_1475 c6_i32_1474
  let c1_i32_1544 : BitVec 32 := 1#32
  let v3516 : BitVec 32 := Scalar.addi v3401 c1_i32_1544
  let c15_i32_1545 : BitVec 32 := 15#32
  let v3517 : BitVec 32 := Scalar.minsi v3516 c15_i32_1545
  let c1024_i32_1567 : BitVec 32 := 1024#32
  let v3557 : BitVec 32 := Scalar.muli v3517 c1024_i32_1567
  v3557
def k0_mult73 : BitVec 32 :=
  let c2_i32_1570 : BitVec 32 := 2#32
  let c7_i32_1569 : BitVec 32 := 7#32
  let v3563 : BitVec 32 := Scalar.muli c2_i32_1570 c7_i32_1569
  let c1_i32_1571 : BitVec 32 := 1#32
  let v3564 : BitVec 32 := Scalar.addi v3563 c1_i32_1571
  let c15_i32_1572 : BitVec 32 := 15#32
  let v3565 : BitVec 32 := Scalar.minsi v3564 c15_i32_1572
  let c256_i32_1573 : BitVec 32 := 256#32
  let v3566 : BitVec 32 := Scalar.muli v3565 c256_i32_1573
  v3566
def k0_mult74 : BitVec 32 :=
  let c2_i32_1570 : BitVec 32 := 2#32
  let c7_i32_1569 : BitVec 32 := 7#32
  let v3563 : BitVec 32 := Scalar.muli c2_i32_1570 c7_i32_1569
  let c1_i32_1571 : BitVec 32 := 1#32
  let v3564 : BitVec 32 := Scalar.addi v3563 c1_i32_1571
  let c15_i32_1572 : BitVec 32 := 15#32
  let v3565 : BitVec 32 := Scalar.minsi v3564 c15_i32_1572
  let c256_i32_1574 : BitVec 32 := 256#32
  let v3568 : BitVec 32 := Scalar.muli v3565 c256_i32_1574
  v3568
def k0_mult75 : BitVec 32 :=
  let c2_i32_1570 : BitVec 32 := 2#32
  let c7_i32_1569 : BitVec 32 := 7#32
  let v3563 : BitVec 32 := Scalar.muli c2_i32_1570 c7_i32_1569
  let c15_i32_1593 : BitVec 32 := 15#32
  let v3598 : BitVec 32 := Scalar.minsi v3563 c15_i32_1593
  let c1024_i32_1600 : BitVec 32 := 1024#32
  let v3605 : BitVec 32 := Scalar.muli v3598 c1024_i32_1600
  v3605
def k0_mult76 : BitVec 32 :=
  let c2_i32_1570 : BitVec 32 := 2#32
  let c7_i32_1569 : BitVec 32 := 7#32
  let v3563 : BitVec 32 := Scalar.muli c2_i32_1570 c7_i32_1569
  let c15_i32_1593 : BitVec 32 := 15#32
  let v3598 : BitVec 32 := Scalar.minsi v3563 c15_i32_1593
  let c256_i32_1602 : BitVec 32 := 256#32
  let v3611 : BitVec 32 := Scalar.muli v3598 c256_i32_1602
  v3611
def k0_mult77 : BitVec 32 :=
  let c2_i32_1570 : BitVec 32 := 2#32
  let c7_i32_1569 : BitVec 32 := 7#32
  let v3563 : BitVec 32 := Scalar.muli c2_i32_1570 c7_i32_1569
  let c15_i32_1593 : BitVec 32 := 15#32
  let v3598 : BitVec 32 := Scalar.minsi v3563 c15_i32_1593
  let c1024_i32_1615 : BitVec 32 := 1024#32
  let v3638 : BitVec 32 := Scalar.muli v3598 c1024_i32_1615
  v3638
def k0_mult78 : BitVec 32 :=
  let c2_i32_1570 : BitVec 32 := 2#32
  let c7_i32_1569 : BitVec 32 := 7#32
  let v3563 : BitVec 32 := Scalar.muli c2_i32_1570 c7_i32_1569
  let c2_i32_1617 : BitVec 32 := 2#32
  let v3644 : BitVec 32 := Scalar.addi v3563 c2_i32_1617
  let c15_i32_1618 : BitVec 32 := 15#32
  let v3645 : BitVec 32 := Scalar.minsi v3644 c15_i32_1618
  let c256_i32_1619 : BitVec 32 := 256#32
  let v3646 : BitVec 32 := Scalar.muli v3645 c256_i32_1619
  v3646
def k0_mult79 : BitVec 32 :=
  let c2_i32_1570 : BitVec 32 := 2#32
  let c7_i32_1569 : BitVec 32 := 7#32
  let v3563 : BitVec 32 := Scalar.muli c2_i32_1570 c7_i32_1569
  let c2_i32_1617 : BitVec 32 := 2#32
  let v3644 : BitVec 32 := Scalar.addi v3563 c2_i32_1617
  let c15_i32_1618 : BitVec 32 := 15#32
  let v3645 : BitVec 32 := Scalar.minsi v3644 c15_i32_1618
  let c256_i32_1620 : BitVec 32 := 256#32
  let v3648 : BitVec 32 := Scalar.muli v3645 c256_i32_1620
  v3648
def k0_mult80 : BitVec 32 :=
  let c2_i32_1570 : BitVec 32 := 2#32
  let c7_i32_1569 : BitVec 32 := 7#32
  let v3563 : BitVec 32 := Scalar.muli c2_i32_1570 c7_i32_1569
  let c1_i32_1639 : BitVec 32 := 1#32
  let v3678 : BitVec 32 := Scalar.addi v3563 c1_i32_1639
  let c15_i32_1640 : BitVec 32 := 15#32
  let v3679 : BitVec 32 := Scalar.minsi v3678 c15_i32_1640
  let c1024_i32_1647 : BitVec 32 := 1024#32
  let v3686 : BitVec 32 := Scalar.muli v3679 c1024_i32_1647
  v3686
def k0_mult81 : BitVec 32 :=
  let c2_i32_1570 : BitVec 32 := 2#32
  let c7_i32_1569 : BitVec 32 := 7#32
  let v3563 : BitVec 32 := Scalar.muli c2_i32_1570 c7_i32_1569
  let c1_i32_1639 : BitVec 32 := 1#32
  let v3678 : BitVec 32 := Scalar.addi v3563 c1_i32_1639
  let c15_i32_1640 : BitVec 32 := 15#32
  let v3679 : BitVec 32 := Scalar.minsi v3678 c15_i32_1640
  let c256_i32_1649 : BitVec 32 := 256#32
  let v3692 : BitVec 32 := Scalar.muli v3679 c256_i32_1649
  v3692
def k0_mult82 : BitVec 32 :=
  let c2_i32_1570 : BitVec 32 := 2#32
  let c7_i32_1569 : BitVec 32 := 7#32
  let v3563 : BitVec 32 := Scalar.muli c2_i32_1570 c7_i32_1569
  let c1_i32_1639 : BitVec 32 := 1#32
  let v3678 : BitVec 32 := Scalar.addi v3563 c1_i32_1639
  let c15_i32_1640 : BitVec 32 := 15#32
  let v3679 : BitVec 32 := Scalar.minsi v3678 c15_i32_1640
  let c1024_i32_1662 : BitVec 32 := 1024#32
  let v3719 : BitVec 32 := Scalar.muli v3679 c1024_i32_1662
  v3719
def k0_mult83 : BitVec 32 :=
  let c0_i32_1665 : BitVec 32 := 0#32
  let c14_i32_1666 : BitVec 32 := 14#32
  let v3725 : BitVec 32 := Scalar.minsi c0_i32_1665 c14_i32_1666
  let c1_i32_1667 : BitVec 32 := 1#32
  let v3726 : BitVec 32 := Scalar.addi v3725 c1_i32_1667
  let c256_i32_1668 : BitVec 32 := 256#32
  let v3727 : BitVec 32 := Scalar.muli v3726 c256_i32_1668
  v3727
def k0_mult84 : BitVec 32 :=
  let c0_i32_1665 : BitVec 32 := 0#32
  let c14_i32_1666 : BitVec 32 := 14#32
  let v3725 : BitVec 32 := Scalar.minsi c0_i32_1665 c14_i32_1666
  let c256_i32_1669 : BitVec 32 := 256#32
  let v3729 : BitVec 32 := Scalar.muli v3725 c256_i32_1669
  v3729
def k0_off30 : Fin 3 → Nat :=
  let c0_1671 : Index := 0#32
  let c0_1672 : Index := 0#32
  let c0_i32_1665 : BitVec 32 := 0#32
  let c14_i32_1666 : BitVec 32 := 14#32
  let v3725 : BitVec 32 := Scalar.minsi c0_i32_1665 c14_i32_1666
  let c1_i32_1667 : BitVec 32 := 1#32
  let v3726 : BitVec 32 := Scalar.addi v3725 c1_i32_1667
  let c256_i32_1668 : BitVec 32 := 256#32
  let v3727 : BitVec 32 := Scalar.muli v3726 c256_i32_1668
  let v3728 : BitVec 32 := v3727
  let v3733 : Index := Scalar.indexCast v3728
  ![0, 0, v3733.toNat]
def k0_off31 : Fin 3 → Nat :=
  let c1_1675 : Index := 1#32
  let c0_1676 : Index := 0#32
  let c0_i32_1665 : BitVec 32 := 0#32
  let c14_i32_1666 : BitVec 32 := 14#32
  let v3725 : BitVec 32 := Scalar.minsi c0_i32_1665 c14_i32_1666
  let c1_i32_1667 : BitVec 32 := 1#32
  let v3726 : BitVec 32 := Scalar.addi v3725 c1_i32_1667
  let c256_i32_1668 : BitVec 32 := 256#32
  let v3727 : BitVec 32 := Scalar.muli v3726 c256_i32_1668
  let v3728 : BitVec 32 := v3727
  let v3739 : Index := Scalar.indexCast v3728
  ![1, 0, v3739.toNat]
def k0_off32 : Fin 3 → Nat :=
  let c2_1679 : Index := 2#32
  let c0_1680 : Index := 0#32
  let c0_i32_1665 : BitVec 32 := 0#32
  let c14_i32_1666 : BitVec 32 := 14#32
  let v3725 : BitVec 32 := Scalar.minsi c0_i32_1665 c14_i32_1666
  let c1_i32_1667 : BitVec 32 := 1#32
  let v3726 : BitVec 32 := Scalar.addi v3725 c1_i32_1667
  let c256_i32_1668 : BitVec 32 := 256#32
  let v3727 : BitVec 32 := Scalar.muli v3726 c256_i32_1668
  let v3728 : BitVec 32 := v3727
  let v3745 : Index := Scalar.indexCast v3728
  ![2, 0, v3745.toNat]
def k0_off33 : Fin 3 → Nat :=
  let c3_1683 : Index := 3#32
  let c0_1684 : Index := 0#32
  let c0_i32_1665 : BitVec 32 := 0#32
  let c14_i32_1666 : BitVec 32 := 14#32
  let v3725 : BitVec 32 := Scalar.minsi c0_i32_1665 c14_i32_1666
  let c1_i32_1667 : BitVec 32 := 1#32
  let v3726 : BitVec 32 := Scalar.addi v3725 c1_i32_1667
  let c256_i32_1668 : BitVec 32 := 256#32
  let v3727 : BitVec 32 := Scalar.muli v3726 c256_i32_1668
  let v3728 : BitVec 32 := v3727
  let v3751 : Index := Scalar.indexCast v3728
  ![3, 0, v3751.toNat]
def k0_mult85 : BitVec 32 :=
  let c2_i32_1689 : BitVec 32 := 2#32
  let c0_i32_1688 : BitVec 32 := 0#32
  let v3759 : BitVec 32 := Scalar.muli c2_i32_1689 c0_i32_1688
  let c1_i32_1690 : BitVec 32 := 1#32
  let v3760 : BitVec 32 := Scalar.addi v3759 c1_i32_1690
  let c14_i32_1691 : BitVec 32 := 14#32
  let v3761 : BitVec 32 := Scalar.minsi v3760 c14_i32_1691
  let c1_i32_1692 : BitVec 32 := 1#32
  let v3762 : BitVec 32 := Scalar.addi v3761 c1_i32_1692
  let c256_i32_1693 : BitVec 32 := 256#32
  let v3763 : BitVec 32 := Scalar.muli v3762 c256_i32_1693
  v3763
def k0_mult86 : BitVec 32 :=
  let c2_i32_1689 : BitVec 32 := 2#32
  let c0_i32_1688 : BitVec 32 := 0#32
  let v3759 : BitVec 32 := Scalar.muli c2_i32_1689 c0_i32_1688
  let c1_i32_1690 : BitVec 32 := 1#32
  let v3760 : BitVec 32 := Scalar.addi v3759 c1_i32_1690
  let c14_i32_1691 : BitVec 32 := 14#32
  let v3761 : BitVec 32 := Scalar.minsi v3760 c14_i32_1691
  let c256_i32_1694 : BitVec 32 := 256#32
  let v3765 : BitVec 32 := Scalar.muli v3761 c256_i32_1694
  v3765
def k0_off34 (c0_i32_1688 : BitVec 32) (c1_i32_1690 : BitVec 32) : Fin 3 → Nat :=
  let c0_1696 : Index := 0#32
  let c0_1697 : Index := 0#32
  let c2_i32_1689 : BitVec 32 := 2#32
  let v3759 : BitVec 32 := Scalar.muli c2_i32_1689 c0_i32_1688
  let v3760 : BitVec 32 := Scalar.addi v3759 c1_i32_1690
  let c14_i32_1691 : BitVec 32 := 14#32
  let v3761 : BitVec 32 := Scalar.minsi v3760 c14_i32_1691
  let c1_i32_1692 : BitVec 32 := 1#32
  let v3762 : BitVec 32 := Scalar.addi v3761 c1_i32_1692
  let c256_i32_1693 : BitVec 32 := 256#32
  let v3763 : BitVec 32 := Scalar.muli v3762 c256_i32_1693
  let v3764 : BitVec 32 := v3763
  let v3769 : Index := Scalar.indexCast v3764
  ![0, 0, v3769.toNat]
def k0_off35 (c0_i32_1688 : BitVec 32) (c1_i32_1690 : BitVec 32) : Fin 3 → Nat :=
  let c1_1700 : Index := 1#32
  let c0_1701 : Index := 0#32
  let c2_i32_1689 : BitVec 32 := 2#32
  let v3759 : BitVec 32 := Scalar.muli c2_i32_1689 c0_i32_1688
  let v3760 : BitVec 32 := Scalar.addi v3759 c1_i32_1690
  let c14_i32_1691 : BitVec 32 := 14#32
  let v3761 : BitVec 32 := Scalar.minsi v3760 c14_i32_1691
  let c1_i32_1692 : BitVec 32 := 1#32
  let v3762 : BitVec 32 := Scalar.addi v3761 c1_i32_1692
  let c256_i32_1693 : BitVec 32 := 256#32
  let v3763 : BitVec 32 := Scalar.muli v3762 c256_i32_1693
  let v3764 : BitVec 32 := v3763
  let v3775 : Index := Scalar.indexCast v3764
  ![1, 0, v3775.toNat]
def k0_off36 (c0_i32_1688 : BitVec 32) (c1_i32_1690 : BitVec 32) : Fin 3 → Nat :=
  let c2_1704 : Index := 2#32
  let c0_1705 : Index := 0#32
  let c2_i32_1689 : BitVec 32 := 2#32
  let v3759 : BitVec 32 := Scalar.muli c2_i32_1689 c0_i32_1688
  let v3760 : BitVec 32 := Scalar.addi v3759 c1_i32_1690
  let c14_i32_1691 : BitVec 32 := 14#32
  let v3761 : BitVec 32 := Scalar.minsi v3760 c14_i32_1691
  let c1_i32_1692 : BitVec 32 := 1#32
  let v3762 : BitVec 32 := Scalar.addi v3761 c1_i32_1692
  let c256_i32_1693 : BitVec 32 := 256#32
  let v3763 : BitVec 32 := Scalar.muli v3762 c256_i32_1693
  let v3764 : BitVec 32 := v3763
  let v3781 : Index := Scalar.indexCast v3764
  ![2, 0, v3781.toNat]
def k0_off37 (c0_i32_1688 : BitVec 32) (c1_i32_1690 : BitVec 32) : Fin 3 → Nat :=
  let c3_1708 : Index := 3#32
  let c0_1709 : Index := 0#32
  let c2_i32_1689 : BitVec 32 := 2#32
  let v3759 : BitVec 32 := Scalar.muli c2_i32_1689 c0_i32_1688
  let v3760 : BitVec 32 := Scalar.addi v3759 c1_i32_1690
  let c14_i32_1691 : BitVec 32 := 14#32
  let v3761 : BitVec 32 := Scalar.minsi v3760 c14_i32_1691
  let c1_i32_1692 : BitVec 32 := 1#32
  let v3762 : BitVec 32 := Scalar.addi v3761 c1_i32_1692
  let c256_i32_1693 : BitVec 32 := 256#32
  let v3763 : BitVec 32 := Scalar.muli v3762 c256_i32_1693
  let v3764 : BitVec 32 := v3763
  let v3787 : Index := Scalar.indexCast v3764
  ![3, 0, v3787.toNat]
def k0_mult87 : BitVec 32 :=
  let c2_i32_1689 : BitVec 32 := 2#32
  let c0_i32_1688 : BitVec 32 := 0#32
  let v3759 : BitVec 32 := Scalar.muli c2_i32_1689 c0_i32_1688
  let c14_i32_1713 : BitVec 32 := 14#32
  let v3795 : BitVec 32 := Scalar.minsi v3759 c14_i32_1713
  let c256_i32_1720 : BitVec 32 := 256#32
  let v3801 : BitVec 32 := Scalar.muli v3795 c256_i32_1720
  v3801
def k0_mult88 : BitVec 32 :=
  let c2_i32_1689 : BitVec 32 := 2#32
  let c0_i32_1688 : BitVec 32 := 0#32
  let v3759 : BitVec 32 := Scalar.muli c2_i32_1689 c0_i32_1688
  let c14_i32_1713 : BitVec 32 := 14#32
  let v3795 : BitVec 32 := Scalar.minsi v3759 c14_i32_1713
  let c1_i32_1714 : BitVec 32 := 1#32
  let v3796 : BitVec 32 := Scalar.addi v3795 c1_i32_1714
  let c1024_i32_1721 : BitVec 32 := 1024#32
  let v3803 : BitVec 32 := Scalar.muli v3796 c1024_i32_1721
  v3803
def k0_mult89 : BitVec 32 :=
  let c2_i32_1689 : BitVec 32 := 2#32
  let c0_i32_1688 : BitVec 32 := 0#32
  let v3759 : BitVec 32 := Scalar.muli c2_i32_1689 c0_i32_1688
  let c14_i32_1713 : BitVec 32 := 14#32
  let v3795 : BitVec 32 := Scalar.minsi v3759 c14_i32_1713
  let c1_i32_1714 : BitVec 32 := 1#32
  let v3796 : BitVec 32 := Scalar.addi v3795 c1_i32_1714
  let c1024_i32_1722 : BitVec 32 := 1024#32
  let v3805 : BitVec 32 := Scalar.muli v3796 c1024_i32_1722
  v3805
def k0_off38 (c0_i32_1688 : BitVec 32) : Fin 2 → Nat :=
  let c0_1723 : Index := 0#32
  let c2_i32_1689 : BitVec 32 := 2#32
  let v3759 : BitVec 32 := Scalar.muli c2_i32_1689 c0_i32_1688
  let c14_i32_1713 : BitVec 32 := 14#32
  let v3795 : BitVec 32 := Scalar.minsi v3759 c14_i32_1713
  let c1_i32_1714 : BitVec 32 := 1#32
  let v3796 : BitVec 32 := Scalar.addi v3795 c1_i32_1714
  let c1024_i32_1721 : BitVec 32 := 1024#32
  let v3803 : BitVec 32 := Scalar.muli v3796 c1024_i32_1721
  let v3804 : BitVec 32 := v3803
  let v3807 : Index := Scalar.indexCast v3804
  ![0, v3807.toNat]
def k0_off39 (c0_i32_1688 : BitVec 32) : Fin 2 → Nat :=
  let c0_1725 : Index := 0#32
  let c2_i32_1689 : BitVec 32 := 2#32
  let v3759 : BitVec 32 := Scalar.muli c2_i32_1689 c0_i32_1688
  let c14_i32_1713 : BitVec 32 := 14#32
  let v3795 : BitVec 32 := Scalar.minsi v3759 c14_i32_1713
  let c1_i32_1714 : BitVec 32 := 1#32
  let v3796 : BitVec 32 := Scalar.addi v3795 c1_i32_1714
  let c1024_i32_1722 : BitVec 32 := 1024#32
  let v3805 : BitVec 32 := Scalar.muli v3796 c1024_i32_1722
  let v3806 : BitVec 32 := v3805
  let v3820 : Index := Scalar.indexCast v3806
  ![0, v3820.toNat]
def k0_mult90 : BitVec 32 :=
  let c2_i32_1689 : BitVec 32 := 2#32
  let c0_i32_1688 : BitVec 32 := 0#32
  let v3759 : BitVec 32 := Scalar.muli c2_i32_1689 c0_i32_1688
  let c2_i32_1740 : BitVec 32 := 2#32
  let v3854 : BitVec 32 := Scalar.addi v3759 c2_i32_1740
  let c14_i32_1741 : BitVec 32 := 14#32
  let v3855 : BitVec 32 := Scalar.minsi v3854 c14_i32_1741
  let c1_i32_1742 : BitVec 32 := 1#32
  let v3856 : BitVec 32 := Scalar.addi v3855 c1_i32_1742
  let c256_i32_1743 : BitVec 32 := 256#32
  let v3857 : BitVec 32 := Scalar.muli v3856 c256_i32_1743
  v3857
def k0_mult91 : BitVec 32 :=
  let c2_i32_1689 : BitVec 32 := 2#32
  let c0_i32_1688 : BitVec 32 := 0#32
  let v3759 : BitVec 32 := Scalar.muli c2_i32_1689 c0_i32_1688
  let c2_i32_1740 : BitVec 32 := 2#32
  let v3854 : BitVec 32 := Scalar.addi v3759 c2_i32_1740
  let c14_i32_1741 : BitVec 32 := 14#32
  let v3855 : BitVec 32 := Scalar.minsi v3854 c14_i32_1741
  let c256_i32_1744 : BitVec 32 := 256#32
  let v3859 : BitVec 32 := Scalar.muli v3855 c256_i32_1744
  v3859
def k0_mult92 : BitVec 32 :=
  let c2_i32_1689 : BitVec 32 := 2#32
  let c0_i32_1688 : BitVec 32 := 0#32
  let v3759 : BitVec 32 := Scalar.muli c2_i32_1689 c0_i32_1688
  let c1_i32_1763 : BitVec 32 := 1#32
  let v3889 : BitVec 32 := Scalar.addi v3759 c1_i32_1763
  let c14_i32_1764 : BitVec 32 := 14#32
  let v3890 : BitVec 32 := Scalar.minsi v3889 c14_i32_1764
  let c256_i32_1771 : BitVec 32 := 256#32
  let v3896 : BitVec 32 := Scalar.muli v3890 c256_i32_1771
  v3896
def k0_mult93 : BitVec 32 :=
  let c2_i32_1689 : BitVec 32 := 2#32
  let c0_i32_1688 : BitVec 32 := 0#32
  let v3759 : BitVec 32 := Scalar.muli c2_i32_1689 c0_i32_1688
  let c1_i32_1763 : BitVec 32 := 1#32
  let v3889 : BitVec 32 := Scalar.addi v3759 c1_i32_1763
  let c14_i32_1764 : BitVec 32 := 14#32
  let v3890 : BitVec 32 := Scalar.minsi v3889 c14_i32_1764
  let c1_i32_1765 : BitVec 32 := 1#32
  let v3891 : BitVec 32 := Scalar.addi v3890 c1_i32_1765
  let c1024_i32_1772 : BitVec 32 := 1024#32
  let v3898 : BitVec 32 := Scalar.muli v3891 c1024_i32_1772
  v3898
def k0_mult94 : BitVec 32 :=
  let c2_i32_1689 : BitVec 32 := 2#32
  let c0_i32_1688 : BitVec 32 := 0#32
  let v3759 : BitVec 32 := Scalar.muli c2_i32_1689 c0_i32_1688
  let c1_i32_1763 : BitVec 32 := 1#32
  let v3889 : BitVec 32 := Scalar.addi v3759 c1_i32_1763
  let c14_i32_1764 : BitVec 32 := 14#32
  let v3890 : BitVec 32 := Scalar.minsi v3889 c14_i32_1764
  let c1_i32_1765 : BitVec 32 := 1#32
  let v3891 : BitVec 32 := Scalar.addi v3890 c1_i32_1765
  let c1024_i32_1773 : BitVec 32 := 1024#32
  let v3900 : BitVec 32 := Scalar.muli v3891 c1024_i32_1773
  v3900
def k0_off40 (c0_i32_1688 : BitVec 32) : Fin 2 → Nat :=
  let c0_1774 : Index := 0#32
  let c2_i32_1689 : BitVec 32 := 2#32
  let v3759 : BitVec 32 := Scalar.muli c2_i32_1689 c0_i32_1688
  let c1_i32_1763 : BitVec 32 := 1#32
  let v3889 : BitVec 32 := Scalar.addi v3759 c1_i32_1763
  let c14_i32_1764 : BitVec 32 := 14#32
  let v3890 : BitVec 32 := Scalar.minsi v3889 c14_i32_1764
  let c1_i32_1765 : BitVec 32 := 1#32
  let v3891 : BitVec 32 := Scalar.addi v3890 c1_i32_1765
  let c1024_i32_1772 : BitVec 32 := 1024#32
  let v3898 : BitVec 32 := Scalar.muli v3891 c1024_i32_1772
  let v3899 : BitVec 32 := v3898
  let v3902 : Index := Scalar.indexCast v3899
  ![0, v3902.toNat]
def k0_off41 (c0_i32_1688 : BitVec 32) : Fin 2 → Nat :=
  let c0_1776 : Index := 0#32
  let c2_i32_1689 : BitVec 32 := 2#32
  let v3759 : BitVec 32 := Scalar.muli c2_i32_1689 c0_i32_1688
  let c1_i32_1763 : BitVec 32 := 1#32
  let v3889 : BitVec 32 := Scalar.addi v3759 c1_i32_1763
  let c14_i32_1764 : BitVec 32 := 14#32
  let v3890 : BitVec 32 := Scalar.minsi v3889 c14_i32_1764
  let c1_i32_1765 : BitVec 32 := 1#32
  let v3891 : BitVec 32 := Scalar.addi v3890 c1_i32_1765
  let c1024_i32_1773 : BitVec 32 := 1024#32
  let v3900 : BitVec 32 := Scalar.muli v3891 c1024_i32_1773
  let v3901 : BitVec 32 := v3900
  let v3915 : Index := Scalar.indexCast v3901
  ![0, v3915.toNat]
def k0_mult95 : BitVec 32 :=
  let c2_i32_1792 : BitVec 32 := 2#32
  let c1_i32_1791 : BitVec 32 := 1#32
  let v3949 : BitVec 32 := Scalar.muli c2_i32_1792 c1_i32_1791
  let c1_i32_1793 : BitVec 32 := 1#32
  let v3950 : BitVec 32 := Scalar.addi v3949 c1_i32_1793
  let c14_i32_1794 : BitVec 32 := 14#32
  let v3951 : BitVec 32 := Scalar.minsi v3950 c14_i32_1794
  let c1_i32_1795 : BitVec 32 := 1#32
  let v3952 : BitVec 32 := Scalar.addi v3951 c1_i32_1795
  let c256_i32_1796 : BitVec 32 := 256#32
  let v3953 : BitVec 32 := Scalar.muli v3952 c256_i32_1796
  v3953
def k0_mult96 : BitVec 32 :=
  let c2_i32_1792 : BitVec 32 := 2#32
  let c1_i32_1791 : BitVec 32 := 1#32
  let v3949 : BitVec 32 := Scalar.muli c2_i32_1792 c1_i32_1791
  let c1_i32_1793 : BitVec 32 := 1#32
  let v3950 : BitVec 32 := Scalar.addi v3949 c1_i32_1793
  let c14_i32_1794 : BitVec 32 := 14#32
  let v3951 : BitVec 32 := Scalar.minsi v3950 c14_i32_1794
  let c256_i32_1797 : BitVec 32 := 256#32
  let v3955 : BitVec 32 := Scalar.muli v3951 c256_i32_1797
  v3955
def k0_mult97 : BitVec 32 :=
  let c2_i32_1792 : BitVec 32 := 2#32
  let c1_i32_1791 : BitVec 32 := 1#32
  let v3949 : BitVec 32 := Scalar.muli c2_i32_1792 c1_i32_1791
  let c14_i32_1816 : BitVec 32 := 14#32
  let v3985 : BitVec 32 := Scalar.minsi v3949 c14_i32_1816
  let c256_i32_1823 : BitVec 32 := 256#32
  let v3991 : BitVec 32 := Scalar.muli v3985 c256_i32_1823
  v3991
def k0_mult98 : BitVec 32 :=
  let c2_i32_1792 : BitVec 32 := 2#32
  let c1_i32_1791 : BitVec 32 := 1#32
  let v3949 : BitVec 32 := Scalar.muli c2_i32_1792 c1_i32_1791
  let c14_i32_1816 : BitVec 32 := 14#32
  let v3985 : BitVec 32 := Scalar.minsi v3949 c14_i32_1816
  let c1_i32_1817 : BitVec 32 := 1#32
  let v3986 : BitVec 32 := Scalar.addi v3985 c1_i32_1817
  let c1024_i32_1824 : BitVec 32 := 1024#32
  let v3993 : BitVec 32 := Scalar.muli v3986 c1024_i32_1824
  v3993
def k0_mult99 : BitVec 32 :=
  let c2_i32_1792 : BitVec 32 := 2#32
  let c1_i32_1791 : BitVec 32 := 1#32
  let v3949 : BitVec 32 := Scalar.muli c2_i32_1792 c1_i32_1791
  let c14_i32_1816 : BitVec 32 := 14#32
  let v3985 : BitVec 32 := Scalar.minsi v3949 c14_i32_1816
  let c1_i32_1817 : BitVec 32 := 1#32
  let v3986 : BitVec 32 := Scalar.addi v3985 c1_i32_1817
  let c1024_i32_1825 : BitVec 32 := 1024#32
  let v3995 : BitVec 32 := Scalar.muli v3986 c1024_i32_1825
  v3995
def k0_mult100 : BitVec 32 :=
  let c2_i32_1792 : BitVec 32 := 2#32
  let c1_i32_1791 : BitVec 32 := 1#32
  let v3949 : BitVec 32 := Scalar.muli c2_i32_1792 c1_i32_1791
  let c2_i32_1843 : BitVec 32 := 2#32
  let v4044 : BitVec 32 := Scalar.addi v3949 c2_i32_1843
  let c14_i32_1844 : BitVec 32 := 14#32
  let v4045 : BitVec 32 := Scalar.minsi v4044 c14_i32_1844
  let c1_i32_1845 : BitVec 32 := 1#32
  let v4046 : BitVec 32 := Scalar.addi v4045 c1_i32_1845
  let c256_i32_1846 : BitVec 32 := 256#32
  let v4047 : BitVec 32 := Scalar.muli v4046 c256_i32_1846
  v4047
def k0_mult101 : BitVec 32 :=
  let c2_i32_1792 : BitVec 32 := 2#32
  let c1_i32_1791 : BitVec 32 := 1#32
  let v3949 : BitVec 32 := Scalar.muli c2_i32_1792 c1_i32_1791
  let c2_i32_1843 : BitVec 32 := 2#32
  let v4044 : BitVec 32 := Scalar.addi v3949 c2_i32_1843
  let c14_i32_1844 : BitVec 32 := 14#32
  let v4045 : BitVec 32 := Scalar.minsi v4044 c14_i32_1844
  let c256_i32_1847 : BitVec 32 := 256#32
  let v4049 : BitVec 32 := Scalar.muli v4045 c256_i32_1847
  v4049
def k0_mult102 : BitVec 32 :=
  let c2_i32_1792 : BitVec 32 := 2#32
  let c1_i32_1791 : BitVec 32 := 1#32
  let v3949 : BitVec 32 := Scalar.muli c2_i32_1792 c1_i32_1791
  let c1_i32_1866 : BitVec 32 := 1#32
  let v4079 : BitVec 32 := Scalar.addi v3949 c1_i32_1866
  let c14_i32_1867 : BitVec 32 := 14#32
  let v4080 : BitVec 32 := Scalar.minsi v4079 c14_i32_1867
  let c256_i32_1874 : BitVec 32 := 256#32
  let v4086 : BitVec 32 := Scalar.muli v4080 c256_i32_1874
  v4086
def k0_mult103 : BitVec 32 :=
  let c2_i32_1792 : BitVec 32 := 2#32
  let c1_i32_1791 : BitVec 32 := 1#32
  let v3949 : BitVec 32 := Scalar.muli c2_i32_1792 c1_i32_1791
  let c1_i32_1866 : BitVec 32 := 1#32
  let v4079 : BitVec 32 := Scalar.addi v3949 c1_i32_1866
  let c14_i32_1867 : BitVec 32 := 14#32
  let v4080 : BitVec 32 := Scalar.minsi v4079 c14_i32_1867
  let c1_i32_1868 : BitVec 32 := 1#32
  let v4081 : BitVec 32 := Scalar.addi v4080 c1_i32_1868
  let c1024_i32_1875 : BitVec 32 := 1024#32
  let v4088 : BitVec 32 := Scalar.muli v4081 c1024_i32_1875
  v4088
def k0_mult104 : BitVec 32 :=
  let c2_i32_1792 : BitVec 32 := 2#32
  let c1_i32_1791 : BitVec 32 := 1#32
  let v3949 : BitVec 32 := Scalar.muli c2_i32_1792 c1_i32_1791
  let c1_i32_1866 : BitVec 32 := 1#32
  let v4079 : BitVec 32 := Scalar.addi v3949 c1_i32_1866
  let c14_i32_1867 : BitVec 32 := 14#32
  let v4080 : BitVec 32 := Scalar.minsi v4079 c14_i32_1867
  let c1_i32_1868 : BitVec 32 := 1#32
  let v4081 : BitVec 32 := Scalar.addi v4080 c1_i32_1868
  let c1024_i32_1876 : BitVec 32 := 1024#32
  let v4090 : BitVec 32 := Scalar.muli v4081 c1024_i32_1876
  v4090
def k0_mult105 : BitVec 32 :=
  let c2_i32_1895 : BitVec 32 := 2#32
  let c2_i32_1894 : BitVec 32 := 2#32
  let v4139 : BitVec 32 := Scalar.muli c2_i32_1895 c2_i32_1894
  let c1_i32_1896 : BitVec 32 := 1#32
  let v4140 : BitVec 32 := Scalar.addi v4139 c1_i32_1896
  let c14_i32_1897 : BitVec 32 := 14#32
  let v4141 : BitVec 32 := Scalar.minsi v4140 c14_i32_1897
  let c1_i32_1898 : BitVec 32 := 1#32
  let v4142 : BitVec 32 := Scalar.addi v4141 c1_i32_1898
  let c256_i32_1899 : BitVec 32 := 256#32
  let v4143 : BitVec 32 := Scalar.muli v4142 c256_i32_1899
  v4143
def k0_mult106 : BitVec 32 :=
  let c2_i32_1895 : BitVec 32 := 2#32
  let c2_i32_1894 : BitVec 32 := 2#32
  let v4139 : BitVec 32 := Scalar.muli c2_i32_1895 c2_i32_1894
  let c1_i32_1896 : BitVec 32 := 1#32
  let v4140 : BitVec 32 := Scalar.addi v4139 c1_i32_1896
  let c14_i32_1897 : BitVec 32 := 14#32
  let v4141 : BitVec 32 := Scalar.minsi v4140 c14_i32_1897
  let c256_i32_1900 : BitVec 32 := 256#32
  let v4145 : BitVec 32 := Scalar.muli v4141 c256_i32_1900
  v4145
def k0_mult107 : BitVec 32 :=
  let c2_i32_1895 : BitVec 32 := 2#32
  let c2_i32_1894 : BitVec 32 := 2#32
  let v4139 : BitVec 32 := Scalar.muli c2_i32_1895 c2_i32_1894
  let c14_i32_1919 : BitVec 32 := 14#32
  let v4175 : BitVec 32 := Scalar.minsi v4139 c14_i32_1919
  let c256_i32_1926 : BitVec 32 := 256#32
  let v4181 : BitVec 32 := Scalar.muli v4175 c256_i32_1926
  v4181
def k0_mult108 : BitVec 32 :=
  let c2_i32_1895 : BitVec 32 := 2#32
  let c2_i32_1894 : BitVec 32 := 2#32
  let v4139 : BitVec 32 := Scalar.muli c2_i32_1895 c2_i32_1894
  let c14_i32_1919 : BitVec 32 := 14#32
  let v4175 : BitVec 32 := Scalar.minsi v4139 c14_i32_1919
  let c1_i32_1920 : BitVec 32 := 1#32
  let v4176 : BitVec 32 := Scalar.addi v4175 c1_i32_1920
  let c1024_i32_1927 : BitVec 32 := 1024#32
  let v4183 : BitVec 32 := Scalar.muli v4176 c1024_i32_1927
  v4183
def k0_mult109 : BitVec 32 :=
  let c2_i32_1895 : BitVec 32 := 2#32
  let c2_i32_1894 : BitVec 32 := 2#32
  let v4139 : BitVec 32 := Scalar.muli c2_i32_1895 c2_i32_1894
  let c14_i32_1919 : BitVec 32 := 14#32
  let v4175 : BitVec 32 := Scalar.minsi v4139 c14_i32_1919
  let c1_i32_1920 : BitVec 32 := 1#32
  let v4176 : BitVec 32 := Scalar.addi v4175 c1_i32_1920
  let c1024_i32_1928 : BitVec 32 := 1024#32
  let v4185 : BitVec 32 := Scalar.muli v4176 c1024_i32_1928
  v4185
def k0_mult110 : BitVec 32 :=
  let c2_i32_1895 : BitVec 32 := 2#32
  let c2_i32_1894 : BitVec 32 := 2#32
  let v4139 : BitVec 32 := Scalar.muli c2_i32_1895 c2_i32_1894
  let c2_i32_1946 : BitVec 32 := 2#32
  let v4234 : BitVec 32 := Scalar.addi v4139 c2_i32_1946
  let c14_i32_1947 : BitVec 32 := 14#32
  let v4235 : BitVec 32 := Scalar.minsi v4234 c14_i32_1947
  let c1_i32_1948 : BitVec 32 := 1#32
  let v4236 : BitVec 32 := Scalar.addi v4235 c1_i32_1948
  let c256_i32_1949 : BitVec 32 := 256#32
  let v4237 : BitVec 32 := Scalar.muli v4236 c256_i32_1949
  v4237
def k0_mult111 : BitVec 32 :=
  let c2_i32_1895 : BitVec 32 := 2#32
  let c2_i32_1894 : BitVec 32 := 2#32
  let v4139 : BitVec 32 := Scalar.muli c2_i32_1895 c2_i32_1894
  let c2_i32_1946 : BitVec 32 := 2#32
  let v4234 : BitVec 32 := Scalar.addi v4139 c2_i32_1946
  let c14_i32_1947 : BitVec 32 := 14#32
  let v4235 : BitVec 32 := Scalar.minsi v4234 c14_i32_1947
  let c256_i32_1950 : BitVec 32 := 256#32
  let v4239 : BitVec 32 := Scalar.muli v4235 c256_i32_1950
  v4239
def k0_mult112 : BitVec 32 :=
  let c2_i32_1895 : BitVec 32 := 2#32
  let c2_i32_1894 : BitVec 32 := 2#32
  let v4139 : BitVec 32 := Scalar.muli c2_i32_1895 c2_i32_1894
  let c1_i32_1969 : BitVec 32 := 1#32
  let v4269 : BitVec 32 := Scalar.addi v4139 c1_i32_1969
  let c14_i32_1970 : BitVec 32 := 14#32
  let v4270 : BitVec 32 := Scalar.minsi v4269 c14_i32_1970
  let c256_i32_1977 : BitVec 32 := 256#32
  let v4276 : BitVec 32 := Scalar.muli v4270 c256_i32_1977
  v4276
def k0_mult113 : BitVec 32 :=
  let c2_i32_1895 : BitVec 32 := 2#32
  let c2_i32_1894 : BitVec 32 := 2#32
  let v4139 : BitVec 32 := Scalar.muli c2_i32_1895 c2_i32_1894
  let c1_i32_1969 : BitVec 32 := 1#32
  let v4269 : BitVec 32 := Scalar.addi v4139 c1_i32_1969
  let c14_i32_1970 : BitVec 32 := 14#32
  let v4270 : BitVec 32 := Scalar.minsi v4269 c14_i32_1970
  let c1_i32_1971 : BitVec 32 := 1#32
  let v4271 : BitVec 32 := Scalar.addi v4270 c1_i32_1971
  let c1024_i32_1978 : BitVec 32 := 1024#32
  let v4278 : BitVec 32 := Scalar.muli v4271 c1024_i32_1978
  v4278
def k0_mult114 : BitVec 32 :=
  let c2_i32_1895 : BitVec 32 := 2#32
  let c2_i32_1894 : BitVec 32 := 2#32
  let v4139 : BitVec 32 := Scalar.muli c2_i32_1895 c2_i32_1894
  let c1_i32_1969 : BitVec 32 := 1#32
  let v4269 : BitVec 32 := Scalar.addi v4139 c1_i32_1969
  let c14_i32_1970 : BitVec 32 := 14#32
  let v4270 : BitVec 32 := Scalar.minsi v4269 c14_i32_1970
  let c1_i32_1971 : BitVec 32 := 1#32
  let v4271 : BitVec 32 := Scalar.addi v4270 c1_i32_1971
  let c1024_i32_1979 : BitVec 32 := 1024#32
  let v4280 : BitVec 32 := Scalar.muli v4271 c1024_i32_1979
  v4280
def k0_mult115 : BitVec 32 :=
  let c2_i32_1998 : BitVec 32 := 2#32
  let c3_i32_1997 : BitVec 32 := 3#32
  let v4329 : BitVec 32 := Scalar.muli c2_i32_1998 c3_i32_1997
  let c1_i32_1999 : BitVec 32 := 1#32
  let v4330 : BitVec 32 := Scalar.addi v4329 c1_i32_1999
  let c14_i32_2000 : BitVec 32 := 14#32
  let v4331 : BitVec 32 := Scalar.minsi v4330 c14_i32_2000
  let c1_i32_2001 : BitVec 32 := 1#32
  let v4332 : BitVec 32 := Scalar.addi v4331 c1_i32_2001
  let c256_i32_2002 : BitVec 32 := 256#32
  let v4333 : BitVec 32 := Scalar.muli v4332 c256_i32_2002
  v4333
def k0_mult116 : BitVec 32 :=
  let c2_i32_1998 : BitVec 32 := 2#32
  let c3_i32_1997 : BitVec 32 := 3#32
  let v4329 : BitVec 32 := Scalar.muli c2_i32_1998 c3_i32_1997
  let c1_i32_1999 : BitVec 32 := 1#32
  let v4330 : BitVec 32 := Scalar.addi v4329 c1_i32_1999
  let c14_i32_2000 : BitVec 32 := 14#32
  let v4331 : BitVec 32 := Scalar.minsi v4330 c14_i32_2000
  let c256_i32_2003 : BitVec 32 := 256#32
  let v4335 : BitVec 32 := Scalar.muli v4331 c256_i32_2003
  v4335
def k0_mult117 : BitVec 32 :=
  let c2_i32_1998 : BitVec 32 := 2#32
  let c3_i32_1997 : BitVec 32 := 3#32
  let v4329 : BitVec 32 := Scalar.muli c2_i32_1998 c3_i32_1997
  let c14_i32_2022 : BitVec 32 := 14#32
  let v4365 : BitVec 32 := Scalar.minsi v4329 c14_i32_2022
  let c256_i32_2029 : BitVec 32 := 256#32
  let v4371 : BitVec 32 := Scalar.muli v4365 c256_i32_2029
  v4371
def k0_mult118 : BitVec 32 :=
  let c2_i32_1998 : BitVec 32 := 2#32
  let c3_i32_1997 : BitVec 32 := 3#32
  let v4329 : BitVec 32 := Scalar.muli c2_i32_1998 c3_i32_1997
  let c14_i32_2022 : BitVec 32 := 14#32
  let v4365 : BitVec 32 := Scalar.minsi v4329 c14_i32_2022
  let c1_i32_2023 : BitVec 32 := 1#32
  let v4366 : BitVec 32 := Scalar.addi v4365 c1_i32_2023
  let c1024_i32_2030 : BitVec 32 := 1024#32
  let v4373 : BitVec 32 := Scalar.muli v4366 c1024_i32_2030
  v4373
def k0_mult119 : BitVec 32 :=
  let c2_i32_1998 : BitVec 32 := 2#32
  let c3_i32_1997 : BitVec 32 := 3#32
  let v4329 : BitVec 32 := Scalar.muli c2_i32_1998 c3_i32_1997
  let c14_i32_2022 : BitVec 32 := 14#32
  let v4365 : BitVec 32 := Scalar.minsi v4329 c14_i32_2022
  let c1_i32_2023 : BitVec 32 := 1#32
  let v4366 : BitVec 32 := Scalar.addi v4365 c1_i32_2023
  let c1024_i32_2031 : BitVec 32 := 1024#32
  let v4375 : BitVec 32 := Scalar.muli v4366 c1024_i32_2031
  v4375
def k0_mult120 : BitVec 32 :=
  let c2_i32_1998 : BitVec 32 := 2#32
  let c3_i32_1997 : BitVec 32 := 3#32
  let v4329 : BitVec 32 := Scalar.muli c2_i32_1998 c3_i32_1997
  let c2_i32_2049 : BitVec 32 := 2#32
  let v4424 : BitVec 32 := Scalar.addi v4329 c2_i32_2049
  let c14_i32_2050 : BitVec 32 := 14#32
  let v4425 : BitVec 32 := Scalar.minsi v4424 c14_i32_2050
  let c1_i32_2051 : BitVec 32 := 1#32
  let v4426 : BitVec 32 := Scalar.addi v4425 c1_i32_2051
  let c256_i32_2052 : BitVec 32 := 256#32
  let v4427 : BitVec 32 := Scalar.muli v4426 c256_i32_2052
  v4427
def k0_mult121 : BitVec 32 :=
  let c2_i32_1998 : BitVec 32 := 2#32
  let c3_i32_1997 : BitVec 32 := 3#32
  let v4329 : BitVec 32 := Scalar.muli c2_i32_1998 c3_i32_1997
  let c2_i32_2049 : BitVec 32 := 2#32
  let v4424 : BitVec 32 := Scalar.addi v4329 c2_i32_2049
  let c14_i32_2050 : BitVec 32 := 14#32
  let v4425 : BitVec 32 := Scalar.minsi v4424 c14_i32_2050
  let c256_i32_2053 : BitVec 32 := 256#32
  let v4429 : BitVec 32 := Scalar.muli v4425 c256_i32_2053
  v4429
def k0_mult122 : BitVec 32 :=
  let c2_i32_1998 : BitVec 32 := 2#32
  let c3_i32_1997 : BitVec 32 := 3#32
  let v4329 : BitVec 32 := Scalar.muli c2_i32_1998 c3_i32_1997
  let c1_i32_2072 : BitVec 32 := 1#32
  let v4459 : BitVec 32 := Scalar.addi v4329 c1_i32_2072
  let c14_i32_2073 : BitVec 32 := 14#32
  let v4460 : BitVec 32 := Scalar.minsi v4459 c14_i32_2073
  let c256_i32_2080 : BitVec 32 := 256#32
  let v4466 : BitVec 32 := Scalar.muli v4460 c256_i32_2080
  v4466
def k0_mult123 : BitVec 32 :=
  let c2_i32_1998 : BitVec 32 := 2#32
  let c3_i32_1997 : BitVec 32 := 3#32
  let v4329 : BitVec 32 := Scalar.muli c2_i32_1998 c3_i32_1997
  let c1_i32_2072 : BitVec 32 := 1#32
  let v4459 : BitVec 32 := Scalar.addi v4329 c1_i32_2072
  let c14_i32_2073 : BitVec 32 := 14#32
  let v4460 : BitVec 32 := Scalar.minsi v4459 c14_i32_2073
  let c1_i32_2074 : BitVec 32 := 1#32
  let v4461 : BitVec 32 := Scalar.addi v4460 c1_i32_2074
  let c1024_i32_2081 : BitVec 32 := 1024#32
  let v4468 : BitVec 32 := Scalar.muli v4461 c1024_i32_2081
  v4468
def k0_mult124 : BitVec 32 :=
  let c2_i32_1998 : BitVec 32 := 2#32
  let c3_i32_1997 : BitVec 32 := 3#32
  let v4329 : BitVec 32 := Scalar.muli c2_i32_1998 c3_i32_1997
  let c1_i32_2072 : BitVec 32 := 1#32
  let v4459 : BitVec 32 := Scalar.addi v4329 c1_i32_2072
  let c14_i32_2073 : BitVec 32 := 14#32
  let v4460 : BitVec 32 := Scalar.minsi v4459 c14_i32_2073
  let c1_i32_2074 : BitVec 32 := 1#32
  let v4461 : BitVec 32 := Scalar.addi v4460 c1_i32_2074
  let c1024_i32_2082 : BitVec 32 := 1024#32
  let v4470 : BitVec 32 := Scalar.muli v4461 c1024_i32_2082
  v4470
def k0_mult125 : BitVec 32 :=
  let c2_i32_2101 : BitVec 32 := 2#32
  let c4_i32_2100 : BitVec 32 := 4#32
  let v4519 : BitVec 32 := Scalar.muli c2_i32_2101 c4_i32_2100
  let c1_i32_2102 : BitVec 32 := 1#32
  let v4520 : BitVec 32 := Scalar.addi v4519 c1_i32_2102
  let c14_i32_2103 : BitVec 32 := 14#32
  let v4521 : BitVec 32 := Scalar.minsi v4520 c14_i32_2103
  let c1_i32_2104 : BitVec 32 := 1#32
  let v4522 : BitVec 32 := Scalar.addi v4521 c1_i32_2104
  let c256_i32_2105 : BitVec 32 := 256#32
  let v4523 : BitVec 32 := Scalar.muli v4522 c256_i32_2105
  v4523
def k0_mult126 : BitVec 32 :=
  let c2_i32_2101 : BitVec 32 := 2#32
  let c4_i32_2100 : BitVec 32 := 4#32
  let v4519 : BitVec 32 := Scalar.muli c2_i32_2101 c4_i32_2100
  let c1_i32_2102 : BitVec 32 := 1#32
  let v4520 : BitVec 32 := Scalar.addi v4519 c1_i32_2102
  let c14_i32_2103 : BitVec 32 := 14#32
  let v4521 : BitVec 32 := Scalar.minsi v4520 c14_i32_2103
  let c256_i32_2106 : BitVec 32 := 256#32
  let v4525 : BitVec 32 := Scalar.muli v4521 c256_i32_2106
  v4525
def k0_mult127 : BitVec 32 :=
  let c2_i32_2101 : BitVec 32 := 2#32
  let c4_i32_2100 : BitVec 32 := 4#32
  let v4519 : BitVec 32 := Scalar.muli c2_i32_2101 c4_i32_2100
  let c14_i32_2125 : BitVec 32 := 14#32
  let v4555 : BitVec 32 := Scalar.minsi v4519 c14_i32_2125
  let c256_i32_2132 : BitVec 32 := 256#32
  let v4561 : BitVec 32 := Scalar.muli v4555 c256_i32_2132
  v4561
def k0_mult128 : BitVec 32 :=
  let c2_i32_2101 : BitVec 32 := 2#32
  let c4_i32_2100 : BitVec 32 := 4#32
  let v4519 : BitVec 32 := Scalar.muli c2_i32_2101 c4_i32_2100
  let c14_i32_2125 : BitVec 32 := 14#32
  let v4555 : BitVec 32 := Scalar.minsi v4519 c14_i32_2125
  let c1_i32_2126 : BitVec 32 := 1#32
  let v4556 : BitVec 32 := Scalar.addi v4555 c1_i32_2126
  let c1024_i32_2133 : BitVec 32 := 1024#32
  let v4563 : BitVec 32 := Scalar.muli v4556 c1024_i32_2133
  v4563
def k0_mult129 : BitVec 32 :=
  let c2_i32_2101 : BitVec 32 := 2#32
  let c4_i32_2100 : BitVec 32 := 4#32
  let v4519 : BitVec 32 := Scalar.muli c2_i32_2101 c4_i32_2100
  let c14_i32_2125 : BitVec 32 := 14#32
  let v4555 : BitVec 32 := Scalar.minsi v4519 c14_i32_2125
  let c1_i32_2126 : BitVec 32 := 1#32
  let v4556 : BitVec 32 := Scalar.addi v4555 c1_i32_2126
  let c1024_i32_2134 : BitVec 32 := 1024#32
  let v4565 : BitVec 32 := Scalar.muli v4556 c1024_i32_2134
  v4565
def k0_mult130 : BitVec 32 :=
  let c2_i32_2101 : BitVec 32 := 2#32
  let c4_i32_2100 : BitVec 32 := 4#32
  let v4519 : BitVec 32 := Scalar.muli c2_i32_2101 c4_i32_2100
  let c2_i32_2152 : BitVec 32 := 2#32
  let v4614 : BitVec 32 := Scalar.addi v4519 c2_i32_2152
  let c14_i32_2153 : BitVec 32 := 14#32
  let v4615 : BitVec 32 := Scalar.minsi v4614 c14_i32_2153
  let c1_i32_2154 : BitVec 32 := 1#32
  let v4616 : BitVec 32 := Scalar.addi v4615 c1_i32_2154
  let c256_i32_2155 : BitVec 32 := 256#32
  let v4617 : BitVec 32 := Scalar.muli v4616 c256_i32_2155
  v4617
def k0_mult131 : BitVec 32 :=
  let c2_i32_2101 : BitVec 32 := 2#32
  let c4_i32_2100 : BitVec 32 := 4#32
  let v4519 : BitVec 32 := Scalar.muli c2_i32_2101 c4_i32_2100
  let c2_i32_2152 : BitVec 32 := 2#32
  let v4614 : BitVec 32 := Scalar.addi v4519 c2_i32_2152
  let c14_i32_2153 : BitVec 32 := 14#32
  let v4615 : BitVec 32 := Scalar.minsi v4614 c14_i32_2153
  let c256_i32_2156 : BitVec 32 := 256#32
  let v4619 : BitVec 32 := Scalar.muli v4615 c256_i32_2156
  v4619
def k0_mult132 : BitVec 32 :=
  let c2_i32_2101 : BitVec 32 := 2#32
  let c4_i32_2100 : BitVec 32 := 4#32
  let v4519 : BitVec 32 := Scalar.muli c2_i32_2101 c4_i32_2100
  let c1_i32_2175 : BitVec 32 := 1#32
  let v4649 : BitVec 32 := Scalar.addi v4519 c1_i32_2175
  let c14_i32_2176 : BitVec 32 := 14#32
  let v4650 : BitVec 32 := Scalar.minsi v4649 c14_i32_2176
  let c256_i32_2183 : BitVec 32 := 256#32
  let v4656 : BitVec 32 := Scalar.muli v4650 c256_i32_2183
  v4656
def k0_mult133 : BitVec 32 :=
  let c2_i32_2101 : BitVec 32 := 2#32
  let c4_i32_2100 : BitVec 32 := 4#32
  let v4519 : BitVec 32 := Scalar.muli c2_i32_2101 c4_i32_2100
  let c1_i32_2175 : BitVec 32 := 1#32
  let v4649 : BitVec 32 := Scalar.addi v4519 c1_i32_2175
  let c14_i32_2176 : BitVec 32 := 14#32
  let v4650 : BitVec 32 := Scalar.minsi v4649 c14_i32_2176
  let c1_i32_2177 : BitVec 32 := 1#32
  let v4651 : BitVec 32 := Scalar.addi v4650 c1_i32_2177
  let c1024_i32_2184 : BitVec 32 := 1024#32
  let v4658 : BitVec 32 := Scalar.muli v4651 c1024_i32_2184
  v4658
def k0_mult134 : BitVec 32 :=
  let c2_i32_2101 : BitVec 32 := 2#32
  let c4_i32_2100 : BitVec 32 := 4#32
  let v4519 : BitVec 32 := Scalar.muli c2_i32_2101 c4_i32_2100
  let c1_i32_2175 : BitVec 32 := 1#32
  let v4649 : BitVec 32 := Scalar.addi v4519 c1_i32_2175
  let c14_i32_2176 : BitVec 32 := 14#32
  let v4650 : BitVec 32 := Scalar.minsi v4649 c14_i32_2176
  let c1_i32_2177 : BitVec 32 := 1#32
  let v4651 : BitVec 32 := Scalar.addi v4650 c1_i32_2177
  let c1024_i32_2185 : BitVec 32 := 1024#32
  let v4660 : BitVec 32 := Scalar.muli v4651 c1024_i32_2185
  v4660
def k0_mult135 : BitVec 32 :=
  let c2_i32_2204 : BitVec 32 := 2#32
  let c5_i32_2203 : BitVec 32 := 5#32
  let v4709 : BitVec 32 := Scalar.muli c2_i32_2204 c5_i32_2203
  let c1_i32_2205 : BitVec 32 := 1#32
  let v4710 : BitVec 32 := Scalar.addi v4709 c1_i32_2205
  let c14_i32_2206 : BitVec 32 := 14#32
  let v4711 : BitVec 32 := Scalar.minsi v4710 c14_i32_2206
  let c1_i32_2207 : BitVec 32 := 1#32
  let v4712 : BitVec 32 := Scalar.addi v4711 c1_i32_2207
  let c256_i32_2208 : BitVec 32 := 256#32
  let v4713 : BitVec 32 := Scalar.muli v4712 c256_i32_2208
  v4713
def k0_mult136 : BitVec 32 :=
  let c2_i32_2204 : BitVec 32 := 2#32
  let c5_i32_2203 : BitVec 32 := 5#32
  let v4709 : BitVec 32 := Scalar.muli c2_i32_2204 c5_i32_2203
  let c1_i32_2205 : BitVec 32 := 1#32
  let v4710 : BitVec 32 := Scalar.addi v4709 c1_i32_2205
  let c14_i32_2206 : BitVec 32 := 14#32
  let v4711 : BitVec 32 := Scalar.minsi v4710 c14_i32_2206
  let c256_i32_2209 : BitVec 32 := 256#32
  let v4715 : BitVec 32 := Scalar.muli v4711 c256_i32_2209
  v4715
def k0_mult137 : BitVec 32 :=
  let c2_i32_2204 : BitVec 32 := 2#32
  let c5_i32_2203 : BitVec 32 := 5#32
  let v4709 : BitVec 32 := Scalar.muli c2_i32_2204 c5_i32_2203
  let c14_i32_2228 : BitVec 32 := 14#32
  let v4745 : BitVec 32 := Scalar.minsi v4709 c14_i32_2228
  let c256_i32_2235 : BitVec 32 := 256#32
  let v4751 : BitVec 32 := Scalar.muli v4745 c256_i32_2235
  v4751
def k0_mult138 : BitVec 32 :=
  let c2_i32_2204 : BitVec 32 := 2#32
  let c5_i32_2203 : BitVec 32 := 5#32
  let v4709 : BitVec 32 := Scalar.muli c2_i32_2204 c5_i32_2203
  let c14_i32_2228 : BitVec 32 := 14#32
  let v4745 : BitVec 32 := Scalar.minsi v4709 c14_i32_2228
  let c1_i32_2229 : BitVec 32 := 1#32
  let v4746 : BitVec 32 := Scalar.addi v4745 c1_i32_2229
  let c1024_i32_2236 : BitVec 32 := 1024#32
  let v4753 : BitVec 32 := Scalar.muli v4746 c1024_i32_2236
  v4753
def k0_mult139 : BitVec 32 :=
  let c2_i32_2204 : BitVec 32 := 2#32
  let c5_i32_2203 : BitVec 32 := 5#32
  let v4709 : BitVec 32 := Scalar.muli c2_i32_2204 c5_i32_2203
  let c14_i32_2228 : BitVec 32 := 14#32
  let v4745 : BitVec 32 := Scalar.minsi v4709 c14_i32_2228
  let c1_i32_2229 : BitVec 32 := 1#32
  let v4746 : BitVec 32 := Scalar.addi v4745 c1_i32_2229
  let c1024_i32_2237 : BitVec 32 := 1024#32
  let v4755 : BitVec 32 := Scalar.muli v4746 c1024_i32_2237
  v4755
def k0_mult140 : BitVec 32 :=
  let c2_i32_2204 : BitVec 32 := 2#32
  let c5_i32_2203 : BitVec 32 := 5#32
  let v4709 : BitVec 32 := Scalar.muli c2_i32_2204 c5_i32_2203
  let c2_i32_2255 : BitVec 32 := 2#32
  let v4804 : BitVec 32 := Scalar.addi v4709 c2_i32_2255
  let c14_i32_2256 : BitVec 32 := 14#32
  let v4805 : BitVec 32 := Scalar.minsi v4804 c14_i32_2256
  let c1_i32_2257 : BitVec 32 := 1#32
  let v4806 : BitVec 32 := Scalar.addi v4805 c1_i32_2257
  let c256_i32_2258 : BitVec 32 := 256#32
  let v4807 : BitVec 32 := Scalar.muli v4806 c256_i32_2258
  v4807
def k0_mult141 : BitVec 32 :=
  let c2_i32_2204 : BitVec 32 := 2#32
  let c5_i32_2203 : BitVec 32 := 5#32
  let v4709 : BitVec 32 := Scalar.muli c2_i32_2204 c5_i32_2203
  let c2_i32_2255 : BitVec 32 := 2#32
  let v4804 : BitVec 32 := Scalar.addi v4709 c2_i32_2255
  let c14_i32_2256 : BitVec 32 := 14#32
  let v4805 : BitVec 32 := Scalar.minsi v4804 c14_i32_2256
  let c256_i32_2259 : BitVec 32 := 256#32
  let v4809 : BitVec 32 := Scalar.muli v4805 c256_i32_2259
  v4809
def k0_mult142 : BitVec 32 :=
  let c2_i32_2204 : BitVec 32 := 2#32
  let c5_i32_2203 : BitVec 32 := 5#32
  let v4709 : BitVec 32 := Scalar.muli c2_i32_2204 c5_i32_2203
  let c1_i32_2278 : BitVec 32 := 1#32
  let v4839 : BitVec 32 := Scalar.addi v4709 c1_i32_2278
  let c14_i32_2279 : BitVec 32 := 14#32
  let v4840 : BitVec 32 := Scalar.minsi v4839 c14_i32_2279
  let c256_i32_2286 : BitVec 32 := 256#32
  let v4846 : BitVec 32 := Scalar.muli v4840 c256_i32_2286
  v4846
def k0_mult143 : BitVec 32 :=
  let c2_i32_2204 : BitVec 32 := 2#32
  let c5_i32_2203 : BitVec 32 := 5#32
  let v4709 : BitVec 32 := Scalar.muli c2_i32_2204 c5_i32_2203
  let c1_i32_2278 : BitVec 32 := 1#32
  let v4839 : BitVec 32 := Scalar.addi v4709 c1_i32_2278
  let c14_i32_2279 : BitVec 32 := 14#32
  let v4840 : BitVec 32 := Scalar.minsi v4839 c14_i32_2279
  let c1_i32_2280 : BitVec 32 := 1#32
  let v4841 : BitVec 32 := Scalar.addi v4840 c1_i32_2280
  let c1024_i32_2287 : BitVec 32 := 1024#32
  let v4848 : BitVec 32 := Scalar.muli v4841 c1024_i32_2287
  v4848
def k0_mult144 : BitVec 32 :=
  let c2_i32_2204 : BitVec 32 := 2#32
  let c5_i32_2203 : BitVec 32 := 5#32
  let v4709 : BitVec 32 := Scalar.muli c2_i32_2204 c5_i32_2203
  let c1_i32_2278 : BitVec 32 := 1#32
  let v4839 : BitVec 32 := Scalar.addi v4709 c1_i32_2278
  let c14_i32_2279 : BitVec 32 := 14#32
  let v4840 : BitVec 32 := Scalar.minsi v4839 c14_i32_2279
  let c1_i32_2280 : BitVec 32 := 1#32
  let v4841 : BitVec 32 := Scalar.addi v4840 c1_i32_2280
  let c1024_i32_2288 : BitVec 32 := 1024#32
  let v4850 : BitVec 32 := Scalar.muli v4841 c1024_i32_2288
  v4850
def k0_mult145 : BitVec 32 :=
  let c2_i32_2307 : BitVec 32 := 2#32
  let c6_i32_2306 : BitVec 32 := 6#32
  let v4899 : BitVec 32 := Scalar.muli c2_i32_2307 c6_i32_2306
  let c1_i32_2308 : BitVec 32 := 1#32
  let v4900 : BitVec 32 := Scalar.addi v4899 c1_i32_2308
  let c14_i32_2309 : BitVec 32 := 14#32
  let v4901 : BitVec 32 := Scalar.minsi v4900 c14_i32_2309
  let c1_i32_2310 : BitVec 32 := 1#32
  let v4902 : BitVec 32 := Scalar.addi v4901 c1_i32_2310
  let c256_i32_2311 : BitVec 32 := 256#32
  let v4903 : BitVec 32 := Scalar.muli v4902 c256_i32_2311
  v4903
def k0_mult146 : BitVec 32 :=
  let c2_i32_2307 : BitVec 32 := 2#32
  let c6_i32_2306 : BitVec 32 := 6#32
  let v4899 : BitVec 32 := Scalar.muli c2_i32_2307 c6_i32_2306
  let c1_i32_2308 : BitVec 32 := 1#32
  let v4900 : BitVec 32 := Scalar.addi v4899 c1_i32_2308
  let c14_i32_2309 : BitVec 32 := 14#32
  let v4901 : BitVec 32 := Scalar.minsi v4900 c14_i32_2309
  let c256_i32_2312 : BitVec 32 := 256#32
  let v4905 : BitVec 32 := Scalar.muli v4901 c256_i32_2312
  v4905
def k0_mult147 : BitVec 32 :=
  let c2_i32_2307 : BitVec 32 := 2#32
  let c6_i32_2306 : BitVec 32 := 6#32
  let v4899 : BitVec 32 := Scalar.muli c2_i32_2307 c6_i32_2306
  let c14_i32_2331 : BitVec 32 := 14#32
  let v4935 : BitVec 32 := Scalar.minsi v4899 c14_i32_2331
  let c256_i32_2338 : BitVec 32 := 256#32
  let v4941 : BitVec 32 := Scalar.muli v4935 c256_i32_2338
  v4941
def k0_mult148 : BitVec 32 :=
  let c2_i32_2307 : BitVec 32 := 2#32
  let c6_i32_2306 : BitVec 32 := 6#32
  let v4899 : BitVec 32 := Scalar.muli c2_i32_2307 c6_i32_2306
  let c14_i32_2331 : BitVec 32 := 14#32
  let v4935 : BitVec 32 := Scalar.minsi v4899 c14_i32_2331
  let c1_i32_2332 : BitVec 32 := 1#32
  let v4936 : BitVec 32 := Scalar.addi v4935 c1_i32_2332
  let c1024_i32_2339 : BitVec 32 := 1024#32
  let v4943 : BitVec 32 := Scalar.muli v4936 c1024_i32_2339
  v4943
def k0_mult149 : BitVec 32 :=
  let c2_i32_2307 : BitVec 32 := 2#32
  let c6_i32_2306 : BitVec 32 := 6#32
  let v4899 : BitVec 32 := Scalar.muli c2_i32_2307 c6_i32_2306
  let c14_i32_2331 : BitVec 32 := 14#32
  let v4935 : BitVec 32 := Scalar.minsi v4899 c14_i32_2331
  let c1_i32_2332 : BitVec 32 := 1#32
  let v4936 : BitVec 32 := Scalar.addi v4935 c1_i32_2332
  let c1024_i32_2340 : BitVec 32 := 1024#32
  let v4945 : BitVec 32 := Scalar.muli v4936 c1024_i32_2340
  v4945
def k0_mult150 : BitVec 32 :=
  let c2_i32_2307 : BitVec 32 := 2#32
  let c6_i32_2306 : BitVec 32 := 6#32
  let v4899 : BitVec 32 := Scalar.muli c2_i32_2307 c6_i32_2306
  let c2_i32_2358 : BitVec 32 := 2#32
  let v4994 : BitVec 32 := Scalar.addi v4899 c2_i32_2358
  let c14_i32_2359 : BitVec 32 := 14#32
  let v4995 : BitVec 32 := Scalar.minsi v4994 c14_i32_2359
  let c1_i32_2360 : BitVec 32 := 1#32
  let v4996 : BitVec 32 := Scalar.addi v4995 c1_i32_2360
  let c256_i32_2361 : BitVec 32 := 256#32
  let v4997 : BitVec 32 := Scalar.muli v4996 c256_i32_2361
  v4997
def k0_mult151 : BitVec 32 :=
  let c2_i32_2307 : BitVec 32 := 2#32
  let c6_i32_2306 : BitVec 32 := 6#32
  let v4899 : BitVec 32 := Scalar.muli c2_i32_2307 c6_i32_2306
  let c2_i32_2358 : BitVec 32 := 2#32
  let v4994 : BitVec 32 := Scalar.addi v4899 c2_i32_2358
  let c14_i32_2359 : BitVec 32 := 14#32
  let v4995 : BitVec 32 := Scalar.minsi v4994 c14_i32_2359
  let c256_i32_2362 : BitVec 32 := 256#32
  let v4999 : BitVec 32 := Scalar.muli v4995 c256_i32_2362
  v4999
def k0_mult152 : BitVec 32 :=
  let c2_i32_2307 : BitVec 32 := 2#32
  let c6_i32_2306 : BitVec 32 := 6#32
  let v4899 : BitVec 32 := Scalar.muli c2_i32_2307 c6_i32_2306
  let c1_i32_2381 : BitVec 32 := 1#32
  let v5029 : BitVec 32 := Scalar.addi v4899 c1_i32_2381
  let c14_i32_2382 : BitVec 32 := 14#32
  let v5030 : BitVec 32 := Scalar.minsi v5029 c14_i32_2382
  let c256_i32_2389 : BitVec 32 := 256#32
  let v5036 : BitVec 32 := Scalar.muli v5030 c256_i32_2389
  v5036
def k0_mult153 : BitVec 32 :=
  let c2_i32_2307 : BitVec 32 := 2#32
  let c6_i32_2306 : BitVec 32 := 6#32
  let v4899 : BitVec 32 := Scalar.muli c2_i32_2307 c6_i32_2306
  let c1_i32_2381 : BitVec 32 := 1#32
  let v5029 : BitVec 32 := Scalar.addi v4899 c1_i32_2381
  let c14_i32_2382 : BitVec 32 := 14#32
  let v5030 : BitVec 32 := Scalar.minsi v5029 c14_i32_2382
  let c1_i32_2383 : BitVec 32 := 1#32
  let v5031 : BitVec 32 := Scalar.addi v5030 c1_i32_2383
  let c1024_i32_2390 : BitVec 32 := 1024#32
  let v5038 : BitVec 32 := Scalar.muli v5031 c1024_i32_2390
  v5038
def k0_mult154 : BitVec 32 :=
  let c2_i32_2307 : BitVec 32 := 2#32
  let c6_i32_2306 : BitVec 32 := 6#32
  let v4899 : BitVec 32 := Scalar.muli c2_i32_2307 c6_i32_2306
  let c1_i32_2381 : BitVec 32 := 1#32
  let v5029 : BitVec 32 := Scalar.addi v4899 c1_i32_2381
  let c14_i32_2382 : BitVec 32 := 14#32
  let v5030 : BitVec 32 := Scalar.minsi v5029 c14_i32_2382
  let c1_i32_2383 : BitVec 32 := 1#32
  let v5031 : BitVec 32 := Scalar.addi v5030 c1_i32_2383
  let c1024_i32_2391 : BitVec 32 := 1024#32
  let v5040 : BitVec 32 := Scalar.muli v5031 c1024_i32_2391
  v5040
def k0_mult155 : BitVec 32 :=
  let c14_i32_2410 : BitVec 32 := 14#32
  let c14_i32_2411 : BitVec 32 := 14#32
  let v5089 : BitVec 32 := Scalar.minsi c14_i32_2410 c14_i32_2411
  let c256_i32_2418 : BitVec 32 := 256#32
  let v5095 : BitVec 32 := Scalar.muli v5089 c256_i32_2418
  v5095
def k0_mult156 : BitVec 32 :=
  let c14_i32_2410 : BitVec 32 := 14#32
  let c14_i32_2411 : BitVec 32 := 14#32
  let v5089 : BitVec 32 := Scalar.minsi c14_i32_2410 c14_i32_2411
  let c1_i32_2412 : BitVec 32 := 1#32
  let v5090 : BitVec 32 := Scalar.addi v5089 c1_i32_2412
  let c1024_i32_2419 : BitVec 32 := 1024#32
  let v5097 : BitVec 32 := Scalar.muli v5090 c1024_i32_2419
  v5097
def k0_mult157 : BitVec 32 :=
  let c14_i32_2410 : BitVec 32 := 14#32
  let c14_i32_2411 : BitVec 32 := 14#32
  let v5089 : BitVec 32 := Scalar.minsi c14_i32_2410 c14_i32_2411
  let c1_i32_2412 : BitVec 32 := 1#32
  let v5090 : BitVec 32 := Scalar.addi v5089 c1_i32_2412
  let c1024_i32_2420 : BitVec 32 := 1024#32
  let v5099 : BitVec 32 := Scalar.muli v5090 c1024_i32_2420
  v5099
def k0_off42 : Fin 2 → Nat :=
  let c0_2421 : Index := 0#32
  let c14_i32_2410 : BitVec 32 := 14#32
  let c14_i32_2411 : BitVec 32 := 14#32
  let v5089 : BitVec 32 := Scalar.minsi c14_i32_2410 c14_i32_2411
  let c1_i32_2412 : BitVec 32 := 1#32
  let v5090 : BitVec 32 := Scalar.addi v5089 c1_i32_2412
  let c1024_i32_2419 : BitVec 32 := 1024#32
  let v5097 : BitVec 32 := Scalar.muli v5090 c1024_i32_2419
  let v5098 : BitVec 32 := v5097
  let v5101 : Index := Scalar.indexCast v5098
  ![0, v5101.toNat]
def k0_off43 : Fin 2 → Nat :=
  let c0_2423 : Index := 0#32
  let c14_i32_2410 : BitVec 32 := 14#32
  let c14_i32_2411 : BitVec 32 := 14#32
  let v5089 : BitVec 32 := Scalar.minsi c14_i32_2410 c14_i32_2411
  let c1_i32_2412 : BitVec 32 := 1#32
  let v5090 : BitVec 32 := Scalar.addi v5089 c1_i32_2412
  let c1024_i32_2420 : BitVec 32 := 1024#32
  let v5099 : BitVec 32 := Scalar.muli v5090 c1024_i32_2420
  let v5100 : BitVec 32 := v5099
  let v5114 : Index := Scalar.indexCast v5100
  ![0, v5114.toNat]
def k0_off44 : Fin 3 → Nat :=
  let c0_2424 : Index := 0#32
  let c0_2425 : Index := 0#32
  let c14_i32_2410 : BitVec 32 := 14#32
  let c14_i32_2411 : BitVec 32 := 14#32
  let v5089 : BitVec 32 := Scalar.minsi c14_i32_2410 c14_i32_2411
  let c256_i32_2418 : BitVec 32 := 256#32
  let v5095 : BitVec 32 := Scalar.muli v5089 c256_i32_2418
  let v5096 : BitVec 32 := v5095
  let v5118 : Index := Scalar.indexCast v5096
  ![0, 0, v5118.toNat]
def k0_off45 : Fin 3 → Nat :=
  let c1_2427 : Index := 1#32
  let c0_2428 : Index := 0#32
  let c14_i32_2410 : BitVec 32 := 14#32
  let c14_i32_2411 : BitVec 32 := 14#32
  let v5089 : BitVec 32 := Scalar.minsi c14_i32_2410 c14_i32_2411
  let c256_i32_2418 : BitVec 32 := 256#32
  let v5095 : BitVec 32 := Scalar.muli v5089 c256_i32_2418
  let v5096 : BitVec 32 := v5095
  let v5123 : Index := Scalar.indexCast v5096
  ![1, 0, v5123.toNat]
def k0_off46 : Fin 3 → Nat :=
  let c2_2430 : Index := 2#32
  let c0_2431 : Index := 0#32
  let c14_i32_2410 : BitVec 32 := 14#32
  let c14_i32_2411 : BitVec 32 := 14#32
  let v5089 : BitVec 32 := Scalar.minsi c14_i32_2410 c14_i32_2411
  let c256_i32_2418 : BitVec 32 := 256#32
  let v5095 : BitVec 32 := Scalar.muli v5089 c256_i32_2418
  let v5096 : BitVec 32 := v5095
  let v5128 : Index := Scalar.indexCast v5096
  ![2, 0, v5128.toNat]
def k0_off47 : Fin 3 → Nat :=
  let c3_2433 : Index := 3#32
  let c0_2434 : Index := 0#32
  let c14_i32_2410 : BitVec 32 := 14#32
  let c14_i32_2411 : BitVec 32 := 14#32
  let v5089 : BitVec 32 := Scalar.minsi c14_i32_2410 c14_i32_2411
  let c256_i32_2418 : BitVec 32 := 256#32
  let v5095 : BitVec 32 := Scalar.muli v5089 c256_i32_2418
  let v5096 : BitVec 32 := v5095
  let v5133 : Index := Scalar.indexCast v5096
  ![3, 0, v5133.toNat]
def k0_off48 : Fin 1 → Nat :=
  let c0_i32_2438 : BitVec 32 := 0#32
  let c104_i32 : BitVec 32 := 104#32
  let v5148 : BitVec 32 := Scalar.minsi c0_i32_2438 c104_i32
  let v5149 : Index := Scalar.indexCast v5148
  ![v5149.toNat]
def k0_mult158 (v5150 : BitVec 32) : BitVec 32 :=
  let c256_i32_2439 : BitVec 32 := 256#32
  let v5153 : BitVec 32 := Scalar.muli v5150 c256_i32_2439
  v5153

def k0_mult159 (v5152 : BitVec 32) : BitVec 32 :=
  let c256_i32_2440 : BitVec 32 := 256#32
  let v5155 : BitVec 32 := Scalar.muli v5152 c256_i32_2440
  v5155

def k0_off49 (v5152 : BitVec 32) : Fin 2 → Nat :=
  let c256_i32_2440 : BitVec 32 := 256#32
  let v5155 : BitVec 32 := Scalar.muli v5152 c256_i32_2440
  let v5156 : BitVec 32 := v5155
  let v5157 : Index := Scalar.indexCast v5156
  let c0_2441 : Index := 0#32
  ![v5157.toNat, 0]
def k0_off50 (v5150 : BitVec 32) : Fin 3 → Nat :=
  let c0_2442 : Index := 0#32
  let c0_2443 : Index := 0#32
  let c256_i32_2439 : BitVec 32 := 256#32
  let v5153 : BitVec 32 := Scalar.muli v5150 c256_i32_2439
  let v5154 : BitVec 32 := v5153
  let v5159 : Index := Scalar.indexCast v5154
  ![0, 0, v5159.toNat]
def k0_off51 (v5152 : BitVec 32) : Fin 2 → Nat :=
  let c256_i32_2440 : BitVec 32 := 256#32
  let v5155 : BitVec 32 := Scalar.muli v5152 c256_i32_2440
  let v5156 : BitVec 32 := v5155
  let v5163 : Index := Scalar.indexCast v5156
  let c128_2445 : Index := 128#32
  ![v5163.toNat, 128]
def k0_off52 (v5150 : BitVec 32) : Fin 3 → Nat :=
  let c1_2446 : Index := 1#32
  let c0_2447 : Index := 0#32
  let c256_i32_2439 : BitVec 32 := 256#32
  let v5153 : BitVec 32 := Scalar.muli v5150 c256_i32_2439
  let v5154 : BitVec 32 := v5153
  let v5165 : Index := Scalar.indexCast v5154
  ![1, 0, v5165.toNat]
def k0_off53 (v5152 : BitVec 32) : Fin 2 → Nat :=
  let c256_i32_2440 : BitVec 32 := 256#32
  let v5155 : BitVec 32 := Scalar.muli v5152 c256_i32_2440
  let v5156 : BitVec 32 := v5155
  let v5169 : Index := Scalar.indexCast v5156
  let c256_2449 : Index := 256#32
  ![v5169.toNat, 256]
def k0_off54 (v5150 : BitVec 32) : Fin 3 → Nat :=
  let c2_2450 : Index := 2#32
  let c0_2451 : Index := 0#32
  let c256_i32_2439 : BitVec 32 := 256#32
  let v5153 : BitVec 32 := Scalar.muli v5150 c256_i32_2439
  let v5154 : BitVec 32 := v5153
  let v5171 : Index := Scalar.indexCast v5154
  ![2, 0, v5171.toNat]
def k0_off55 (v5152 : BitVec 32) : Fin 2 → Nat :=
  let c256_i32_2440 : BitVec 32 := 256#32
  let v5155 : BitVec 32 := Scalar.muli v5152 c256_i32_2440
  let v5156 : BitVec 32 := v5155
  let v5175 : Index := Scalar.indexCast v5156
  let c384_2453 : Index := 384#32
  ![v5175.toNat, 384]

def k0_chk2 (v5152 : BitVec 32) : Prop :=
  (256 ∣ (k0_mult159 v5152).toNat) ∧
  (∀ a, (k0_off49 v5152) a + S256x128.size a ≤ S4096x512.size a) ∧
  (∀ a, (k0_off51 v5152) a + S256x128.size a ≤ S4096x512.size a) ∧
  (∀ a, (k0_off53 v5152) a + S256x128.size a ≤ S4096x512.size a) ∧
  (∀ a, (k0_off55 v5152) a + S256x128.size a ≤ S4096x512.size a)
theorem k0_mult159_dvd : ∀ (v5152 : BitVec 32) (k0_hw2 : k0_chk2 v5152), 256 ∣ (k0_mult159 v5152).toNat := fun v5152 k0_hw2 => k0_hw2.1
theorem k0_off49_inb : ∀ (v5152 : BitVec 32) (k0_hw2 : k0_chk2 v5152), ∀ a, (k0_off49 v5152) a + S256x128.size a ≤ S4096x512.size a := fun v5152 k0_hw2 => k0_hw2.2.1
theorem k0_off51_inb : ∀ (v5152 : BitVec 32) (k0_hw2 : k0_chk2 v5152), ∀ a, (k0_off51 v5152) a + S256x128.size a ≤ S4096x512.size a := fun v5152 k0_hw2 => k0_hw2.2.2.1
theorem k0_off53_inb : ∀ (v5152 : BitVec 32) (k0_hw2 : k0_chk2 v5152), ∀ a, (k0_off53 v5152) a + S256x128.size a ≤ S4096x512.size a := fun v5152 k0_hw2 => k0_hw2.2.2.2.1
theorem k0_off55_inb : ∀ (v5152 : BitVec 32) (k0_hw2 : k0_chk2 v5152), ∀ a, (k0_off55 v5152) a + S256x128.size a ≤ S4096x512.size a := fun v5152 k0_hw2 => k0_hw2.2.2.2.2

def k0_off56 (v5150 : BitVec 32) : Fin 3 → Nat :=
  let c3_2454 : Index := 3#32
  let c0_2455 : Index := 0#32
  let c256_i32_2439 : BitVec 32 := 256#32
  let v5153 : BitVec 32 := Scalar.muli v5150 c256_i32_2439
  let v5154 : BitVec 32 := v5153
  let v5177 : Index := Scalar.indexCast v5154
  ![3, 0, v5177.toNat]

def k0_chk1 (v5150 : BitVec 32) : Prop :=
  (256 ∣ (k0_mult158 v5150).toNat) ∧
  (∀ a, (k0_off50 v5150) a + S1x128x256.size a ≤ S4x128x4096.size a) ∧
  (∀ a, (k0_off52 v5150) a + S1x128x256.size a ≤ S4x128x4096.size a) ∧
  (∀ a, (k0_off54 v5150) a + S1x128x256.size a ≤ S4x128x4096.size a) ∧
  (∀ a, (k0_off56 v5150) a + S1x128x256.size a ≤ S4x128x4096.size a)
theorem k0_mult158_dvd : ∀ (v5150 : BitVec 32) (k0_hw1 : k0_chk1 v5150), 256 ∣ (k0_mult158 v5150).toNat := fun v5150 k0_hw1 => k0_hw1.1
theorem k0_off50_inb : ∀ (v5150 : BitVec 32) (k0_hw1 : k0_chk1 v5150), ∀ a, (k0_off50 v5150) a + S1x128x256.size a ≤ S4x128x4096.size a := fun v5150 k0_hw1 => k0_hw1.2.1
theorem k0_off52_inb : ∀ (v5150 : BitVec 32) (k0_hw1 : k0_chk1 v5150), ∀ a, (k0_off52 v5150) a + S1x128x256.size a ≤ S4x128x4096.size a := fun v5150 k0_hw1 => k0_hw1.2.2.1
theorem k0_off54_inb : ∀ (v5150 : BitVec 32) (k0_hw1 : k0_chk1 v5150), ∀ a, (k0_off54 v5150) a + S1x128x256.size a ≤ S4x128x4096.size a := fun v5150 k0_hw1 => k0_hw1.2.2.2.1
theorem k0_off56_inb : ∀ (v5150 : BitVec 32) (k0_hw1 : k0_chk1 v5150), ∀ a, (k0_off56 v5150) a + S1x128x256.size a ≤ S4x128x4096.size a := fun v5150 k0_hw1 => k0_hw1.2.2.2.2

@[reducible] def k0_t1_loop : Scf.Loop 32 :=
  let c0_i32_2459 : BitVec 32 := 0#32
  let c52_i32 : BitVec 32 := 52#32
  let v5185 : BitVec 32 := Scalar.addi c0_i32_2459 c52_i32
  let c1_i32_2460 : BitVec 32 := 1#32
  ⟨c0_i32_2459, v5185, c1_i32_2460⟩
def k0_off57 (k0_t1 : Fin k0_t1_loop.trips) : Fin 1 → Nat :=
  let c2_i32_2489 : BitVec 32 := 2#32
  let c0_i32_2459 : BitVec 32 := 0#32
  let c1_i32_2460 : BitVec 32 := 1#32
  let arg19 : BitVec 32 := Scf.iv c0_i32_2459 c1_i32_2460 k0_t1
  let v5246 : BitVec 32 := Scalar.muli c2_i32_2489 arg19
  let c1_i32_2490 : BitVec 32 := 1#32
  let v5247 : BitVec 32 := Scalar.addi v5246 c1_i32_2490
  let c104_i32_2491 : BitVec 32 := 104#32
  let v5248 : BitVec 32 := Scalar.minsi v5247 c104_i32_2491
  let v5249 : Index := Scalar.indexCast v5248
  ![v5249.toNat]
def k0_mult160 (v5250 : BitVec 32) : BitVec 32 :=
  let c256_i32_2492 : BitVec 32 := 256#32
  let v5253 : BitVec 32 := Scalar.muli v5250 c256_i32_2492
  v5253

def k0_mult161 (v5252 : BitVec 32) : BitVec 32 :=
  let c256_i32_2493 : BitVec 32 := 256#32
  let v5255 : BitVec 32 := Scalar.muli v5252 c256_i32_2493
  v5255

def k0_off58 (v5252 : BitVec 32) : Fin 2 → Nat :=
  let c256_i32_2493 : BitVec 32 := 256#32
  let v5255 : BitVec 32 := Scalar.muli v5252 c256_i32_2493
  let v5256 : BitVec 32 := v5255
  let v5257 : Index := Scalar.indexCast v5256
  let c0_2494 : Index := 0#32
  ![v5257.toNat, 0]
def k0_off59 (v5250 : BitVec 32) : Fin 3 → Nat :=
  let c0_2495 : Index := 0#32
  let c0_2496 : Index := 0#32
  let c256_i32_2492 : BitVec 32 := 256#32
  let v5253 : BitVec 32 := Scalar.muli v5250 c256_i32_2492
  let v5254 : BitVec 32 := v5253
  let v5259 : Index := Scalar.indexCast v5254
  ![0, 0, v5259.toNat]
def k0_off60 (v5252 : BitVec 32) : Fin 2 → Nat :=
  let c256_i32_2493 : BitVec 32 := 256#32
  let v5255 : BitVec 32 := Scalar.muli v5252 c256_i32_2493
  let v5256 : BitVec 32 := v5255
  let v5263 : Index := Scalar.indexCast v5256
  let c128_2498 : Index := 128#32
  ![v5263.toNat, 128]
def k0_off61 (v5250 : BitVec 32) : Fin 3 → Nat :=
  let c1_2499 : Index := 1#32
  let c0_2500 : Index := 0#32
  let c256_i32_2492 : BitVec 32 := 256#32
  let v5253 : BitVec 32 := Scalar.muli v5250 c256_i32_2492
  let v5254 : BitVec 32 := v5253
  let v5265 : Index := Scalar.indexCast v5254
  ![1, 0, v5265.toNat]
def k0_off62 (v5252 : BitVec 32) : Fin 2 → Nat :=
  let c256_i32_2493 : BitVec 32 := 256#32
  let v5255 : BitVec 32 := Scalar.muli v5252 c256_i32_2493
  let v5256 : BitVec 32 := v5255
  let v5269 : Index := Scalar.indexCast v5256
  let c256_2502 : Index := 256#32
  ![v5269.toNat, 256]
def k0_off63 (v5250 : BitVec 32) : Fin 3 → Nat :=
  let c2_2503 : Index := 2#32
  let c0_2504 : Index := 0#32
  let c256_i32_2492 : BitVec 32 := 256#32
  let v5253 : BitVec 32 := Scalar.muli v5250 c256_i32_2492
  let v5254 : BitVec 32 := v5253
  let v5271 : Index := Scalar.indexCast v5254
  ![2, 0, v5271.toNat]
def k0_off64 (v5252 : BitVec 32) : Fin 2 → Nat :=
  let c256_i32_2493 : BitVec 32 := 256#32
  let v5255 : BitVec 32 := Scalar.muli v5252 c256_i32_2493
  let v5256 : BitVec 32 := v5255
  let v5275 : Index := Scalar.indexCast v5256
  let c384_2506 : Index := 384#32
  ![v5275.toNat, 384]

def k0_chk4 (v5252 : BitVec 32) : Prop :=
  (256 ∣ (k0_mult161 v5252).toNat) ∧
  (∀ a, (k0_off58 v5252) a + S256x128.size a ≤ S4096x512.size a) ∧
  (∀ a, (k0_off60 v5252) a + S256x128.size a ≤ S4096x512.size a) ∧
  (∀ a, (k0_off62 v5252) a + S256x128.size a ≤ S4096x512.size a) ∧
  (∀ a, (k0_off64 v5252) a + S256x128.size a ≤ S4096x512.size a)
theorem k0_mult161_dvd : ∀ (v5252 : BitVec 32) (k0_hw4 : k0_chk4 v5252), 256 ∣ (k0_mult161 v5252).toNat := fun v5252 k0_hw4 => k0_hw4.1
theorem k0_off58_inb : ∀ (v5252 : BitVec 32) (k0_hw4 : k0_chk4 v5252), ∀ a, (k0_off58 v5252) a + S256x128.size a ≤ S4096x512.size a := fun v5252 k0_hw4 => k0_hw4.2.1
theorem k0_off60_inb : ∀ (v5252 : BitVec 32) (k0_hw4 : k0_chk4 v5252), ∀ a, (k0_off60 v5252) a + S256x128.size a ≤ S4096x512.size a := fun v5252 k0_hw4 => k0_hw4.2.2.1
theorem k0_off62_inb : ∀ (v5252 : BitVec 32) (k0_hw4 : k0_chk4 v5252), ∀ a, (k0_off62 v5252) a + S256x128.size a ≤ S4096x512.size a := fun v5252 k0_hw4 => k0_hw4.2.2.2.1
theorem k0_off64_inb : ∀ (v5252 : BitVec 32) (k0_hw4 : k0_chk4 v5252), ∀ a, (k0_off64 v5252) a + S256x128.size a ≤ S4096x512.size a := fun v5252 k0_hw4 => k0_hw4.2.2.2.2

def k0_off65 (v5250 : BitVec 32) : Fin 3 → Nat :=
  let c3_2507 : Index := 3#32
  let c0_2508 : Index := 0#32
  let c256_i32_2492 : BitVec 32 := 256#32
  let v5253 : BitVec 32 := Scalar.muli v5250 c256_i32_2492
  let v5254 : BitVec 32 := v5253
  let v5277 : Index := Scalar.indexCast v5254
  ![3, 0, v5277.toNat]

def k0_chk3 (v5250 : BitVec 32) : Prop :=
  (256 ∣ (k0_mult160 v5250).toNat) ∧
  (∀ a, (k0_off59 v5250) a + S1x128x256.size a ≤ S4x128x4096.size a) ∧
  (∀ a, (k0_off61 v5250) a + S1x128x256.size a ≤ S4x128x4096.size a) ∧
  (∀ a, (k0_off63 v5250) a + S1x128x256.size a ≤ S4x128x4096.size a) ∧
  (∀ a, (k0_off65 v5250) a + S1x128x256.size a ≤ S4x128x4096.size a)
theorem k0_mult160_dvd : ∀ (v5250 : BitVec 32) (k0_hw3 : k0_chk3 v5250), 256 ∣ (k0_mult160 v5250).toNat := fun v5250 k0_hw3 => k0_hw3.1
theorem k0_off59_inb : ∀ (v5250 : BitVec 32) (k0_hw3 : k0_chk3 v5250), ∀ a, (k0_off59 v5250) a + S1x128x256.size a ≤ S4x128x4096.size a := fun v5250 k0_hw3 => k0_hw3.2.1
theorem k0_off61_inb : ∀ (v5250 : BitVec 32) (k0_hw3 : k0_chk3 v5250), ∀ a, (k0_off61 v5250) a + S1x128x256.size a ≤ S4x128x4096.size a := fun v5250 k0_hw3 => k0_hw3.2.2.1
theorem k0_off63_inb : ∀ (v5250 : BitVec 32) (k0_hw3 : k0_chk3 v5250), ∀ a, (k0_off63 v5250) a + S1x128x256.size a ≤ S4x128x4096.size a := fun v5250 k0_hw3 => k0_hw3.2.2.2.1
theorem k0_off65_inb : ∀ (v5250 : BitVec 32) (k0_hw3 : k0_chk3 v5250), ∀ a, (k0_off65 v5250) a + S1x128x256.size a ≤ S4x128x4096.size a := fun v5250 k0_hw3 => k0_hw3.2.2.2.2

def k0_off66 (k0_t1 : Fin k0_t1_loop.trips) : Fin 1 → Nat :=
  let c2_i32_2489 : BitVec 32 := 2#32
  let c0_i32_2459 : BitVec 32 := 0#32
  let c1_i32_2460 : BitVec 32 := 1#32
  let arg19 : BitVec 32 := Scf.iv c0_i32_2459 c1_i32_2460 k0_t1
  let v5246 : BitVec 32 := Scalar.muli c2_i32_2489 arg19
  let c104_i32_2512 : BitVec 32 := 104#32
  let v5285 : BitVec 32 := Scalar.minsi v5246 c104_i32_2512
  let v5286 : Index := Scalar.indexCast v5285
  ![v5286.toNat]
def k0_mult162 (v5289 : BitVec 32) : BitVec 32 :=
  let c256_i32_2515 : BitVec 32 := 256#32
  let v5291 : BitVec 32 := Scalar.muli v5289 c256_i32_2515
  v5291

def k0_mult163 (v5287 : BitVec 32) : BitVec 32 :=
  let c1024_i32_2516 : BitVec 32 := 1024#32
  let v5293 : BitVec 32 := Scalar.muli v5287 c1024_i32_2516
  v5293

def k0_mult164 (v5287 : BitVec 32) : BitVec 32 :=
  let c1024_i32_2517 : BitVec 32 := 1024#32
  let v5295 : BitVec 32 := Scalar.muli v5287 c1024_i32_2517
  v5295
def k0_off67 (v5287 : BitVec 32) : Fin 2 → Nat :=
  let c0_2518 : Index := 0#32
  let c1024_i32_2516 : BitVec 32 := 1024#32
  let v5293 : BitVec 32 := Scalar.muli v5287 c1024_i32_2516
  let v5294 : BitVec 32 := v5293
  let v5297 : Index := Scalar.indexCast v5294
  ![0, v5297.toNat]
def k0_off68 (v5287 : BitVec 32) : Fin 2 → Nat :=
  let c0_2520 : Index := 0#32
  let c1024_i32_2517 : BitVec 32 := 1024#32
  let v5295 : BitVec 32 := Scalar.muli v5287 c1024_i32_2517
  let v5296 : BitVec 32 := v5295
  let v5310 : Index := Scalar.indexCast v5296
  ![0, v5310.toNat]

def k0_chk6 (v5287 : BitVec 32) : Prop :=
  (1024 ∣ (k0_mult163 v5287).toNat) ∧
  (1024 ∣ (k0_mult164 v5287).toNat) ∧
  (∀ a, (k0_off67 v5287) a + S1x1024.size a ≤ S1x16384.size a) ∧
  (∀ a, (k0_off68 v5287) a + S80x1024.size a ≤ S80x16384.size a)
theorem k0_mult163_dvd : ∀ (v5287 : BitVec 32) (k0_hw6 : k0_chk6 v5287), 1024 ∣ (k0_mult163 v5287).toNat := fun v5287 k0_hw6 => k0_hw6.1
theorem k0_mult164_dvd : ∀ (v5287 : BitVec 32) (k0_hw6 : k0_chk6 v5287), 1024 ∣ (k0_mult164 v5287).toNat := fun v5287 k0_hw6 => k0_hw6.2.1
theorem k0_off67_inb : ∀ (v5287 : BitVec 32) (k0_hw6 : k0_chk6 v5287), ∀ a, (k0_off67 v5287) a + S1x1024.size a ≤ S1x16384.size a := fun v5287 k0_hw6 => k0_hw6.2.2.1
theorem k0_off68_inb : ∀ (v5287 : BitVec 32) (k0_hw6 : k0_chk6 v5287), ∀ a, (k0_off68 v5287) a + S80x1024.size a ≤ S80x16384.size a := fun v5287 k0_hw6 => k0_hw6.2.2.2

def k0_off69 (v5289 : BitVec 32) : Fin 3 → Nat :=
  let c0_2521 : Index := 0#32
  let c0_2522 : Index := 0#32
  let c256_i32_2515 : BitVec 32 := 256#32
  let v5291 : BitVec 32 := Scalar.muli v5289 c256_i32_2515
  let v5292 : BitVec 32 := v5291
  let v5314 : Index := Scalar.indexCast v5292
  ![0, 0, v5314.toNat]
def k0_off70 (v5289 : BitVec 32) : Fin 3 → Nat :=
  let c1_2524 : Index := 1#32
  let c0_2525 : Index := 0#32
  let c256_i32_2515 : BitVec 32 := 256#32
  let v5291 : BitVec 32 := Scalar.muli v5289 c256_i32_2515
  let v5292 : BitVec 32 := v5291
  let v5319 : Index := Scalar.indexCast v5292
  ![1, 0, v5319.toNat]
def k0_off71 (v5289 : BitVec 32) : Fin 3 → Nat :=
  let c2_2527 : Index := 2#32
  let c0_2528 : Index := 0#32
  let c256_i32_2515 : BitVec 32 := 256#32
  let v5291 : BitVec 32 := Scalar.muli v5289 c256_i32_2515
  let v5292 : BitVec 32 := v5291
  let v5324 : Index := Scalar.indexCast v5292
  ![2, 0, v5324.toNat]
def k0_off72 (v5289 : BitVec 32) : Fin 3 → Nat :=
  let c3_2530 : Index := 3#32
  let c0_2531 : Index := 0#32
  let c256_i32_2515 : BitVec 32 := 256#32
  let v5291 : BitVec 32 := Scalar.muli v5289 c256_i32_2515
  let v5292 : BitVec 32 := v5291
  let v5329 : Index := Scalar.indexCast v5292
  ![3, 0, v5329.toNat]

def k0_chk5 (v5289 : BitVec 32) : Prop :=
  (256 ∣ (k0_mult162 v5289).toNat) ∧
  (∀ a, (k0_off69 v5289) a + S1x80x256.size a ≤ S4x80x4096.size a) ∧
  (∀ a, (k0_off70 v5289) a + S1x80x256.size a ≤ S4x80x4096.size a) ∧
  (∀ a, (k0_off71 v5289) a + S1x80x256.size a ≤ S4x80x4096.size a) ∧
  (∀ a, (k0_off72 v5289) a + S1x80x256.size a ≤ S4x80x4096.size a)
theorem k0_mult162_dvd : ∀ (v5289 : BitVec 32) (k0_hw5 : k0_chk5 v5289), 256 ∣ (k0_mult162 v5289).toNat := fun v5289 k0_hw5 => k0_hw5.1
theorem k0_off69_inb : ∀ (v5289 : BitVec 32) (k0_hw5 : k0_chk5 v5289), ∀ a, (k0_off69 v5289) a + S1x80x256.size a ≤ S4x80x4096.size a := fun v5289 k0_hw5 => k0_hw5.2.1
theorem k0_off70_inb : ∀ (v5289 : BitVec 32) (k0_hw5 : k0_chk5 v5289), ∀ a, (k0_off70 v5289) a + S1x80x256.size a ≤ S4x80x4096.size a := fun v5289 k0_hw5 => k0_hw5.2.2.1
theorem k0_off71_inb : ∀ (v5289 : BitVec 32) (k0_hw5 : k0_chk5 v5289), ∀ a, (k0_off71 v5289) a + S1x80x256.size a ≤ S4x80x4096.size a := fun v5289 k0_hw5 => k0_hw5.2.2.2.1
theorem k0_off72_inb : ∀ (v5289 : BitVec 32) (k0_hw5 : k0_chk5 v5289), ∀ a, (k0_off72 v5289) a + S1x80x256.size a ≤ S4x80x4096.size a := fun v5289 k0_hw5 => k0_hw5.2.2.2.2

def k0_off73 (k0_t1 : Fin k0_t1_loop.trips) : Fin 1 → Nat :=
  let c2_i32_2489 : BitVec 32 := 2#32
  let c0_i32_2459 : BitVec 32 := 0#32
  let c1_i32_2460 : BitVec 32 := 1#32
  let arg19 : BitVec 32 := Scf.iv c0_i32_2459 c1_i32_2460 k0_t1
  let v5246 : BitVec 32 := Scalar.muli c2_i32_2489 arg19
  let c2_i32_2535 : BitVec 32 := 2#32
  let v5344 : BitVec 32 := Scalar.addi v5246 c2_i32_2535
  let c104_i32_2536 : BitVec 32 := 104#32
  let v5345 : BitVec 32 := Scalar.minsi v5344 c104_i32_2536
  let v5346 : Index := Scalar.indexCast v5345
  ![v5346.toNat]
def k0_mult165 (v5347 : BitVec 32) : BitVec 32 :=
  let c256_i32_2537 : BitVec 32 := 256#32
  let v5350 : BitVec 32 := Scalar.muli v5347 c256_i32_2537
  v5350

def k0_mult166 (v5349 : BitVec 32) : BitVec 32 :=
  let c256_i32_2538 : BitVec 32 := 256#32
  let v5352 : BitVec 32 := Scalar.muli v5349 c256_i32_2538
  v5352

def k0_off74 (v5349 : BitVec 32) : Fin 2 → Nat :=
  let c256_i32_2538 : BitVec 32 := 256#32
  let v5352 : BitVec 32 := Scalar.muli v5349 c256_i32_2538
  let v5353 : BitVec 32 := v5352
  let v5354 : Index := Scalar.indexCast v5353
  let c0_2539 : Index := 0#32
  ![v5354.toNat, 0]
def k0_off75 (v5347 : BitVec 32) : Fin 3 → Nat :=
  let c0_2540 : Index := 0#32
  let c0_2541 : Index := 0#32
  let c256_i32_2537 : BitVec 32 := 256#32
  let v5350 : BitVec 32 := Scalar.muli v5347 c256_i32_2537
  let v5351 : BitVec 32 := v5350
  let v5356 : Index := Scalar.indexCast v5351
  ![0, 0, v5356.toNat]
def k0_off76 (v5349 : BitVec 32) : Fin 2 → Nat :=
  let c256_i32_2538 : BitVec 32 := 256#32
  let v5352 : BitVec 32 := Scalar.muli v5349 c256_i32_2538
  let v5353 : BitVec 32 := v5352
  let v5360 : Index := Scalar.indexCast v5353
  let c128_2543 : Index := 128#32
  ![v5360.toNat, 128]
def k0_off77 (v5347 : BitVec 32) : Fin 3 → Nat :=
  let c1_2544 : Index := 1#32
  let c0_2545 : Index := 0#32
  let c256_i32_2537 : BitVec 32 := 256#32
  let v5350 : BitVec 32 := Scalar.muli v5347 c256_i32_2537
  let v5351 : BitVec 32 := v5350
  let v5362 : Index := Scalar.indexCast v5351
  ![1, 0, v5362.toNat]
def k0_off78 (v5349 : BitVec 32) : Fin 2 → Nat :=
  let c256_i32_2538 : BitVec 32 := 256#32
  let v5352 : BitVec 32 := Scalar.muli v5349 c256_i32_2538
  let v5353 : BitVec 32 := v5352
  let v5366 : Index := Scalar.indexCast v5353
  let c256_2547 : Index := 256#32
  ![v5366.toNat, 256]
def k0_off79 (v5347 : BitVec 32) : Fin 3 → Nat :=
  let c2_2548 : Index := 2#32
  let c0_2549 : Index := 0#32
  let c256_i32_2537 : BitVec 32 := 256#32
  let v5350 : BitVec 32 := Scalar.muli v5347 c256_i32_2537
  let v5351 : BitVec 32 := v5350
  let v5368 : Index := Scalar.indexCast v5351
  ![2, 0, v5368.toNat]
def k0_off80 (v5349 : BitVec 32) : Fin 2 → Nat :=
  let c256_i32_2538 : BitVec 32 := 256#32
  let v5352 : BitVec 32 := Scalar.muli v5349 c256_i32_2538
  let v5353 : BitVec 32 := v5352
  let v5372 : Index := Scalar.indexCast v5353
  let c384_2551 : Index := 384#32
  ![v5372.toNat, 384]

def k0_chk8 (v5349 : BitVec 32) : Prop :=
  (256 ∣ (k0_mult166 v5349).toNat) ∧
  (∀ a, (k0_off74 v5349) a + S256x128.size a ≤ S4096x512.size a) ∧
  (∀ a, (k0_off76 v5349) a + S256x128.size a ≤ S4096x512.size a) ∧
  (∀ a, (k0_off78 v5349) a + S256x128.size a ≤ S4096x512.size a) ∧
  (∀ a, (k0_off80 v5349) a + S256x128.size a ≤ S4096x512.size a)
theorem k0_mult166_dvd : ∀ (v5349 : BitVec 32) (k0_hw8 : k0_chk8 v5349), 256 ∣ (k0_mult166 v5349).toNat := fun v5349 k0_hw8 => k0_hw8.1
theorem k0_off74_inb : ∀ (v5349 : BitVec 32) (k0_hw8 : k0_chk8 v5349), ∀ a, (k0_off74 v5349) a + S256x128.size a ≤ S4096x512.size a := fun v5349 k0_hw8 => k0_hw8.2.1
theorem k0_off76_inb : ∀ (v5349 : BitVec 32) (k0_hw8 : k0_chk8 v5349), ∀ a, (k0_off76 v5349) a + S256x128.size a ≤ S4096x512.size a := fun v5349 k0_hw8 => k0_hw8.2.2.1
theorem k0_off78_inb : ∀ (v5349 : BitVec 32) (k0_hw8 : k0_chk8 v5349), ∀ a, (k0_off78 v5349) a + S256x128.size a ≤ S4096x512.size a := fun v5349 k0_hw8 => k0_hw8.2.2.2.1
theorem k0_off80_inb : ∀ (v5349 : BitVec 32) (k0_hw8 : k0_chk8 v5349), ∀ a, (k0_off80 v5349) a + S256x128.size a ≤ S4096x512.size a := fun v5349 k0_hw8 => k0_hw8.2.2.2.2

def k0_off81 (v5347 : BitVec 32) : Fin 3 → Nat :=
  let c3_2552 : Index := 3#32
  let c0_2553 : Index := 0#32
  let c256_i32_2537 : BitVec 32 := 256#32
  let v5350 : BitVec 32 := Scalar.muli v5347 c256_i32_2537
  let v5351 : BitVec 32 := v5350
  let v5374 : Index := Scalar.indexCast v5351
  ![3, 0, v5374.toNat]

def k0_chk7 (v5347 : BitVec 32) : Prop :=
  (256 ∣ (k0_mult165 v5347).toNat) ∧
  (∀ a, (k0_off75 v5347) a + S1x128x256.size a ≤ S4x128x4096.size a) ∧
  (∀ a, (k0_off77 v5347) a + S1x128x256.size a ≤ S4x128x4096.size a) ∧
  (∀ a, (k0_off79 v5347) a + S1x128x256.size a ≤ S4x128x4096.size a) ∧
  (∀ a, (k0_off81 v5347) a + S1x128x256.size a ≤ S4x128x4096.size a)
theorem k0_mult165_dvd : ∀ (v5347 : BitVec 32) (k0_hw7 : k0_chk7 v5347), 256 ∣ (k0_mult165 v5347).toNat := fun v5347 k0_hw7 => k0_hw7.1
theorem k0_off75_inb : ∀ (v5347 : BitVec 32) (k0_hw7 : k0_chk7 v5347), ∀ a, (k0_off75 v5347) a + S1x128x256.size a ≤ S4x128x4096.size a := fun v5347 k0_hw7 => k0_hw7.2.1
theorem k0_off77_inb : ∀ (v5347 : BitVec 32) (k0_hw7 : k0_chk7 v5347), ∀ a, (k0_off77 v5347) a + S1x128x256.size a ≤ S4x128x4096.size a := fun v5347 k0_hw7 => k0_hw7.2.2.1
theorem k0_off79_inb : ∀ (v5347 : BitVec 32) (k0_hw7 : k0_chk7 v5347), ∀ a, (k0_off79 v5347) a + S1x128x256.size a ≤ S4x128x4096.size a := fun v5347 k0_hw7 => k0_hw7.2.2.2.1
theorem k0_off81_inb : ∀ (v5347 : BitVec 32) (k0_hw7 : k0_chk7 v5347), ∀ a, (k0_off81 v5347) a + S1x128x256.size a ≤ S4x128x4096.size a := fun v5347 k0_hw7 => k0_hw7.2.2.2.2

def k0_off82 (k0_t1 : Fin k0_t1_loop.trips) : Fin 1 → Nat :=
  let c2_i32_2489 : BitVec 32 := 2#32
  let c0_i32_2459 : BitVec 32 := 0#32
  let c1_i32_2460 : BitVec 32 := 1#32
  let arg19 : BitVec 32 := Scf.iv c0_i32_2459 c1_i32_2460 k0_t1
  let v5246 : BitVec 32 := Scalar.muli c2_i32_2489 arg19
  let c1_i32_2557 : BitVec 32 := 1#32
  let v5382 : BitVec 32 := Scalar.addi v5246 c1_i32_2557
  let c104_i32_2558 : BitVec 32 := 104#32
  let v5383 : BitVec 32 := Scalar.minsi v5382 c104_i32_2558
  let v5384 : Index := Scalar.indexCast v5383
  ![v5384.toNat]
def k0_mult167 (v5387 : BitVec 32) : BitVec 32 :=
  let c256_i32_2561 : BitVec 32 := 256#32
  let v5389 : BitVec 32 := Scalar.muli v5387 c256_i32_2561
  v5389

def k0_mult168 (v5385 : BitVec 32) : BitVec 32 :=
  let c1024_i32_2562 : BitVec 32 := 1024#32
  let v5391 : BitVec 32 := Scalar.muli v5385 c1024_i32_2562
  v5391

def k0_mult169 (v5385 : BitVec 32) : BitVec 32 :=
  let c1024_i32_2563 : BitVec 32 := 1024#32
  let v5393 : BitVec 32 := Scalar.muli v5385 c1024_i32_2563
  v5393
def k0_off83 (v5385 : BitVec 32) : Fin 2 → Nat :=
  let c0_2564 : Index := 0#32
  let c1024_i32_2562 : BitVec 32 := 1024#32
  let v5391 : BitVec 32 := Scalar.muli v5385 c1024_i32_2562
  let v5392 : BitVec 32 := v5391
  let v5395 : Index := Scalar.indexCast v5392
  ![0, v5395.toNat]
def k0_off84 (v5385 : BitVec 32) : Fin 2 → Nat :=
  let c0_2566 : Index := 0#32
  let c1024_i32_2563 : BitVec 32 := 1024#32
  let v5393 : BitVec 32 := Scalar.muli v5385 c1024_i32_2563
  let v5394 : BitVec 32 := v5393
  let v5408 : Index := Scalar.indexCast v5394
  ![0, v5408.toNat]

def k0_chk10 (v5385 : BitVec 32) : Prop :=
  (1024 ∣ (k0_mult168 v5385).toNat) ∧
  (1024 ∣ (k0_mult169 v5385).toNat) ∧
  (∀ a, (k0_off83 v5385) a + S1x1024.size a ≤ S1x16384.size a) ∧
  (∀ a, (k0_off84 v5385) a + S80x1024.size a ≤ S80x16384.size a)
theorem k0_mult168_dvd : ∀ (v5385 : BitVec 32) (k0_hw10 : k0_chk10 v5385), 1024 ∣ (k0_mult168 v5385).toNat := fun v5385 k0_hw10 => k0_hw10.1
theorem k0_mult169_dvd : ∀ (v5385 : BitVec 32) (k0_hw10 : k0_chk10 v5385), 1024 ∣ (k0_mult169 v5385).toNat := fun v5385 k0_hw10 => k0_hw10.2.1
theorem k0_off83_inb : ∀ (v5385 : BitVec 32) (k0_hw10 : k0_chk10 v5385), ∀ a, (k0_off83 v5385) a + S1x1024.size a ≤ S1x16384.size a := fun v5385 k0_hw10 => k0_hw10.2.2.1
theorem k0_off84_inb : ∀ (v5385 : BitVec 32) (k0_hw10 : k0_chk10 v5385), ∀ a, (k0_off84 v5385) a + S80x1024.size a ≤ S80x16384.size a := fun v5385 k0_hw10 => k0_hw10.2.2.2

def k0_off85 (v5387 : BitVec 32) : Fin 3 → Nat :=
  let c0_2567 : Index := 0#32
  let c0_2568 : Index := 0#32
  let c256_i32_2561 : BitVec 32 := 256#32
  let v5389 : BitVec 32 := Scalar.muli v5387 c256_i32_2561
  let v5390 : BitVec 32 := v5389
  let v5412 : Index := Scalar.indexCast v5390
  ![0, 0, v5412.toNat]
def k0_off86 (v5387 : BitVec 32) : Fin 3 → Nat :=
  let c1_2570 : Index := 1#32
  let c0_2571 : Index := 0#32
  let c256_i32_2561 : BitVec 32 := 256#32
  let v5389 : BitVec 32 := Scalar.muli v5387 c256_i32_2561
  let v5390 : BitVec 32 := v5389
  let v5417 : Index := Scalar.indexCast v5390
  ![1, 0, v5417.toNat]
def k0_off87 (v5387 : BitVec 32) : Fin 3 → Nat :=
  let c2_2573 : Index := 2#32
  let c0_2574 : Index := 0#32
  let c256_i32_2561 : BitVec 32 := 256#32
  let v5389 : BitVec 32 := Scalar.muli v5387 c256_i32_2561
  let v5390 : BitVec 32 := v5389
  let v5422 : Index := Scalar.indexCast v5390
  ![2, 0, v5422.toNat]
def k0_off88 (v5387 : BitVec 32) : Fin 3 → Nat :=
  let c3_2576 : Index := 3#32
  let c0_2577 : Index := 0#32
  let c256_i32_2561 : BitVec 32 := 256#32
  let v5389 : BitVec 32 := Scalar.muli v5387 c256_i32_2561
  let v5390 : BitVec 32 := v5389
  let v5427 : Index := Scalar.indexCast v5390
  ![3, 0, v5427.toNat]

def k0_chk9 (v5387 : BitVec 32) : Prop :=
  (256 ∣ (k0_mult167 v5387).toNat) ∧
  (∀ a, (k0_off85 v5387) a + S1x80x256.size a ≤ S4x80x4096.size a) ∧
  (∀ a, (k0_off86 v5387) a + S1x80x256.size a ≤ S4x80x4096.size a) ∧
  (∀ a, (k0_off87 v5387) a + S1x80x256.size a ≤ S4x80x4096.size a) ∧
  (∀ a, (k0_off88 v5387) a + S1x80x256.size a ≤ S4x80x4096.size a)
theorem k0_mult167_dvd : ∀ (v5387 : BitVec 32) (k0_hw9 : k0_chk9 v5387), 256 ∣ (k0_mult167 v5387).toNat := fun v5387 k0_hw9 => k0_hw9.1
theorem k0_off85_inb : ∀ (v5387 : BitVec 32) (k0_hw9 : k0_chk9 v5387), ∀ a, (k0_off85 v5387) a + S1x80x256.size a ≤ S4x80x4096.size a := fun v5387 k0_hw9 => k0_hw9.2.1
theorem k0_off86_inb : ∀ (v5387 : BitVec 32) (k0_hw9 : k0_chk9 v5387), ∀ a, (k0_off86 v5387) a + S1x80x256.size a ≤ S4x80x4096.size a := fun v5387 k0_hw9 => k0_hw9.2.2.1
theorem k0_off87_inb : ∀ (v5387 : BitVec 32) (k0_hw9 : k0_chk9 v5387), ∀ a, (k0_off87 v5387) a + S1x80x256.size a ≤ S4x80x4096.size a := fun v5387 k0_hw9 => k0_hw9.2.2.2.1
theorem k0_off88_inb : ∀ (v5387 : BitVec 32) (k0_hw9 : k0_chk9 v5387), ∀ a, (k0_off88 v5387) a + S1x80x256.size a ≤ S4x80x4096.size a := fun v5387 k0_hw9 => k0_hw9.2.2.2.2

def k0_off89 : Fin 1 → Nat :=
  let c104_i32_2462 : BitVec 32 := 104#32
  let c104_i32_2463 : BitVec 32 := 104#32
  let v5186 : BitVec 32 := Scalar.minsi c104_i32_2462 c104_i32_2463
  let v5187 : Index := Scalar.indexCast v5186
  ![v5187.toNat]
def k0_mult170 (v5190 : BitVec 32) : BitVec 32 :=
  let c256_i32_2466 : BitVec 32 := 256#32
  let v5192 : BitVec 32 := Scalar.muli v5190 c256_i32_2466
  v5192

def k0_mult171 (v5188 : BitVec 32) : BitVec 32 :=
  let c1024_i32_2467 : BitVec 32 := 1024#32
  let v5194 : BitVec 32 := Scalar.muli v5188 c1024_i32_2467
  v5194

def k0_mult172 (v5188 : BitVec 32) : BitVec 32 :=
  let c1024_i32_2468 : BitVec 32 := 1024#32
  let v5196 : BitVec 32 := Scalar.muli v5188 c1024_i32_2468
  v5196
def k0_off90 (v5188 : BitVec 32) : Fin 2 → Nat :=
  let c0_2469 : Index := 0#32
  let c1024_i32_2467 : BitVec 32 := 1024#32
  let v5194 : BitVec 32 := Scalar.muli v5188 c1024_i32_2467
  let v5195 : BitVec 32 := v5194
  let v5198 : Index := Scalar.indexCast v5195
  ![0, v5198.toNat]
def k0_off91 (v5188 : BitVec 32) : Fin 2 → Nat :=
  let c0_2471 : Index := 0#32
  let c1024_i32_2468 : BitVec 32 := 1024#32
  let v5196 : BitVec 32 := Scalar.muli v5188 c1024_i32_2468
  let v5197 : BitVec 32 := v5196
  let v5211 : Index := Scalar.indexCast v5197
  ![0, v5211.toNat]

def k0_chk12 (v5188 : BitVec 32) : Prop :=
  (1024 ∣ (k0_mult171 v5188).toNat) ∧
  (1024 ∣ (k0_mult172 v5188).toNat) ∧
  (∀ a, (k0_off90 v5188) a + S1x1024.size a ≤ S1x16384.size a) ∧
  (∀ a, (k0_off91 v5188) a + S80x1024.size a ≤ S80x16384.size a)
theorem k0_mult171_dvd : ∀ (v5188 : BitVec 32) (k0_hw12 : k0_chk12 v5188), 1024 ∣ (k0_mult171 v5188).toNat := fun v5188 k0_hw12 => k0_hw12.1
theorem k0_mult172_dvd : ∀ (v5188 : BitVec 32) (k0_hw12 : k0_chk12 v5188), 1024 ∣ (k0_mult172 v5188).toNat := fun v5188 k0_hw12 => k0_hw12.2.1
theorem k0_off90_inb : ∀ (v5188 : BitVec 32) (k0_hw12 : k0_chk12 v5188), ∀ a, (k0_off90 v5188) a + S1x1024.size a ≤ S1x16384.size a := fun v5188 k0_hw12 => k0_hw12.2.2.1
theorem k0_off91_inb : ∀ (v5188 : BitVec 32) (k0_hw12 : k0_chk12 v5188), ∀ a, (k0_off91 v5188) a + S80x1024.size a ≤ S80x16384.size a := fun v5188 k0_hw12 => k0_hw12.2.2.2

def k0_off92 (v5190 : BitVec 32) : Fin 3 → Nat :=
  let c0_2472 : Index := 0#32
  let c0_2473 : Index := 0#32
  let c256_i32_2466 : BitVec 32 := 256#32
  let v5192 : BitVec 32 := Scalar.muli v5190 c256_i32_2466
  let v5193 : BitVec 32 := v5192
  let v5215 : Index := Scalar.indexCast v5193
  ![0, 0, v5215.toNat]
def k0_off93 (v5190 : BitVec 32) : Fin 3 → Nat :=
  let c1_2475 : Index := 1#32
  let c0_2476 : Index := 0#32
  let c256_i32_2466 : BitVec 32 := 256#32
  let v5192 : BitVec 32 := Scalar.muli v5190 c256_i32_2466
  let v5193 : BitVec 32 := v5192
  let v5220 : Index := Scalar.indexCast v5193
  ![1, 0, v5220.toNat]
def k0_off94 (v5190 : BitVec 32) : Fin 3 → Nat :=
  let c2_2478 : Index := 2#32
  let c0_2479 : Index := 0#32
  let c256_i32_2466 : BitVec 32 := 256#32
  let v5192 : BitVec 32 := Scalar.muli v5190 c256_i32_2466
  let v5193 : BitVec 32 := v5192
  let v5225 : Index := Scalar.indexCast v5193
  ![2, 0, v5225.toNat]
def k0_off95 (v5190 : BitVec 32) : Fin 3 → Nat :=
  let c3_2481 : Index := 3#32
  let c0_2482 : Index := 0#32
  let c256_i32_2466 : BitVec 32 := 256#32
  let v5192 : BitVec 32 := Scalar.muli v5190 c256_i32_2466
  let v5193 : BitVec 32 := v5192
  let v5230 : Index := Scalar.indexCast v5193
  ![3, 0, v5230.toNat]

def k0_chk11 (v5190 : BitVec 32) : Prop :=
  (256 ∣ (k0_mult170 v5190).toNat) ∧
  (∀ a, (k0_off92 v5190) a + S1x80x256.size a ≤ S4x80x4096.size a) ∧
  (∀ a, (k0_off93 v5190) a + S1x80x256.size a ≤ S4x80x4096.size a) ∧
  (∀ a, (k0_off94 v5190) a + S1x80x256.size a ≤ S4x80x4096.size a) ∧
  (∀ a, (k0_off95 v5190) a + S1x80x256.size a ≤ S4x80x4096.size a)
theorem k0_mult170_dvd : ∀ (v5190 : BitVec 32) (k0_hw11 : k0_chk11 v5190), 256 ∣ (k0_mult170 v5190).toNat := fun v5190 k0_hw11 => k0_hw11.1
theorem k0_off92_inb : ∀ (v5190 : BitVec 32) (k0_hw11 : k0_chk11 v5190), ∀ a, (k0_off92 v5190) a + S1x80x256.size a ≤ S4x80x4096.size a := fun v5190 k0_hw11 => k0_hw11.2.1
theorem k0_off93_inb : ∀ (v5190 : BitVec 32) (k0_hw11 : k0_chk11 v5190), ∀ a, (k0_off93 v5190) a + S1x80x256.size a ≤ S4x80x4096.size a := fun v5190 k0_hw11 => k0_hw11.2.2.1
theorem k0_off94_inb : ∀ (v5190 : BitVec 32) (k0_hw11 : k0_chk11 v5190), ∀ a, (k0_off94 v5190) a + S1x80x256.size a ≤ S4x80x4096.size a := fun v5190 k0_hw11 => k0_hw11.2.2.2.1
theorem k0_off95_inb : ∀ (v5190 : BitVec 32) (k0_hw11 : k0_chk11 v5190), ∀ a, (k0_off95 v5190) a + S1x80x256.size a ≤ S4x80x4096.size a := fun v5190 k0_hw11 => k0_hw11.2.2.2.2

@[reducible] def k0_t2_loop : Scf.Loop 32 :=
  let c0_i32_2486 : BitVec 32 := 0#32
  let c16_i32 : BitVec 32 := 16#32
  let v5245 : BitVec 32 := Scalar.addi c0_i32_2486 c16_i32
  let c1_i32_2487 : BitVec 32 := 1#32
  ⟨c0_i32_2486, v5245, c1_i32_2487⟩
def k0_mult173 (k0_t2 : Fin k0_t2_loop.trips) : BitVec 32 :=
  let c0_i32_2486 : BitVec 32 := 0#32
  let c1_i32_2487 : BitVec 32 := 1#32
  let arg19 : BitVec 32 := Scf.iv c0_i32_2486 c1_i32_2487 k0_t2
  let c1024_i32_2489 : BitVec 32 := 1024#32
  let v5246 : BitVec 32 := Scalar.muli arg19 c1024_i32_2489
  v5246
def k0_off96 (k0_t2 : Fin k0_t2_loop.trips) : Fin 2 → Nat :=
  let c0_2490 : Index := 0#32
  let c0_i32_2486 : BitVec 32 := 0#32
  let c1_i32_2487 : BitVec 32 := 1#32
  let arg19 : BitVec 32 := Scf.iv c0_i32_2486 c1_i32_2487 k0_t2
  let c1024_i32_2489 : BitVec 32 := 1024#32
  let v5246 : BitVec 32 := Scalar.muli arg19 c1024_i32_2489
  let v5247 : BitVec 32 := v5246
  let v5248 : Index := Scalar.indexCast v5247
  ![0, v5248.toNat]
def k0_mult174 (k0_t2 : Fin k0_t2_loop.trips) : BitVec 32 :=
  let c0_i32_2486 : BitVec 32 := 0#32
  let c1_i32_2487 : BitVec 32 := 1#32
  let arg19 : BitVec 32 := Scf.iv c0_i32_2486 c1_i32_2487 k0_t2
  let c256_i32_2491 : BitVec 32 := 256#32
  let v5256 : BitVec 32 := Scalar.muli arg19 c256_i32_2491
  v5256
def k0_off97 (k0_t2 : Fin k0_t2_loop.trips) : Fin 3 → Nat :=
  let c0_2492 : Index := 0#32
  let c0_2493 : Index := 0#32
  let c0_i32_2486 : BitVec 32 := 0#32
  let c1_i32_2487 : BitVec 32 := 1#32
  let arg19 : BitVec 32 := Scf.iv c0_i32_2486 c1_i32_2487 k0_t2
  let c256_i32_2491 : BitVec 32 := 256#32
  let v5256 : BitVec 32 := Scalar.muli arg19 c256_i32_2491
  let v5257 : BitVec 32 := v5256
  let v5258 : Index := Scalar.indexCast v5257
  ![0, 0, v5258.toNat]
def k0_mult175 (k0_t2 : Fin k0_t2_loop.trips) : BitVec 32 :=
  let c0_i32_2486 : BitVec 32 := 0#32
  let c1_i32_2487 : BitVec 32 := 1#32
  let arg19 : BitVec 32 := Scf.iv c0_i32_2486 c1_i32_2487 k0_t2
  let c256_i32_2494 : BitVec 32 := 256#32
  let v5263 : BitVec 32 := Scalar.muli arg19 c256_i32_2494
  v5263
def k0_off98 (k0_t2 : Fin k0_t2_loop.trips) : Fin 3 → Nat :=
  let c0_2495 : Index := 0#32
  let c64_2496 : Index := 64#32
  let c0_i32_2486 : BitVec 32 := 0#32
  let c1_i32_2487 : BitVec 32 := 1#32
  let arg19 : BitVec 32 := Scf.iv c0_i32_2486 c1_i32_2487 k0_t2
  let c256_i32_2494 : BitVec 32 := 256#32
  let v5263 : BitVec 32 := Scalar.muli arg19 c256_i32_2494
  let v5264 : BitVec 32 := v5263
  let v5265 : Index := Scalar.indexCast v5264
  ![0, 64, v5265.toNat]
def k0_mult176 (k0_t2 : Fin k0_t2_loop.trips) : BitVec 32 :=
  let c0_i32_2486 : BitVec 32 := 0#32
  let c1_i32_2487 : BitVec 32 := 1#32
  let arg19 : BitVec 32 := Scf.iv c0_i32_2486 c1_i32_2487 k0_t2
  let c256_i32_2497 : BitVec 32 := 256#32
  let v5270 : BitVec 32 := Scalar.muli arg19 c256_i32_2497
  v5270
def k0_off99 (k0_t2 : Fin k0_t2_loop.trips) : Fin 3 → Nat :=
  let c0_2498 : Index := 0#32
  let c128_2499 : Index := 128#32
  let c0_i32_2486 : BitVec 32 := 0#32
  let c1_i32_2487 : BitVec 32 := 1#32
  let arg19 : BitVec 32 := Scf.iv c0_i32_2486 c1_i32_2487 k0_t2
  let c256_i32_2497 : BitVec 32 := 256#32
  let v5270 : BitVec 32 := Scalar.muli arg19 c256_i32_2497
  let v5271 : BitVec 32 := v5270
  let v5272 : Index := Scalar.indexCast v5271
  ![0, 128, v5272.toNat]
def k0_mult177 (k0_t2 : Fin k0_t2_loop.trips) : BitVec 32 :=
  let c0_i32_2486 : BitVec 32 := 0#32
  let c1_i32_2487 : BitVec 32 := 1#32
  let arg19 : BitVec 32 := Scf.iv c0_i32_2486 c1_i32_2487 k0_t2
  let c256_i32_2500 : BitVec 32 := 256#32
  let v5277 : BitVec 32 := Scalar.muli arg19 c256_i32_2500
  v5277
def k0_off100 (k0_t2 : Fin k0_t2_loop.trips) : Fin 3 → Nat :=
  let c0_2501 : Index := 0#32
  let c192_2502 : Index := 192#32
  let c0_i32_2486 : BitVec 32 := 0#32
  let c1_i32_2487 : BitVec 32 := 1#32
  let arg19 : BitVec 32 := Scf.iv c0_i32_2486 c1_i32_2487 k0_t2
  let c256_i32_2500 : BitVec 32 := 256#32
  let v5277 : BitVec 32 := Scalar.muli arg19 c256_i32_2500
  let v5278 : BitVec 32 := v5277
  let v5279 : Index := Scalar.indexCast v5278
  ![0, 192, v5279.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S105 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S105 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S4096x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x4096x1024 : Shape := ⟨3, ![8, 4096, 1024]⟩
abbrev S8x1792x4096 : Shape := ⟨3, ![8, 1792, 4096]⟩
abbrev S4x768x1024 : Shape := ⟨3, ![4, 768, 1024]⟩
abbrev S16 : Shape := ⟨1, ![16]⟩
abbrev S8x512x4096 : Shape := ⟨3, ![8, 512, 4096]⟩
abbrev S8x8x64x4096 : Shape := ⟨4, ![8, 8, 64, 4096]⟩
abbrev S8x4096x512 : Shape := ⟨3, ![8, 4096, 512]⟩
abbrev S8x4096x8x64 : Shape := ⟨4, ![8, 4096, 8, 64]⟩
abbrev S8x16x256x8x64 : Shape := ⟨5, ![8, 16, 256, 8, 64]⟩
abbrev S_ : Shape := ⟨0, ![]⟩
abbrev S8x16x8x64 : Shape := ⟨4, ![8, 16, 8, 64]⟩
abbrev S8x8x4096x16 : Shape := ⟨4, ![8, 8, 4096, 16]⟩
abbrev S4096 : Shape := ⟨1, ![4096]⟩
abbrev S1x16 : Shape := ⟨2, ![1, 16]⟩
abbrev S4096x1 : Shape := ⟨2, ![4096, 1]⟩
abbrev S4096x16 : Shape := ⟨2, ![4096, 16]⟩
abbrev S8x8x4096x3 : Shape := ⟨4, ![8, 8, 4096, 3]⟩
abbrev S8x8x4096x3x1 : Shape := ⟨5, ![8, 8, 4096, 3, 1]⟩
abbrev S1x1x1x1x16 : Shape := ⟨5, ![1, 1, 1, 1, 16]⟩
abbrev S8x8x4096x3x16 : Shape := ⟨5, ![8, 8, 4096, 3, 16]⟩
abbrev S1x1x4096x16 : Shape := ⟨4, ![1, 1, 4096, 16]⟩
abbrev S8x8x4096x16x256 : Shape := ⟨5, ![8, 8, 4096, 16, 256]⟩
abbrev S8x8x4096x4096 : Shape := ⟨4, ![8, 8, 4096, 4096]⟩
abbrev S2x768x1024 : Shape := ⟨3, ![2, 768, 1024]⟩
abbrev S2x3x256x4x256 : Shape := ⟨5, ![2, 3, 256, 4, 256]⟩
abbrev S3x2x4x256x256 : Shape := ⟨5, ![3, 2, 4, 256, 256]⟩
abbrev S3x8x256x256 : Shape := ⟨4, ![3, 8, 256, 256]⟩
abbrev S1x8x256x256 : Shape := ⟨4, ![1, 8, 256, 256]⟩
abbrev S8x256x256 : Shape := ⟨3, ![8, 256, 256]⟩
abbrev S1x8x1x256x1x256 : Shape := ⟨6, ![1, 8, 1, 256, 1, 256]⟩
abbrev S1x8x16x256x16x256 : Shape := ⟨6, ![1, 8, 16, 256, 16, 256]⟩
abbrev S8x4096x4096 : Shape := ⟨3, ![8, 4096, 4096]⟩
abbrev S1x4096 : Shape := ⟨2, ![1, 4096]⟩
abbrev S4096x4096 : Shape := ⟨2, ![4096, 4096]⟩
abbrev S8 : Shape := ⟨1, ![8]⟩
abbrev S8x1x1 : Shape := ⟨3, ![8, 1, 1]⟩
abbrev S1x8x4096x4096 : Shape := ⟨4, ![1, 8, 4096, 4096]⟩
abbrev S8x8x4096 : Shape := ⟨3, ![8, 8, 4096]⟩
abbrev S8x8x4096x1 : Shape := ⟨4, ![8, 8, 4096, 1]⟩

abbrev nBuf : Space → Nat
  | .hbm => 145
  | .vmem => 0
  | .smem => 0
  | _ => 0

abbrev hbmTy0_0 (i : Nat) : BufTy := match i % 128 with
  | 0 => ⟨S8x4096x1024, .bf16⟩
  | 1 => ⟨S8x1792x4096, .bf16⟩
  | 2 => ⟨S4x768x1024, .f32⟩
  | 3 => ⟨S16, .f32⟩
  | 4 => ⟨S8x1792x4096, .f32⟩
  | 5 => ⟨S8x512x4096, .f32⟩
  | 6 => ⟨S8x8x64x4096, .f32⟩
  | 7 => ⟨S8x4096x1024, .f32⟩
  | 8 => ⟨S8x4096x512, .f32⟩
  | 9 => ⟨S8x4096x8x64, .f32⟩
  | 10 => ⟨S8x1792x4096, .f32⟩
  | 11 => ⟨S8x512x4096, .f32⟩
  | 12 => ⟨S8x8x64x4096, .f32⟩
  | 13 => ⟨S8x16x256x8x64, .f32⟩
  | 14 => ⟨S_, .f32⟩
  | 15 => ⟨S8x16x8x64, .f32⟩
  | 16 => ⟨S_, .f32⟩
  | 17 => ⟨S8x16x8x64, .f32⟩
  | 18 => ⟨S8x16x8x64, .f32⟩
  | 19 => ⟨S8x8x4096x16, .f32⟩
  | 20 => ⟨S4096, .i32⟩
  | 21 => ⟨S_, .i32⟩
  | 22 => ⟨S_, .i32⟩
  | 23 => ⟨S4096, .i32⟩
  | 24 => ⟨S4096, .i32⟩
  | 25 => ⟨S4096, .i32⟩
  | 26 => ⟨S_, .i32⟩
  | 27 => ⟨S4096, .i32⟩
  | 28 => ⟨S4096, .i1⟩
  | 29 => ⟨S4096, .i32⟩
  | 30 => ⟨S4096, .i32⟩
  | 31 => ⟨S_, .i32⟩
  | 32 => ⟨S4096, .i32⟩
  | 33 => ⟨S4096, .i1⟩
  | 34 => ⟨S4096, .i1⟩
  | 35 => ⟨S_, .i32⟩
  | 36 => ⟨S4096, .i32⟩
  | 37 => ⟨S4096, .i32⟩
  | 38 => ⟨S4096, .i32⟩
  | 39 => ⟨S16, .i32⟩
  | 40 => ⟨S1x16, .i32⟩
  | 41 => ⟨S4096x1, .i32⟩
  | 42 => ⟨S4096x16, .i32⟩
  | 43 => ⟨S4096x16, .i32⟩
  | 44 => ⟨S4096x16, .i1⟩
  | 45 => ⟨S_, .f32⟩
  | 46 => ⟨S_, .f32⟩
  | 47 => ⟨S8x8x4096x16, .i1⟩
  | 48 => ⟨S8x8x4096x16, .f32⟩
  | 49 => ⟨S8x8x4096x16, .f32⟩
  | 50 => ⟨S8x8x4096x3, .f32⟩
  | 51 => ⟨S8x8x4096x3, .i32⟩
  | 52 => ⟨S8x8x4096x3x1, .i32⟩
  | 53 => ⟨S16, .i32⟩
  | 54 => ⟨S1x1x1x1x16, .i32⟩
  | 55 => ⟨S8x8x4096x3x16, .i32⟩
  | 56 => ⟨S8x8x4096x3x16, .i32⟩
  | 57 => ⟨S8x8x4096x3x16, .i1⟩
  | 58 => ⟨S_, .i1⟩
  | 59 => ⟨S8x8x4096x16, .i1⟩
  | 60 => ⟨S1x1x4096x16, .i1⟩
  | 61 => ⟨S8x8x4096x16, .i1⟩
  | 62 => ⟨S8x8x4096x16, .i1⟩
  | 63 => ⟨S16, .i32⟩
  | 64 => ⟨S1x16, .i32⟩
  | 65 => ⟨S4096x1, .i32⟩
  | 66 => ⟨S4096x16, .i32⟩
  | 67 => ⟨S4096x16, .i32⟩
  | 68 => ⟨S4096x16, .i1⟩
  | 69 => ⟨S1x1x4096x16, .i1⟩
  | 70 => ⟨S8x8x4096x16, .i1⟩
  | 71 => ⟨S8x8x4096x16, .i1⟩
  | 72 => ⟨S8x8x4096x16x256, .i1⟩
  | 73 => ⟨S8x8x4096x4096, .i1⟩
  | 74 => ⟨S2x768x1024, .f32⟩
  | 75 => ⟨S2x3x256x4x256, .f32⟩
  | 76 => ⟨S3x2x4x256x256, .f32⟩
  | 77 => ⟨S3x8x256x256, .f32⟩
  | 78 => ⟨S1x8x256x256, .f32⟩
  | 79 => ⟨S8x256x256, .f32⟩
  | 80 => ⟨S1x8x1x256x1x256, .f32⟩
  | 81 => ⟨S1x8x16x256x16x256, .f32⟩
  | 82 => ⟨S8x4096x4096, .f32⟩
  | 83 => ⟨S1x8x256x256, .f32⟩
  | 84 => ⟨S8x256x256, .f32⟩
  | 85 => ⟨S1x8x1x256x1x256, .f32⟩
  | 86 => ⟨S1x8x16x256x16x256, .f32⟩
  | 87 => ⟨S8x4096x4096, .f32⟩
  | 88 => ⟨S4096x1, .i32⟩
  | 89 => ⟨S1x4096, .i32⟩
  | 90 => ⟨S4096x4096, .i32⟩
  | 91 => ⟨S4096x4096, .i32⟩
  | 92 => ⟨S4096x4096, .i32⟩
  | 93 => ⟨S_, .i32⟩
  | 94 => ⟨S4096x4096, .i32⟩
  | 95 => ⟨S4096x4096, .i1⟩
  | 96 => ⟨S_, .i32⟩
  | 97 => ⟨S4096x4096, .i32⟩
  | 98 => ⟨S4096x4096, .i1⟩
  | 99 => ⟨S8, .f32⟩
  | 100 => ⟨S8x1x1, .f32⟩
  | 101 => ⟨S8x4096x4096, .i1⟩
  | 102 => ⟨S8x4096x4096, .f32⟩
  | 103 => ⟨S8x4096x4096, .f32⟩
  | 104 => ⟨S8x4096x4096, .i1⟩
  | 105 => ⟨S8x4096x4096, .f32⟩
  | 106 => ⟨S8x8x4096x4096, .f32⟩
  | 107 => ⟨S1x8x4096x4096, .f32⟩
  | 108 => ⟨S8x8x4096x4096, .f32⟩
  | 109 => ⟨S8x8x4096x4096, .f32⟩
  | 110 => ⟨S_, .f32⟩
  | 111 => ⟨S_, .f32⟩
  | 112 => ⟨S8x8x4096x4096, .f32⟩
  | 113 => ⟨S8x8x4096x4096, .f32⟩
  | 114 => ⟨S_, .f32⟩
  | 115 => ⟨S8x8x4096, .f32⟩
  | 116 => ⟨S8x8x4096x1, .f32⟩
  | 117 => ⟨S_, .f32⟩
  | 118 => ⟨S8x8x4096x1, .f32⟩
  | 119 => ⟨S8x8x4096x1, .i1⟩
  | 120 => ⟨S_, .f32⟩
  | 121 => ⟨S_, .f32⟩
  | 122 => ⟨S8x8x4096x1, .f32⟩
  | 123 => ⟨S8x8x4096x1, .f32⟩
  | 124 => ⟨S8x8x4096x4096, .f32⟩
  | 125 => ⟨S8x8x4096x4096, .f32⟩
  | 126 => ⟨S_, .f32⟩
  | 127 => ⟨S8x8x4096x4096, .f32⟩
  | _ => ⟨S8x4096x1024, .bf16⟩

abbrev hbmTy0_1 (i : Nat) : BufTy := match i % 128 with
  | 0 => ⟨S8x8x4096x4096, .f32⟩
  | 1 => ⟨S8x8x4096x4096, .f32⟩
  | 2 => ⟨S_, .f32⟩
  | 3 => ⟨S8x8x4096, .f32⟩
  | 4 => ⟨S8x8x4096x1, .f32⟩
  | 5 => ⟨S_, .f32⟩
  | 6 => ⟨S8x8x4096x1, .f32⟩
  | 7 => ⟨S8x8x4096x1, .i1⟩
  | 8 => ⟨S_, .f32⟩
  | 9 => ⟨S_, .f32⟩
  | 10 => ⟨S8x8x4096x1, .f32⟩
  | 11 => ⟨S8x8x4096x1, .f32⟩
  | 12 => ⟨S8x8x4096x4096, .f32⟩
  | 13 => ⟨S8x8x4096x4096, .f32⟩
  | 14 => ⟨S8x8x64x4096, .f32⟩
  | 15 => ⟨S8x512x4096, .f32⟩
  | 16 => ⟨S8x512x4096, .bf16⟩
  | _ => ⟨S8x4096x1024, .bf16⟩

abbrev hbmTy (i : Nat) : BufTy := match i / 128 with
  | 0 => hbmTy0_0 i
  | 1 => hbmTy0_1 i
  | _ => ⟨S8x4096x1024, .bf16⟩

abbrev bufTy : (tb : Table) → Fin (tcTables nBuf tb) → BufTy
  | .hbm, ⟨i, _⟩ => hbmTy i
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_c : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_0 : Ref sig .tc := ⟨.hbm, 35, rfl⟩
abbrev main_call0_v12 : Ref sig .tc := ⟨.hbm, 36, rfl⟩
abbrev main_call0_v13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v22 : Ref sig .tc := ⟨.hbm, 49, rfl⟩
abbrev main_values : Ref sig .tc := ⟨.hbm, 50, rfl⟩
abbrev main_indices : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_c_2 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_c_3 : Ref sig .tc := ⟨.hbm, 93, rfl⟩
abbrev main_v63 : Ref sig .tc := ⟨.hbm, 94, rfl⟩
abbrev main_v64 : Ref sig .tc := ⟨.hbm, 95, rfl⟩
abbrev main_c_4 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_call2_v0 : Ref sig .tc := ⟨.hbm, 101, rfl⟩
abbrev main_call2_v1 : Ref sig .tc := ⟨.hbm, 102, rfl⟩
abbrev main_v69 : Ref sig .tc := ⟨.hbm, 103, rfl⟩
abbrev main_call3_v0 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_5 : Ref sig .tc := ⟨.hbm, 110, rfl⟩
abbrev main_call4_v0 : Ref sig .tc := ⟨.hbm, 111, rfl⟩
abbrev main_call4_v1 : Ref sig .tc := ⟨.hbm, 112, rfl⟩
abbrev main_v75 : Ref sig .tc := ⟨.hbm, 113, rfl⟩
abbrev main_cst_6 : Ref sig .tc := ⟨.hbm, 114, rfl⟩
abbrev main_v76 : Ref sig .tc := ⟨.hbm, 115, rfl⟩
abbrev main_v77 : Ref sig .tc := ⟨.hbm, 116, rfl⟩
abbrev main_cst_7 : Ref sig .tc := ⟨.hbm, 117, rfl⟩
abbrev main_v78 : Ref sig .tc := ⟨.hbm, 118, rfl⟩
abbrev main_v79 : Ref sig .tc := ⟨.hbm, 119, rfl⟩
abbrev main_cst_8 : Ref sig .tc := ⟨.hbm, 120, rfl⟩
abbrev main_call5_v0 : Ref sig .tc := ⟨.hbm, 121, rfl⟩
abbrev main_call5_v1 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_cst_9 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_10 : Ref sig .tc := ⟨.hbm, 130, rfl⟩
abbrev main_v86 : Ref sig .tc := ⟨.hbm, 131, rfl⟩
abbrev main_v87 : Ref sig .tc := ⟨.hbm, 132, rfl⟩
abbrev main_cst_11 : Ref sig .tc := ⟨.hbm, 133, rfl⟩
abbrev main_v88 : Ref sig .tc := ⟨.hbm, 134, rfl⟩
abbrev main_v89 : Ref sig .tc := ⟨.hbm, 135, rfl⟩
abbrev main_cst_12 : Ref sig .tc := ⟨.hbm, 136, rfl⟩
abbrev main_call6_v0 : Ref sig .tc := ⟨.hbm, 137, rfl⟩
abbrev main_call6_v1 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩

abbrev nD : Nat := 1
abbrev τ : Topo := Topo.v7x

variable {F : FTy → Type} [FloatOps F]

def κ : String → Option EReal := fun
  | "ln2" => some ((Real.log 2 : ℝ) : EReal)
  | _ => none
-- ==== Kernel2.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x2840 : Shape := ⟨3, ![1, 1024, 2840]⟩
abbrev S1024 : Shape := ⟨1, ![1024]⟩
abbrev S1024x2840 : Shape := ⟨2, ![1024, 2840]⟩
abbrev S1024x512 : Shape := ⟨2, ![1024, 512]⟩
abbrev S1024x128 : Shape := ⟨2, ![1024, 128]⟩
abbrev S1024x24 : Shape := ⟨2, ![1024, 24]⟩
abbrev S1024x1024 : Shape := ⟨2, ![1024, 1024]⟩
abbrev S_ : Shape := ⟨0, ![]⟩
abbrev S1024x1792 : Shape := ⟨2, ![1024, 1792]⟩
abbrev S1792x1024 : Shape := ⟨2, ![1792, 1024]⟩
abbrev S1024x2x12 : Shape := ⟨3, ![1024, 2, 12]⟩
abbrev S1024x2x16 : Shape := ⟨3, ![1024, 2, 16]⟩
abbrev S1024x32 : Shape := ⟨2, ![1024, 32]⟩
abbrev S32x1024 : Shape := ⟨2, ![32, 1024]⟩
abbrev S32768x1024 : Shape := ⟨2, ![32768, 1024]⟩
abbrev S1024x2816 : Shape := ⟨2, ![1024, 2816]⟩
abbrev S2816x1024 : Shape := ⟨2, ![2816, 1024]⟩
abbrev S8x1792x4096 : Shape := ⟨3, ![8, 1792, 4096]⟩
abbrev S8x32x4096 : Shape := ⟨3, ![8, 32, 4096]⟩
abbrev S512x1024 : Shape := ⟨2, ![512, 1024]⟩
abbrev S1x1792x512 : Shape := ⟨3, ![1, 1792, 512]⟩
abbrev S1x32x512 : Shape := ⟨3, ![1, 32, 512]⟩
abbrev S512 : Shape := ⟨1, ![512]⟩
abbrev S512x1 : Shape := ⟨2, ![512, 1]⟩
abbrev S512x2816 : Shape := ⟨2, ![512, 2816]⟩
abbrev S1792x512 : Shape := ⟨2, ![1792, 512]⟩
abbrev S32x512 : Shape := ⟨2, ![32, 512]⟩

abbrev nBuf : Space → Nat
  | .hbm => 50
  | .vmem => 19
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x2840, .f32⟩
  | .hbm, ⟨7, _⟩ => ⟨S1024, .f32⟩
  | .hbm, ⟨8, _⟩ => ⟨S1024x2840, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1024x128, .f32⟩
  | .hbm, ⟨14, _⟩ => ⟨S1024x128, .f32⟩
  | .hbm, ⟨15, _⟩ => ⟨S1024x128, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S1024x24, .f32⟩
  | .hbm, ⟨20, _⟩ => ⟨S1024x1024, .f32⟩
  | .hbm, ⟨21, _⟩ => ⟨S1024x1024, .bf16⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S_, .f32⟩
  | .hbm, ⟨26, _⟩ => ⟨S1024x512, .f32⟩
  | .hbm, ⟨27, _⟩ => ⟨S1024x512, .f32⟩
  | .hbm, ⟨28, _⟩ => ⟨S1024x1792, .f32⟩
  | .hbm, ⟨29, _⟩ => ⟨S1792x1024, .f32⟩
  | .hbm, ⟨30, _⟩ => ⟨S1792x1024, .bf16⟩
  | .hbm, ⟨31, _⟩ => ⟨S1024x2x12, .f32⟩
  | .hbm, ⟨32, _⟩ => ⟨S_, .i32⟩
  | .hbm, ⟨33, _⟩ => ⟨S_, .f32⟩
  | .hbm, ⟨34, _⟩ => ⟨S1024x2x16, .f32⟩
  | .hbm, ⟨35, _⟩ => ⟨S1024x32, .f32⟩
  | .hbm, ⟨36, _⟩ => ⟨S32x1024, .f32⟩
  | .hbm, ⟨37, _⟩ => ⟨S32x1024, .bf16⟩
  | .hbm, ⟨38, _⟩ => ⟨S32768x1024, .f32⟩
  | .hbm, ⟨39, _⟩ => ⟨S1x1024, .f32⟩
  | .hbm, ⟨40, _⟩ => ⟨S1024x2816, .f32⟩
  | .hbm, ⟨41, _⟩ => ⟨S1024x2816, .bf16⟩
  | .hbm, ⟨42, _⟩ => ⟨S1024x2816, .f32⟩
  | .hbm, ⟨43, _⟩ => ⟨S1024x2816, .bf16⟩
  | .hbm, ⟨44, _⟩ => ⟨S2816x1024, .f32⟩
  | .hbm, ⟨45, _⟩ => ⟨S2816x1024, .bf16⟩
  | .hbm, ⟨46, _⟩ => ⟨S32768x1024, .f32⟩
  | .hbm, ⟨47, _⟩ => ⟨S32768x1024, .bf16⟩
  | .hbm, ⟨48, _⟩ => ⟨S8x1792x4096, .bf16⟩
  | .hbm, ⟨49, _⟩ => ⟨S8x32x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1792x1024, .bf16⟩
  | .local _ .vmem, ⟨10, _⟩ => ⟨S32x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1792x512, .bf16⟩
  | .local _ .vmem, ⟨16, _⟩ => ⟨S1x1792x512, .bf16⟩
  | .local _ .vmem, ⟨17, _⟩ => ⟨S1x32x512, .f32⟩
  | .local _ .vmem, ⟨18, _⟩ => ⟨S1x32x512, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_c : Ref sig .tc := ⟨.hbm, 32, rfl⟩
abbrev main_call0_v0 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1792x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1792x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x32x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S8x4096x1024 : Shape := ⟨3, ![8, 4096, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x1024x2840 : Shape := ⟨3, ![1, 1024, 2840]⟩
abbrev S1024 : Shape := ⟨1, ![1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩
abbrev S1024x2840 : Shape := ⟨2, ![1024, 2840]⟩
abbrev S32768x2840 : Shape := ⟨2, ![32768, 2840]⟩
abbrev S32768x512 : Shape := ⟨2, ![32768, 512]⟩
abbrev S32768x128 : Shape := ⟨2, ![32768, 128]⟩
abbrev S32768x24 : Shape := ⟨2, ![32768, 24]⟩
abbrev S32768x1792 : Shape := ⟨2, ![32768, 1792]⟩
abbrev S8x4096x1792 : Shape := ⟨3, ![8, 4096, 1792]⟩
abbrev S8x1792x4096 : Shape := ⟨3, ![8, 1792, 4096]⟩
abbrev S8x4096x2x12 : Shape := ⟨4, ![8, 4096, 2, 12]⟩
abbrev S8x4096x2x16 : Shape := ⟨4, ![8, 4096, 2, 16]⟩
abbrev S8x4096x32 : Shape := ⟨3, ![8, 4096, 32]⟩
abbrev S8x32x4096 : Shape := ⟨3, ![8, 32, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x2816, .f32⟩
  | .hbm, ⟨3, _⟩ => ⟨S1x1024x2816, .f32⟩
  | .hbm, ⟨4, _⟩ => ⟨S1x2816x1024, .f32⟩
  | .hbm, ⟨5, _⟩ => ⟨S1x1024, .f32⟩
  | .hbm, ⟨6, _⟩ => ⟨S1x1024x2840, .f32⟩
  | .hbm, ⟨7, _⟩ => ⟨S1024, .f32⟩
  | .hbm, ⟨8, _⟩ => ⟨S32768x1024, .f32⟩
  | .hbm, ⟨9, _⟩ => ⟨S1024, .f32⟩
  | .hbm, ⟨10, _⟩ => ⟨S32768x1024, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1, .f32⟩
  | .hbm, ⟨21, _⟩ => ⟨S32768x1024, .f32⟩
  | .hbm, ⟨22, _⟩ => ⟨S32768x1024, .f32⟩
  | .hbm, ⟨23, _⟩ => ⟨S1x1024, .f32⟩
  | .hbm, ⟨24, _⟩ => ⟨S32768x1024, .f32⟩
  | .hbm, ⟨25, _⟩ => ⟨S32768x1024, .f32⟩
  | .hbm, ⟨26, _⟩ => ⟨S1024x2816, .f32⟩
  | .hbm, ⟨27, _⟩ => ⟨S1024x2816, .f32⟩
  | .hbm, ⟨28, _⟩ => ⟨S2816x1024, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S_, .f32⟩
  | .hbm, ⟨33, _⟩ => ⟨S32768x2816, .f32⟩
  | .hbm, ⟨34, _⟩ => ⟨S32768x2816, .f32⟩
  | .hbm, ⟨35, _⟩ => ⟨S_, .f32⟩
  | .hbm, ⟨36, _⟩ => ⟨S32768x2816, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S32768x1024, .f32⟩
  | .hbm, ⟨42, _⟩ => ⟨S_, .f32⟩
  | .hbm, ⟨43, _⟩ => ⟨S32768x1024, .f32⟩
  | .hbm, ⟨44, _⟩ => ⟨S32768x1024, .f32⟩
  | .hbm, ⟨45, _⟩ => ⟨S32768x1024, .f32⟩
  | .hbm, ⟨46, _⟩ => ⟨S1024, .f32⟩
  | .hbm, ⟨47, _⟩ => ⟨S32768x1024, .f32⟩
  | .hbm, ⟨48, _⟩ => ⟨S_, .f32⟩
  | .hbm, ⟨49, _⟩ => ⟨S32768, .f32⟩
  | .hbm, ⟨50, _⟩ => ⟨S32768x1, .f32⟩
  | .hbm, ⟨51, _⟩ => ⟨S_, .f32⟩
  | .hbm, ⟨52, _⟩ => ⟨S32768x1, .f32⟩
  | .hbm, ⟨53, _⟩ => ⟨S32768x1, .f32⟩
  | .hbm, ⟨54, _⟩ => ⟨S_, .f32⟩
  | .hbm, ⟨55, _⟩ => ⟨S32768x1, .f32⟩
  | .hbm, ⟨56, _⟩ => ⟨S32768x1, .f32⟩
  | .hbm, ⟨57, _⟩ => ⟨S32768x1, .f32⟩
  | .hbm, ⟨58, _⟩ => ⟨S32768x1024, .f32⟩
  | .hbm, ⟨59, _⟩ => ⟨S32768x1024, .f32⟩
  | .hbm, ⟨60, _⟩ => ⟨S1x1024, .f32⟩
  | .hbm, ⟨61, _⟩ => ⟨S32768x1024, .f32⟩
  | .hbm, ⟨62, _⟩ => ⟨S32768x1024, .f32⟩
  | .hbm, ⟨63, _⟩ => ⟨S1024x2840, .f32⟩
  | .hbm, ⟨64, _⟩ => ⟨S32768x2840, .f32⟩
  | .hbm, ⟨65, _⟩ => ⟨S32768x512, .f32⟩
  | .hbm, ⟨66, _⟩ => ⟨S32768x512, .f32⟩
  | .hbm, ⟨67, _⟩ => ⟨S32768x512, .f32⟩
  | .hbm, ⟨68, _⟩ => ⟨S32768x512, .f32⟩
  | .hbm, ⟨69, _⟩ => ⟨S32768x128, .f32⟩
  | .hbm, ⟨70, _⟩ => ⟨S32768x128, .f32⟩
  | .hbm, ⟨71, _⟩ => ⟨S32768x128, .f32⟩
  | .hbm, ⟨72, _⟩ => ⟨S32768x128, .f32⟩
  | .hbm, ⟨73, _⟩ => ⟨S32768x128, .f32⟩
  | .hbm, ⟨74, _⟩ => ⟨S32768x128, .f32⟩
  | .hbm, ⟨75, _⟩ => ⟨S32768x24, .f32⟩
  | .hbm, ⟨76, _⟩ => ⟨S32768x1024, .f32⟩
  | .hbm, ⟨77, _⟩ => ⟨S32768x1024, .bf16⟩
  | .hbm, ⟨78, _⟩ => ⟨S_, .f32⟩
  | .hbm, ⟨79, _⟩ => ⟨S32768x512, .f32⟩
  | .hbm, ⟨80, _⟩ => ⟨S32768x512, .f32⟩
  | .hbm, ⟨81, _⟩ => ⟨S_, .f32⟩
  | .hbm, ⟨82, _⟩ => ⟨S32768x512, .f32⟩
  | .hbm, ⟨83, _⟩ => ⟨S32768x512, .f32⟩
  | .hbm, ⟨84, _⟩ => ⟨S32768x1792, .f32⟩
  | .hbm, ⟨85, _⟩ => ⟨S8x4096x1792, .f32⟩
  | .hbm, ⟨86, _⟩ => ⟨S8x1792x4096, .f32⟩
  | .hbm, ⟨87, _⟩ => ⟨S8x1792x4096, .bf16⟩
  | .hbm, ⟨88, _⟩ => ⟨S32768x24, .f32⟩
  | .hbm, ⟨89, _⟩ => ⟨S32768x24, .f32⟩
  | .hbm, ⟨90, _⟩ => ⟨S_, .f32⟩
  | .hbm, ⟨91, _⟩ => ⟨S32768x24, .f32⟩
  | .hbm, ⟨92, _⟩ => ⟨S32768x24, .f32⟩
  | .hbm, ⟨93, _⟩ => ⟨S_, .f32⟩
  | .hbm, ⟨94, _⟩ => ⟨S32768x24, .f32⟩
  | .hbm, ⟨95, _⟩ => ⟨S32768x24, .f32⟩
  | .hbm, ⟨96, _⟩ => ⟨S8x4096x2x12, .f32⟩
  | .hbm, ⟨97, _⟩ => ⟨S_, .f32⟩
  | .hbm, ⟨98, _⟩ => ⟨S_, .f32⟩
  | .hbm, ⟨99, _⟩ => ⟨S8x4096x2x16, .f32⟩
  | .hbm, ⟨100, _⟩ => ⟨S8x4096x32, .f32⟩
  | .hbm, ⟨101, _⟩ => ⟨S8x32x4096, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_call0_v5 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_2 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_cst_4 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_6 : Ref sig .tc := ⟨.hbm, 78, rfl⟩
abbrev main_v55 : Ref sig .tc := ⟨.hbm, 79, rfl⟩
abbrev main_v56 : Ref sig .tc := ⟨.hbm, 80, rfl⟩
abbrev main_cst_7 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_8 : Ref sig .tc := ⟨.hbm, 90, rfl⟩
abbrev main_v65 : Ref sig .tc := ⟨.hbm, 91, rfl⟩
abbrev main_v66 : Ref sig .tc := ⟨.hbm, 92, rfl⟩
abbrev main_cst_9 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_call1_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== Kernel3.lean ====
abbrev S32768x1024 : Shape := ⟨2, ![32768, 1024]⟩
abbrev S8x512x4096 : Shape := ⟨3, ![8, 512, 4096]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S1024x1024 : Shape := ⟨2, ![1024, 1024]⟩
abbrev S512x1024 : Shape := ⟨2, ![512, 1024]⟩
abbrev S1024x2816 : Shape := ⟨2, ![1024, 2816]⟩
abbrev S2816x1024 : Shape := ⟨2, ![2816, 1024]⟩
abbrev S1x512x512 : Shape := ⟨3, ![1, 512, 512]⟩
abbrev S512x512 : Shape := ⟨2, ![512, 512]⟩
abbrev S512 : Shape := ⟨1, ![512]⟩
abbrev S512x1 : Shape := ⟨2, ![512, 1]⟩
abbrev S512x2816 : Shape := ⟨2, ![512, 2816]⟩

abbrev nBuf : Space → Nat
  | .hbm => 22
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S8x512x4096, .bf16⟩
  | .hbm, ⟨2, _⟩ => ⟨S8x512x4096, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S1024x1024, .f32⟩
  | .hbm, ⟨10, _⟩ => ⟨S512x1024, .f32⟩
  | .hbm, ⟨11, _⟩ => ⟨S512x1024, .bf16⟩
  | .hbm, ⟨12, _⟩ => ⟨S512x1024, .f32⟩
  | .hbm, ⟨13, _⟩ => ⟨S512x1024, .bf16⟩
  | .hbm, ⟨14, _⟩ => ⟨S1x1024, .f32⟩
  | .hbm, ⟨15, _⟩ => ⟨S1024x2816, .f32⟩
  | .hbm, ⟨16, _⟩ => ⟨S1024x2816, .bf16⟩
  | .hbm, ⟨17, _⟩ => ⟨S1024x2816, .f32⟩
  | .hbm, ⟨18, _⟩ => ⟨S1024x2816, .bf16⟩
  | .hbm, ⟨19, _⟩ => ⟨S2816x1024, .f32⟩
  | .hbm, ⟨20, _⟩ => ⟨S2816x1024, .bf16⟩
  | .hbm, ⟨21, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S32768x1024 : Shape := ⟨2, ![32768, 1024]⟩
abbrev S8x512x4096 : Shape := ⟨3, ![8, 512, 4096]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1024 : Shape := ⟨1, ![1024]⟩
abbrev S8x4096x512 : Shape := ⟨3, ![8, 4096, 512]⟩
abbrev S8x4096x1024 : Shape := ⟨3, ![8, 4096, 1024]⟩
abbrev S1024x1024 : Shape := ⟨2, ![1024, 1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S2816x1024 : Shape := ⟨2, ![2816, 1024]⟩
abbrev S32768x2816 : Shape := ⟨2, ![32768, 2816]⟩

abbrev nBuf : Space → Nat
  | .hbm => 71
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x512x4096, .bf16⟩
  | .hbm, ⟨2, _⟩ => ⟨S8x512x4096, .bf16⟩
  | .hbm, ⟨3, _⟩ => ⟨S1x1024x1024, .f32⟩
  | .hbm, ⟨4, _⟩ => ⟨S1x1024, .f32⟩
  | .hbm, ⟨5, _⟩ => ⟨S1x1024x2816, .f32⟩
  | .hbm, ⟨6, _⟩ => ⟨S1x1024x2816, .f32⟩
  | .hbm, ⟨7, _⟩ => ⟨S1x2816x1024, .f32⟩
  | .hbm, ⟨8, _⟩ => ⟨S1024, .f32⟩
  | .hbm, ⟨9, _⟩ => ⟨S8x512x4096, .f32⟩
  | .hbm, ⟨10, _⟩ => ⟨S8x4096x512, .f32⟩
  | .hbm, ⟨11, _⟩ => ⟨S8x512x4096, .f32⟩
  | .hbm, ⟨12, _⟩ => ⟨S8x4096x512, .f32⟩
  | .hbm, ⟨13, _⟩ => ⟨S8x4096x1024, .f32⟩
  | .hbm, ⟨14, _⟩ => ⟨S32768x1024, .f32⟩
  | .hbm, ⟨15, _⟩ => ⟨S1024x1024, .f32⟩
  | .hbm, ⟨16, _⟩ => ⟨S32768x1024, .f32⟩
  | .hbm, ⟨17, _⟩ => ⟨S32768x1024, .f32⟩
  | .hbm, ⟨18, _⟩ => ⟨S1024, .f32⟩
  | .hbm, ⟨19, _⟩ => ⟨S32768x1024, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1, .f32⟩
  | .hbm, ⟨30, _⟩ => ⟨S32768x1024, .f32⟩
  | .hbm, ⟨31, _⟩ => ⟨S32768x1024, .f32⟩
  | .hbm, ⟨32, _⟩ => ⟨S1x1024, .f32⟩
  | .hbm, ⟨33, _⟩ => ⟨S32768x1024, .f32⟩
  | .hbm, ⟨34, _⟩ => ⟨S32768x1024, .f32⟩
  | .hbm, ⟨35, _⟩ => ⟨S1024x2816, .f32⟩
  | .hbm, ⟨36, _⟩ => ⟨S1024x2816, .f32⟩
  | .hbm, ⟨37, _⟩ => ⟨S2816x1024, .f32⟩
  | .hbm, ⟨38, _⟩ => ⟨S32768x2816, .f32⟩
  | .hbm, ⟨39, _⟩ => ⟨S32768x2816, .f32⟩
  | .hbm, ⟨40, _⟩ => ⟨S32768x2816, .f32⟩
  | .hbm, ⟨41, _⟩ => ⟨S_, .f32⟩
  | .hbm, ⟨42, _⟩ => ⟨S32768x2816, .f32⟩
  | .hbm, ⟨43, _⟩ => ⟨S32768x2816, .f32⟩
  | .hbm, ⟨44, _⟩ => ⟨S_, .f32⟩
  | .hbm, ⟨45, _⟩ => ⟨S32768x2816, .f32⟩
  | .hbm, ⟨46, _⟩ => ⟨S32768x2816, .f32⟩
  | .hbm, ⟨47, _⟩ => ⟨S32768x2816, .f32⟩
  | .hbm, ⟨48, _⟩ => ⟨S32768x2816, .f32⟩
  | .hbm, ⟨49, _⟩ => ⟨S32768x2816, .f32⟩
  | .hbm, ⟨50, _⟩ => ⟨S32768x1024, .f32⟩
  | .hbm, ⟨51, _⟩ => ⟨S_, .f32⟩
  | .hbm, ⟨52, _⟩ => ⟨S32768x1024, .f32⟩
  | .hbm, ⟨53, _⟩ => ⟨S32768x1024, .f32⟩
  | .hbm, ⟨54, _⟩ => ⟨S32768x1024, .f32⟩
  | .hbm, ⟨55, _⟩ => ⟨S32768x1024, .f32⟩
  | .hbm, ⟨56, _⟩ => ⟨S_, .f32⟩
  | .hbm, ⟨57, _⟩ => ⟨S32768, .f32⟩
  | .hbm, ⟨58, _⟩ => ⟨S32768x1, .f32⟩
  | .hbm, ⟨59, _⟩ => ⟨S_, .f32⟩
  | .hbm, ⟨60, _⟩ => ⟨S32768x1, .f32⟩
  | .hbm, ⟨61, _⟩ => ⟨S32768x1, .f32⟩
  | .hbm, ⟨62, _⟩ => ⟨S_, .f32⟩
  | .hbm, ⟨63, _⟩ => ⟨S32768x1, .f32⟩
  | .hbm, ⟨64, _⟩ => ⟨S32768x1, .f32⟩
  | .hbm, ⟨65, _⟩ => ⟨S32768x1, .f32⟩
  | .hbm, ⟨66, _⟩ => ⟨S32768x1024, .f32⟩
  | .hbm, ⟨67, _⟩ => ⟨S32768x1024, .f32⟩
  | .hbm, ⟨68, _⟩ => ⟨S1x1024, .f32⟩
  | .hbm, ⟨69, _⟩ => ⟨S32768x1024, .f32⟩
  | .hbm, ⟨70, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_2 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_3 : Ref sig .tc := ⟨.hbm, 56, rfl⟩
abbrev main_v35 : Ref sig .tc := ⟨.hbm, 57, rfl⟩
abbrev main_v36 : Ref sig .tc := ⟨.hbm, 58, rfl⟩
abbrev main_cst_4 : Ref sig .tc := ⟨.hbm, 59, rfl⟩
abbrev main_v37 : Ref sig .tc := ⟨.hbm, 60, rfl⟩
abbrev main_v38 : Ref sig .tc := ⟨.hbm, 61, rfl⟩
abbrev main_cst_5 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩

abbrev nD : Nat := 1
abbrev τ : Topo := Topo.v7x

variable {F : FTy → Type} [FloatOps F]
-- ==== Kernel4.lean ====
abbrev S8x4096x1024 : Shape := ⟨3, ![8, 4096, 1024]⟩
abbrev S1x32x64 : Shape := ⟨3, ![1, 32, 64]⟩
abbrev S1x2048x256 : Shape := ⟨3, ![1, 2048, 256]⟩
abbrev S1x256x64 : Shape := ⟨3, ![1, 256, 64]⟩
abbrev S2048x256 : Shape := ⟨2, ![2048, 256]⟩
abbrev S32x64x256 : Shape := ⟨3, ![32, 64, 256]⟩
abbrev S32x64 : Shape := ⟨2, ![32, 64]⟩
abbrev S_ : Shape := ⟨0, ![]⟩
abbrev S32x128 : Shape := ⟨2, ![32, 128]⟩
abbrev S32x128x256 : Shape := ⟨3, ![32, 128, 256]⟩
abbrev S256x64 : Shape := ⟨2, ![256, 64]⟩
abbrev S256x128 : Shape := ⟨2, ![256, 128]⟩
abbrev S1x32x128 : Shape := ⟨3, ![1, 32, 128]⟩
abbrev S2x32x128 : Shape := ⟨3, ![2, 32, 128]⟩
abbrev S1x32x128x256 : Shape := ⟨4, ![1, 32, 128, 256]⟩
abbrev S2x32x128x256 : Shape := ⟨4, ![2, 32, 128, 256]⟩
abbrev S1x2x32x128 : Shape := ⟨4, ![1, 2, 32, 128]⟩
abbrev S2x2x32x128 : Shape := ⟨4, ![2, 2, 32, 128]⟩
abbrev S1x2x32x128x256 : Shape := ⟨5, ![1, 2, 32, 128, 256]⟩
abbrev S2x2x32x128x256 : Shape := ⟨5, ![2, 2, 32, 128, 256]⟩
abbrev S128x256 : Shape := ⟨2, ![128, 256]⟩
abbrev S8x2x256x128 : Shape := ⟨4, ![8, 2, 256, 128]⟩
abbrev S8x2x128x256 : Shape := ⟨4, ![8, 2, 128, 256]⟩
abbrev S1x4096x128 : Shape := ⟨3, ![1, 4096, 128]⟩
abbrev S2x1x32x128 : Shape := ⟨4, ![2, 1, 32, 128]⟩
abbrev S2x1x32x128x256 : Shape := ⟨5, ![2, 1, 32, 128, 256]⟩
abbrev S1x1x256x128 : Shape := ⟨4, ![1, 1, 256, 128]⟩
abbrev S1x1x128x256 : Shape := ⟨4, ![1, 1, 128, 256]⟩
abbrev S4096x128 : Shape := ⟨2, ![4096, 128]⟩
abbrev S256x256 : Shape := ⟨2, ![256, 256]⟩
abbrev S1x1x1x128 : Shape := ⟨4, ![1, 1, 1, 128]⟩
abbrev S1x128 : Shape := ⟨2, ![1, 128]⟩
abbrev S1x1x1x128x256 : Shape := ⟨5, ![1, 1, 1, 128, 256]⟩

abbrev nBuf : Space → Nat
  | .hbm => 72
  | .vmem => 15
  | .smem => 0
  | _ => 0

abbrev bufTy : (tb : Table) → Fin (tcTables nBuf tb) → BufTy
  | .hbm, ⟨0, _⟩ => ⟨S8x4096x1024, .bf16⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S1x32x64, .f32⟩
  | .hbm, ⟨5, _⟩ => ⟨S1x2048x256, .f32⟩
  | .hbm, ⟨6, _⟩ => ⟨S1x256x64, .f32⟩
  | .hbm, ⟨7, _⟩ => ⟨S2048x256, .f32⟩
  | .hbm, ⟨8, _⟩ => ⟨S32x64x256, .f32⟩
  | .hbm, ⟨9, _⟩ => ⟨S32x64, .f32⟩
  | .hbm, ⟨10, _⟩ => ⟨S_, .i32⟩
  | .hbm, ⟨11, _⟩ => ⟨S_, .f32⟩
  | .hbm, ⟨12, _⟩ => ⟨S32x128, .f32⟩
  | .hbm, ⟨13, _⟩ => ⟨S_, .i32⟩
  | .hbm, ⟨14, _⟩ => ⟨S_, .f32⟩
  | .hbm, ⟨15, _⟩ => ⟨S32x128x256, .f32⟩
  | .hbm, ⟨16, _⟩ => ⟨S32x64, .f32⟩
  | .hbm, ⟨17, _⟩ => ⟨S_, .i32⟩
  | .hbm, ⟨18, _⟩ => ⟨S_, .f32⟩
  | .hbm, ⟨19, _⟩ => ⟨S32x128, .f32⟩
  | .hbm, ⟨20, _⟩ => ⟨S_, .i32⟩
  | .hbm, ⟨21, _⟩ => ⟨S_, .f32⟩
  | .hbm, ⟨22, _⟩ => ⟨S32x128x256, .f32⟩
  | .hbm, ⟨23, _⟩ => ⟨S256x64, .f32⟩
  | .hbm, ⟨24, _⟩ => ⟨S_, .i32⟩
  | .hbm, ⟨25, _⟩ => ⟨S_, .f32⟩
  | .hbm, ⟨26, _⟩ => ⟨S256x128, .f32⟩
  | .hbm, ⟨27, _⟩ => ⟨S1x32x128, .f32⟩
  | .hbm, ⟨28, _⟩ => ⟨S1x32x128, .f32⟩
  | .hbm, ⟨29, _⟩ => ⟨S2x32x128, .f32⟩
  | .hbm, ⟨30, _⟩ => ⟨S1x32x128x256, .f32⟩
  | .hbm, ⟨31, _⟩ => ⟨S1x32x128x256, .f32⟩
  | .hbm, ⟨32, _⟩ => ⟨S2x32x128x256, .f32⟩
  | .hbm, ⟨33, _⟩ => ⟨S2x32x128x256, .bf16⟩
  | .hbm, ⟨34, _⟩ => ⟨S256x128, .bf16⟩
  | .hbm, ⟨35, _⟩ => ⟨S2048x256, .f32⟩
  | .hbm, ⟨36, _⟩ => ⟨S32x64x256, .f32⟩
  | .hbm, ⟨37, _⟩ => ⟨S32x64, .f32⟩
  | .hbm, ⟨38, _⟩ => ⟨S_, .i32⟩
  | .hbm, ⟨39, _⟩ => ⟨S_, .f32⟩
  | .hbm, ⟨40, _⟩ => ⟨S32x128, .f32⟩
  | .hbm, ⟨41, _⟩ => ⟨S_, .i32⟩
  | .hbm, ⟨42, _⟩ => ⟨S_, .f32⟩
  | .hbm, ⟨43, _⟩ => ⟨S32x128x256, .f32⟩
  | .hbm, ⟨44, _⟩ => ⟨S32x64, .f32⟩
  | .hbm, ⟨45, _⟩ => ⟨S_, .i32⟩
  | .hbm, ⟨46, _⟩ => ⟨S_, .f32⟩
  | .hbm, ⟨47, _⟩ => ⟨S32x128, .f32⟩
  | .hbm, ⟨48, _⟩ => ⟨S_, .i32⟩
  | .hbm, ⟨49, _⟩ => ⟨S_, .f32⟩
  | .hbm, ⟨50, _⟩ => ⟨S32x128x256, .f32⟩
  | .hbm, ⟨51, _⟩ => ⟨S256x64, .f32⟩
  | .hbm, ⟨52, _⟩ => ⟨S_, .i32⟩
  | .hbm, ⟨53, _⟩ => ⟨S_, .f32⟩
  | .hbm, ⟨54, _⟩ => ⟨S256x128, .f32⟩
  | .hbm, ⟨55, _⟩ => ⟨S1x32x128, .f32⟩
  | .hbm, ⟨56, _⟩ => ⟨S1x32x128, .f32⟩
  | .hbm, ⟨57, _⟩ => ⟨S2x32x128, .f32⟩
  | .hbm, ⟨58, _⟩ => ⟨S1x32x128x256, .f32⟩
  | .hbm, ⟨59, _⟩ => ⟨S1x32x128x256, .f32⟩
  | .hbm, ⟨60, _⟩ => ⟨S2x32x128x256, .f32⟩
  | .hbm, ⟨61, _⟩ => ⟨S2x32x128x256, .bf16⟩
  | .hbm, ⟨62, _⟩ => ⟨S256x128, .bf16⟩
  | .hbm, ⟨63, _⟩ => ⟨S1x2x32x128, .f32⟩
  | .hbm, ⟨64, _⟩ => ⟨S1x2x32x128, .f32⟩
  | .hbm, ⟨65, _⟩ => ⟨S2x2x32x128, .f32⟩
  | .hbm, ⟨66, _⟩ => ⟨S1x2x32x128x256, .bf16⟩
  | .hbm, ⟨67, _⟩ => ⟨S1x2x32x128x256, .bf16⟩
  | .hbm, ⟨68, _⟩ => ⟨S2x2x32x128x256, .bf16⟩
  | .hbm, ⟨69, _⟩ => ⟨S128x256, .bf16⟩
  | .hbm, ⟨70, _⟩ => ⟨S8x2x256x128, .bf16⟩
  | .hbm, ⟨71, _⟩ => ⟨S8x2x128x256, .bf16⟩
  | .local _ .vmem, ⟨0, _⟩ => ⟨S1x4096x128, .bf16⟩
  | .local _ .vmem, ⟨1, _⟩ => ⟨S1x4096x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S2x1x32x128, .f32⟩
  | .local _ .vmem, ⟨5, _⟩ => ⟨S2x1x32x128, .f32⟩
  | .local _ .vmem, ⟨6, _⟩ => ⟨S2x1x32x128x256, .bf16⟩
  | .local _ .vmem, ⟨7, _⟩ => ⟨S2x1x32x128x256, .bf16⟩
  | .local _ .vmem, ⟨8, _⟩ => ⟨S256x128, .bf16⟩
  | .local _ .vmem, ⟨9, _⟩ => ⟨S128x256, .bf16⟩
  | .local _ .vmem, ⟨10, _⟩ => ⟨S1x1x256x128, .bf16⟩
  | .local _ .vmem, ⟨11, _⟩ => ⟨S1x1x256x128, .bf16⟩
  | .local _ .vmem, ⟨12, _⟩ => ⟨S1x1x128x256, .bf16⟩
  | .local _ .vmem, ⟨13, _⟩ => ⟨S1x1x128x256, .bf16⟩
  | .local _ .vmem, ⟨14, _⟩ => ⟨S4096x128, .f32⟩
  | _, _ => ⟨S8x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_v3 : Ref sig .tc := ⟨.hbm, 12, rfl⟩
abbrev main_c_0 : Ref sig .tc := ⟨.hbm, 13, rfl⟩
abbrev main_call1_v0 : Ref sig .tc := ⟨.hbm, 14, rfl⟩
abbrev main_v4 : Ref sig .tc := ⟨.hbm, 15, rfl⟩
abbrev main_v5 : Ref sig .tc := ⟨.hbm, 16, rfl⟩
abbrev main_c_1 : Ref sig .tc := ⟨.hbm, 17, rfl⟩
abbrev main_call2_v0 : Ref sig .tc := ⟨.hbm, 18, rfl⟩
abbrev main_v6 : Ref sig .tc := ⟨.hbm, 19, rfl⟩
abbrev main_c_2 : Ref sig .tc := ⟨.hbm, 20, rfl⟩
abbrev main_call3_v0 : Ref sig .tc := ⟨.hbm, 21, rfl⟩
abbrev main_v7 : Ref sig .tc := ⟨.hbm, 22, rfl⟩
abbrev main_v8 : Ref sig .tc := ⟨.hbm, 23, rfl⟩
abbrev main_c_3 : Ref sig .tc := ⟨.hbm, 24, rfl⟩
abbrev main_call4_v0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_call5_v0 : Ref sig .tc := ⟨.hbm, 39, rfl⟩
abbrev main_v21 : Ref sig .tc := ⟨.hbm, 40, rfl⟩
abbrev main_c_5 : Ref sig .tc := ⟨.hbm, 41, rfl⟩
abbrev main_call6_v0 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_call7_v0 : Ref sig .tc := ⟨.hbm, 46, rfl⟩
abbrev main_v24 : Ref sig .tc := ⟨.hbm, 47, rfl⟩
abbrev main_c_7 : Ref sig .tc := ⟨.hbm, 48, rfl⟩
abbrev main_call8_v0 : Ref sig .tc := ⟨.hbm, 49, rfl⟩
abbrev main_v25 : Ref sig .tc := ⟨.hbm, 50, rfl⟩
abbrev main_v26 : Ref sig .tc := ⟨.hbm, 51, rfl⟩
abbrev main_c_8 : Ref sig .tc := ⟨.hbm, 52, rfl⟩
abbrev main_call9_v0 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43_0 : Ref sig .tc := ⟨.hbm, 70, rfl⟩
abbrev main_v43_1 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c5_i32 : BitVec 32 := 5#32
  let c0_i32_0 : BitVec 32 := 0#32
  ![arg0.toNat, c0_i32.toNat, c5_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg1.toNat, c0_i32_0.toNat, c0_i32_1.toNat, c0_i32_2.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x32x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x4096x1024 : Shape := ⟨3, ![8, 4096, 1024]⟩
abbrev S1x32x64 : Shape := ⟨3, ![1, 32, 64]⟩
abbrev S1x2048x256 : Shape := ⟨3, ![1, 2048, 256]⟩
abbrev S1x256x64 : Shape := ⟨3, ![1, 256, 64]⟩
abbrev S8x4096x128 : Shape := ⟨3, ![8, 4096, 128]⟩
abbrev S32x64 : Shape := ⟨2, ![32, 64]⟩
abbrev S2048x256 : Shape := ⟨2, ![2048, 256]⟩
abbrev S256x64 : Shape := ⟨2, ![256, 64]⟩
abbrev S8x256x16x2x64 : Shape := ⟨5, ![8, 256, 16, 2, 64]⟩
abbrev S8x2x256x16x64 : Shape := ⟨5, ![8, 2, 256, 16, 64]⟩
abbrev S8x2x255x16x64 : Shape := ⟨5, ![8, 2, 255, 16, 64]⟩
abbrev S8x2x1x16x64 : Shape := ⟨5, ![8, 2, 1, 16, 64]⟩
abbrev S8x2x256x32x64 : Shape := ⟨5, ![8, 2, 256, 32, 64]⟩
abbrev S1x1x1x32x64 : Shape := ⟨5, ![1, 1, 1, 32, 64]⟩
abbrev S8x2x256x2048 : Shape := ⟨4, ![8, 2, 256, 2048]⟩
abbrev S8x2x256x256 : Shape := ⟨4, ![8, 2, 256, 256]⟩
abbrev S_ : Shape := ⟨0, ![]⟩
abbrev S8x2x256x64 : Shape := ⟨4, ![8, 2, 256, 64]⟩
abbrev S8x2x64x256 : Shape := ⟨4, ![8, 2, 64, 256]⟩
abbrev S8x2x256x128 : Shape := ⟨4, ![8, 2, 256, 128]⟩
abbrev S8x2x1x256 : Shape := ⟨4, ![8, 2, 1, 256]⟩
abbrev S8x2x63x256 : Shape := ⟨4, ![8, 2, 63, 256]⟩
abbrev S8x2x128x256 : Shape := ⟨4, ![8, 2, 128, 256]⟩

abbrev nBuf : Space → Nat
  | .hbm => 70
  | .vmem => 0
  | .smem => 0
  | _ => 0

abbrev bufTy : (tb : Table) → Fin (tcTables nBuf tb) → BufTy
  | .hbm, ⟨0, _⟩ => ⟨S8x4096x1024, .bf16⟩
  | .hbm, ⟨1, _⟩ => ⟨S1x32x64, .f32⟩
  | .hbm, ⟨2, _⟩ => ⟨S1x2048x256, .f32⟩
  | .hbm, ⟨3, _⟩ => ⟨S1x256x64, .f32⟩
  | .hbm, ⟨4, _⟩ => ⟨S1x32x64, .f32⟩
  | .hbm, ⟨5, _⟩ => ⟨S1x2048x256, .f32⟩
  | .hbm, ⟨6, _⟩ => ⟨S1x256x64, .f32⟩
  | .hbm, ⟨7, _⟩ => ⟨S8x4096x128, .bf16⟩
  | .hbm, ⟨8, _⟩ => ⟨S8x4096x128, .f32⟩
  | .hbm, ⟨9, _⟩ => ⟨S32x64, .f32⟩
  | .hbm, ⟨10, _⟩ => ⟨S2048x256, .f32⟩
  | .hbm, ⟨11, _⟩ => ⟨S256x64, .f32⟩
  | .hbm, ⟨12, _⟩ => ⟨S8x256x16x2x64, .f32⟩
  | .hbm, ⟨13, _⟩ => ⟨S8x2x256x16x64, .f32⟩
  | .hbm, ⟨14, _⟩ => ⟨S8x2x255x16x64, .f32⟩
  | .hbm, ⟨15, _⟩ => ⟨S8x2x1x16x64, .f32⟩
  | .hbm, ⟨16, _⟩ => ⟨S8x2x256x16x64, .f32⟩
  | .hbm, ⟨17, _⟩ => ⟨S8x2x256x32x64, .f32⟩
  | .hbm, ⟨18, _⟩ => ⟨S1x1x1x32x64, .f32⟩
  | .hbm, ⟨19, _⟩ => ⟨S8x2x256x32x64, .f32⟩
  | .hbm, ⟨20, _⟩ => ⟨S8x2x256x32x64, .f32⟩
  | .hbm, ⟨21, _⟩ => ⟨S8x2x256x2048, .f32⟩
  | .hbm, ⟨22, _⟩ => ⟨S8x2x256x256, .f32⟩
  | .hbm, ⟨23, _⟩ => ⟨S8x2x256x256, .f32⟩
  | .hbm, ⟨24, _⟩ => ⟨S8x2x256x256, .f32⟩
  | .hbm, ⟨25, _⟩ => ⟨S_, .f32⟩
  | .hbm, ⟨26, _⟩ => ⟨S8x2x256x256, .f32⟩
  | .hbm, ⟨27, _⟩ => ⟨S8x2x256x256, .f32⟩
  | .hbm, ⟨28, _⟩ => ⟨S_, .f32⟩
  | .hbm, ⟨29, _⟩ => ⟨S8x2x256x256, .f32⟩
  | .hbm, ⟨30, _⟩ => ⟨S8x2x256x256, .f32⟩
  | .hbm, ⟨31, _⟩ => ⟨S8x2x256x256, .f32⟩
  | .hbm, ⟨32, _⟩ => ⟨S8x2x256x64, .f32⟩
  | .hbm, ⟨33, _⟩ => ⟨S8x4096x128, .bf16⟩
  | .hbm, ⟨34, _⟩ => ⟨S8x4096x128, .f32⟩
  | .hbm, ⟨35, _⟩ => ⟨S32x64, .f32⟩
  | .hbm, ⟨36, _⟩ => ⟨S2048x256, .f32⟩
  | .hbm, ⟨37, _⟩ => ⟨S256x64, .f32⟩
  | .hbm, ⟨38, _⟩ => ⟨S8x256x16x2x64, .f32⟩
  | .hbm, ⟨39, _⟩ => ⟨S8x2x256x16x64, .f32⟩
  | .hbm, ⟨40, _⟩ => ⟨S8x2x255x16x64, .f32⟩
  | .hbm, ⟨41, _⟩ => ⟨S8x2x1x16x64, .f32⟩
  | .hbm, ⟨42, _⟩ => ⟨S8x2x256x16x64, .f32⟩
  | .hbm, ⟨43, _⟩ => ⟨S8x2x256x32x64, .f32⟩
  | .hbm, ⟨44, _⟩ => ⟨S1x1x1x32x64, .f32⟩
  | .hbm, ⟨45, _⟩ => ⟨S8x2x256x32x64, .f32⟩
  | .hbm, ⟨46, _⟩ => ⟨S8x2x256x32x64, .f32⟩
  | .hbm, ⟨47, _⟩ => ⟨S8x2x256x2048, .f32⟩
  | .hbm, ⟨48, _⟩ => ⟨S8x2x256x256, .f32⟩
  | .hbm, ⟨49, _⟩ => ⟨S8x2x256x256, .f32⟩
  | .hbm, ⟨50, _⟩ => ⟨S8x2x256x256, .f32⟩
  | .hbm, ⟨51, _⟩ => ⟨S_, .f32⟩
  | .hbm, ⟨52, _⟩ => ⟨S8x2x256x256, .f32⟩
  | .hbm, ⟨53, _⟩ => ⟨S8x2x256x256, .f32⟩
  | .hbm, ⟨54, _⟩ => ⟨S_, .f32⟩
  | .hbm, ⟨55, _⟩ => ⟨S8x2x256x256, .f32⟩
  | .hbm, ⟨56, _⟩ => ⟨S8x2x256x256, .f32⟩
  | .hbm, ⟨57, _⟩ => ⟨S8x2x256x256, .f32⟩
  | .hbm, ⟨58, _⟩ => ⟨S8x2x256x64, .f32⟩
  | .hbm, ⟨59, _⟩ => ⟨S8x2x64x256, .f32⟩
  | .hbm, ⟨60, _⟩ => ⟨S_, .f32⟩
  | .hbm, ⟨61, _⟩ => ⟨S8x2x256x64, .f32⟩
  | .hbm, ⟨62, _⟩ => ⟨S8x2x256x128, .f32⟩
  | .hbm, ⟨63, _⟩ => ⟨S_, .f32⟩
  | .hbm, ⟨64, _⟩ => ⟨S8x2x1x256, .f32⟩
  | .hbm, ⟨65, _⟩ => ⟨S_, .f32⟩
  | .hbm, ⟨66, _⟩ => ⟨S8x2x63x256, .f32⟩
  | .hbm, ⟨67, _⟩ => ⟨S8x2x128x256, .f32⟩
  | .hbm, ⟨68, _⟩ => ⟨S8x2x256x128, .bf16⟩
  | .hbm, ⟨69, _⟩ => ⟨S8x2x128x256, .bf16⟩
  | _, _ => ⟨S8x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst : Ref sig .tc := ⟨.hbm, 60, rfl⟩
abbrev main_v37 : Ref sig .tc := ⟨.hbm, 61, rfl⟩
abbrev main_v38 : Ref sig .tc := ⟨.hbm, 62, rfl⟩
abbrev main_cst_0 : Ref sig .tc := ⟨.hbm, 63, rfl⟩
abbrev main_v39 : Ref sig .tc := ⟨.hbm, 64, rfl⟩
abbrev main_cst_1 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩

abbrev nD : Nat := 1
abbrev τ : Topo := Topo.v7x

variable {F : FTy → Type} [FloatOps F]
-- ==== Kernel5.lean ====
abbrev S32x16 : Shape := ⟨2, ![32, 16]⟩
abbrev S16x32 : Shape := ⟨2, ![16, 32]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S496 : Shape := ⟨1, ![496]⟩
abbrev S496x1 : Shape := ⟨2, ![496, 1]⟩
abbrev S496x256 : Shape := ⟨2, ![496, 256]⟩
abbrev S768x256 : Shape := ⟨2, ![768, 256]⟩
abbrev S4x768x1024 : Shape := ⟨3, ![4, 768, 1024]⟩
abbrev S4x496x1024 : Shape := ⟨3, ![4, 496, 1024]⟩
abbrev S1x768x256 : Shape := ⟨3, ![1, 768, 256]⟩
abbrev S1x496x256 : Shape := ⟨3, ![1, 496, 256]⟩
abbrev S384x256 : Shape := ⟨2, ![384, 256]⟩
abbrev S1x1 : Shape := ⟨2, ![1, 1]⟩
abbrev S1x384x256 : Shape := ⟨3, ![1, 384, 256]⟩
abbrev S224x256 : Shape := ⟨2, ![224, 256]⟩
abbrev S1x224x256 : Shape := ⟨3, ![1, 224, 256]⟩
abbrev S32x256 : Shape := ⟨2, ![32, 256]⟩
abbrev S1x32x256 : Shape := ⟨3, ![1, 32, 256]⟩
abbrev S240x256 : Shape := ⟨2, ![240, 256]⟩
abbrev S1x240x256 : Shape := ⟨3, ![1, 240, 256]⟩
abbrev S16x1 : Shape := ⟨2, ![16, 1]⟩
abbrev S16 : Shape := ⟨1, ![16]⟩

abbrev nBuf : Space → Nat
  | .hbm => 173
  | .vmem => 6
  | .smem => 1
  | _ => 0

abbrev hbmTy0_0 (i : Nat) : BufTy := match i % 128 with
  | 0 => ⟨S32x16, .f32⟩
  | 1 => ⟨S16x32, .f32⟩
  | 2 => ⟨S_, .f32⟩
  | 3 => ⟨S16x32, .f32⟩
  | 4 => ⟨S16x32, .f32⟩
  | 5 => ⟨S256, .i32⟩
  | 6 => ⟨S256x1, .i32⟩
  | 7 => ⟨S256, .i32⟩
  | 8 => ⟨S1x256, .i32⟩
  | 9 => ⟨S256x256, .i32⟩
  | 10 => ⟨S256x256, .i32⟩
  | 11 => ⟨S256x256, .i32⟩
  | 12 => ⟨S_, .i32⟩
  | 13 => ⟨S256x256, .i32⟩
  | 14 => ⟨S256x256, .i1⟩
  | 15 => ⟨S_, .i32⟩
  | 16 => ⟨S256x256, .i32⟩
  | 17 => ⟨S256x256, .i32⟩
  | 18 => ⟨S_, .i32⟩
  | 19 => ⟨S256x256, .i32⟩
  | 20 => ⟨S256x256, .i32⟩
  | 21 => ⟨S256x256, .f32⟩
  | 22 => ⟨S_, .f32⟩
  | 23 => ⟨S256x256, .f32⟩
  | 24 => ⟨S256x256, .f32⟩
  | 25 => ⟨S256x256, .f32⟩
  | 26 => ⟨S_, .f32⟩
  | 27 => ⟨S256x256, .f32⟩
  | 28 => ⟨S256x256, .f32⟩
  | 29 => ⟨S_, .f32⟩
  | 30 => ⟨S256x256, .f32⟩
  | 31 => ⟨S256x256, .f32⟩
  | 32 => ⟨S256x256, .i32⟩
  | 33 => ⟨S_, .i32⟩
  | 34 => ⟨S256x256, .i32⟩
  | 35 => ⟨S256x256, .i32⟩
  | 36 => ⟨S_, .i32⟩
  | 37 => ⟨S256x256, .i32⟩
  | 38 => ⟨S256x256, .i1⟩
  | 39 => ⟨S_, .i32⟩
  | 40 => ⟨S256x256, .i32⟩
  | 41 => ⟨S256x256, .i32⟩
  | 42 => ⟨S256x256, .i32⟩
  | 43 => ⟨S_, .i32⟩
  | 44 => ⟨S_, .i32⟩
  | 45 => ⟨S256x256, .i32⟩
  | 46 => ⟨S256x256, .i32⟩
  | 47 => ⟨S_, .i32⟩
  | 48 => ⟨S256x256, .i32⟩
  | 49 => ⟨S256x256, .i32⟩
  | 50 => ⟨S_, .i32⟩
  | 51 => ⟨S256x256, .i32⟩
  | 52 => ⟨S256x256, .i32⟩
  | 53 => ⟨S_, .i32⟩
  | 54 => ⟨S256x256, .i32⟩
  | 55 => ⟨S256x256, .i32⟩
  | 56 => ⟨S256x256, .f32⟩
  | 57 => ⟨S_, .f32⟩
  | 58 => ⟨S256x256, .f32⟩
  | 59 => ⟨S256x256, .f32⟩
  | 60 => ⟨S256x256, .f32⟩
  | 61 => ⟨S_, .f32⟩
  | 62 => ⟨S256x256, .f32⟩
  | 63 => ⟨S256x256, .f32⟩
  | 64 => ⟨S_, .f32⟩
  | 65 => ⟨S256x256, .f32⟩
  | 66 => ⟨S256x256, .f32⟩
  | 67 => ⟨S256x256, .i32⟩
  | 68 => ⟨S_, .i32⟩
  | 69 => ⟨S256x256, .i32⟩
  | 70 => ⟨S256x256, .i32⟩
  | 71 => ⟨S_, .i32⟩
  | 72 => ⟨S256x256, .i32⟩
  | 73 => ⟨S256x256, .i1⟩
  | 74 => ⟨S_, .i32⟩
  | 75 => ⟨S256x256, .i32⟩
  | 76 => ⟨S256x256, .i32⟩
  | 77 => ⟨S256x256, .i32⟩
  | 78 => ⟨S_, .i32⟩
  | 79 => ⟨S256x256, .i32⟩
  | 80 => ⟨S256x256, .i32⟩
  | 81 => ⟨S_, .i32⟩
  | 82 => ⟨S256x256, .i32⟩
  | 83 => ⟨S256x256, .i1⟩
  | 84 => ⟨S_, .i32⟩
  | 85 => ⟨S256x256, .i32⟩
  | 86 => ⟨S256x256, .i32⟩
  | 87 => ⟨S_, .i32⟩
  | 88 => ⟨S256x256, .i32⟩
  | 89 => ⟨S256x256, .i32⟩
  | 90 => ⟨S_, .i32⟩
  | 91 => ⟨S256x256, .i32⟩
  | 92 => ⟨S256x256, .i32⟩
  | 93 => ⟨S256x256, .f32⟩
  | 94 => ⟨S_, .f32⟩
  | 95 => ⟨S256x256, .f32⟩
  | 96 => ⟨S256x256, .f32⟩
  | 97 => ⟨S256x256, .f32⟩
  | 98 => ⟨S_, .f32⟩
  | 99 => ⟨S256x256, .f32⟩
  | 100 => ⟨S256x256, .f32⟩
  | 101 => ⟨S_, .f32⟩
  | 102 => ⟨S256x256, .f32⟩
  | 103 => ⟨S256x256, .f32⟩
  | 104 => ⟨S256x256, .i32⟩
  | 105 => ⟨S_, .i32⟩
  | 106 => ⟨S256x256, .i32⟩
  | 107 => ⟨S256x256, .i32⟩
  | 108 => ⟨S_, .i32⟩
  | 109 => ⟨S256x256, .i32⟩
  | 110 => ⟨S256x256, .i1⟩
  | 111 => ⟨S_, .i32⟩
  | 112 => ⟨S256x256, .i32⟩
  | 113 => ⟨S256x256, .i32⟩
  | 114 => ⟨S256x256, .i32⟩
  | 115 => ⟨S_, .i32⟩
  | 116 => ⟨S_, .i32⟩
  | 117 => ⟨S256x256, .i32⟩
  | 118 => ⟨S256x256, .i32⟩
  | 119 => ⟨S496, .i32⟩
  | 120 => ⟨S496x1, .i32⟩
  | 121 => ⟨S_, .i32⟩
  | 122 => ⟨S496x1, .i32⟩
  | 123 => ⟨S496x1, .i32⟩
  | 124 => ⟨S_, .i32⟩
  | 125 => ⟨S496x1, .i32⟩
  | 126 => ⟨S496x1, .i32⟩
  | 127 => ⟨S496x256, .i32⟩
  | _ => ⟨S32x16, .f32⟩

abbrev hbmTy0_1 (i : Nat) : BufTy := match i % 128 with
  | 0 => ⟨S496x256, .i32⟩
  | 1 => ⟨S496x256, .i32⟩
  | 2 => ⟨S_, .i32⟩
  | 3 => ⟨S496x256, .i32⟩
  | 4 => ⟨S496x256, .i32⟩
  | 5 => ⟨S_, .i32⟩
  | 6 => ⟨S496x256, .i32⟩
  | 7 => ⟨S496x256, .i1⟩
  | 8 => ⟨S_, .i32⟩
  | 9 => ⟨S496x256, .i32⟩
  | 10 => ⟨S496x256, .i32⟩
  | 11 => ⟨S_, .i32⟩
  | 12 => ⟨S496x256, .i32⟩
  | 13 => ⟨S496x256, .i32⟩
  | 14 => ⟨S496x256, .f32⟩
  | 15 => ⟨S_, .f32⟩
  | 16 => ⟨S496x256, .f32⟩
  | 17 => ⟨S496x256, .f32⟩
  | 18 => ⟨S496x256, .f32⟩
  | 19 => ⟨S_, .f32⟩
  | 20 => ⟨S496x256, .f32⟩
  | 21 => ⟨S496x256, .f32⟩
  | 22 => ⟨S_, .f32⟩
  | 23 => ⟨S496x256, .f32⟩
  | 24 => ⟨S496x256, .f32⟩
  | 25 => ⟨S496x256, .i32⟩
  | 26 => ⟨S_, .i32⟩
  | 27 => ⟨S496x256, .i32⟩
  | 28 => ⟨S496x256, .i32⟩
  | 29 => ⟨S_, .i32⟩
  | 30 => ⟨S496x256, .i32⟩
  | 31 => ⟨S496x256, .i1⟩
  | 32 => ⟨S_, .i32⟩
  | 33 => ⟨S496x256, .i32⟩
  | 34 => ⟨S496x256, .i32⟩
  | 35 => ⟨S496x256, .i32⟩
  | 36 => ⟨S_, .i32⟩
  | 37 => ⟨S_, .i32⟩
  | 38 => ⟨S496x256, .i32⟩
  | 39 => ⟨S496x256, .i32⟩
  | 40 => ⟨S768x256, .i32⟩
  | 41 => ⟨S4x768x1024, .f32⟩
  | 42 => ⟨S4x496x1024, .f32⟩
  | 43 => ⟨S16x1, .f32⟩
  | 44 => ⟨S16, .f32⟩
  | _ => ⟨S32x16, .f32⟩

abbrev hbmTy (i : Nat) : BufTy := match i / 128 with
  | 0 => hbmTy0_0 i
  | 1 => hbmTy0_1 i
  | _ => ⟨S32x16, .f32⟩

abbrev bufTy : (tb : Table) → Fin (tcTables nBuf tb) → BufTy
  | .hbm, ⟨i, _⟩ => hbmTy i
  | .local _ .vmem, ⟨0, _⟩ => ⟨S768x256, .i32⟩
  | .local _ .vmem, ⟨1, _⟩ => ⟨S496x256, .i32⟩
  | .local _ .vmem, ⟨2, _⟩ => ⟨S1x768x256, .f32⟩
  | .local _ .vmem, ⟨3, _⟩ => ⟨S1x768x256, .f32⟩
  | .local _ .vmem, ⟨4, _⟩ => ⟨S1x496x256, .f32⟩
  | .local _ .vmem, ⟨5, _⟩ => ⟨S1x496x256, .f32⟩
  | .local _ .smem, ⟨0, _⟩ => ⟨S16x32, .f32⟩
  | _, _ => ⟨S32x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_v10 : Ref sig .tc := ⟨.hbm, 13, rfl⟩
abbrev main_v11 : Ref sig .tc := ⟨.hbm, 14, rfl⟩
abbrev main_c_0 : Ref sig .tc := ⟨.hbm, 15, rfl⟩
abbrev main_v12 : Ref sig .tc := ⟨.hbm, 16, rfl⟩
abbrev main_v13 : Ref sig .tc := ⟨.hbm, 17, rfl⟩
abbrev main_c_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_5 : Ref sig .tc := ⟨.hbm, 33, rfl⟩
abbrev main_v25 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_c_8 : Ref sig .tc := ⟨.hbm, 43, rfl⟩
abbrev main_call1_v0 : Ref sig .tc := ⟨.hbm, 44, rfl⟩
abbrev main_call1_v1 : Ref sig .tc := ⟨.hbm, 45, rfl⟩
abbrev main_v32 : Ref sig .tc := ⟨.hbm, 46, rfl⟩
abbrev main_c_9 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_13 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_c_15 : Ref sig .tc := ⟨.hbm, 68, rfl⟩
abbrev main_v48 : Ref sig .tc := ⟨.hbm, 69, rfl⟩
abbrev main_v49 : Ref sig .tc := ⟨.hbm, 70, rfl⟩
abbrev main_c_16 : Ref sig .tc := ⟨.hbm, 71, rfl⟩
abbrev main_v50 : Ref sig .tc := ⟨.hbm, 72, rfl⟩
abbrev main_v51 : Ref sig .tc := ⟨.hbm, 73, rfl⟩
abbrev main_c_17 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_18 : Ref sig .tc := ⟨.hbm, 78, rfl⟩
abbrev main_v55 : Ref sig .tc := ⟨.hbm, 79, rfl⟩
abbrev main_v56 : Ref sig .tc := ⟨.hbm, 80, rfl⟩
abbrev main_c_19 : Ref sig .tc := ⟨.hbm, 81, rfl⟩
abbrev main_v57 : Ref sig .tc := ⟨.hbm, 82, rfl⟩
abbrev main_v58 : Ref sig .tc := ⟨.hbm, 83, rfl⟩
abbrev main_c_20 : Ref sig .tc := ⟨.hbm, 84, rfl⟩
abbrev main_v59 : Ref sig .tc := ⟨.hbm, 85, rfl⟩
abbrev main_v60 : Ref sig .tc := ⟨.hbm, 86, rfl⟩
abbrev main_c_21 : Ref sig .tc := ⟨.hbm, 87, rfl⟩
abbrev main_v61 : Ref sig .tc := ⟨.hbm, 88, rfl⟩
abbrev main_v62 : Ref sig .tc := ⟨.hbm, 89, rfl⟩
abbrev main_c_22 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_23 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_24 : Ref sig .tc := ⟨.hbm, 98, rfl⟩
abbrev main_v69 : Ref sig .tc := ⟨.hbm, 99, rfl⟩
abbrev main_v70 : Ref sig .tc := ⟨.hbm, 100, rfl⟩
abbrev main_cst_25 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_26 : Ref sig .tc := ⟨.hbm, 105, rfl⟩
abbrev main_v74 : Ref sig .tc := ⟨.hbm, 106, rfl⟩
abbrev main_v75 : Ref sig .tc := ⟨.hbm, 107, rfl⟩
abbrev main_c_27 : Ref sig .tc := ⟨.hbm, 108, rfl⟩
abbrev main_v76 : Ref sig .tc := ⟨.hbm, 109, rfl⟩
abbrev main_v77 : Ref sig .tc := ⟨.hbm, 110, rfl⟩
abbrev main_c_28 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_c_29 : Ref sig .tc := ⟨.hbm, 115, rfl⟩
abbrev main_call4_v0 : Ref sig .tc := ⟨.hbm, 116, rfl⟩
abbrev main_call4_v1 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_30 : Ref sig .tc := ⟨.hbm, 121, rfl⟩
abbrev main_v84 : Ref sig .tc := ⟨.hbm, 122, rfl⟩
abbrev main_v85 : Ref sig .tc := ⟨.hbm, 123, rfl⟩
abbrev main_c_31 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_c_32 : Ref sig .tc := ⟨.hbm, 130, rfl⟩
abbrev main_v91 : Ref sig .tc := ⟨.hbm, 131, rfl⟩
abbrev main_v92 : Ref sig .tc := ⟨.hbm, 132, rfl⟩
abbrev main_c_33 : Ref sig .tc := ⟨.hbm, 133, rfl⟩
abbrev main_v93 : Ref sig .tc := ⟨.hbm, 134, rfl⟩
abbrev main_v94 : Ref sig .tc := ⟨.hbm, 135, rfl⟩
abbrev main_c_34 : Ref sig .tc := ⟨.hbm, 136, rfl⟩
abbrev main_v95 : Ref sig .tc := ⟨.hbm, 137, rfl⟩
abbrev main_v96 : Ref sig .tc := ⟨.hbm, 138, rfl⟩
abbrev main_c_35 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_36 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_cst_37 : Ref sig .tc := ⟨.hbm, 147, rfl⟩
abbrev main_v103 : Ref sig .tc := ⟨.hbm, 148, rfl⟩
abbrev main_v104 : Ref sig .tc := ⟨.hbm, 149, rfl⟩
abbrev main_cst_38 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_c_39 : Ref sig .tc := ⟨.hbm, 154, rfl⟩
abbrev main_v108 : Ref sig .tc := ⟨.hbm, 155, rfl⟩
abbrev main_v109 : Ref sig .tc := ⟨.hbm, 156, rfl⟩
abbrev main_c_40 : Ref sig .tc := ⟨.hbm, 157, rfl⟩
abbrev main_v110 : Ref sig .tc := ⟨.hbm, 158, rfl⟩
abbrev main_v111 : Ref sig .tc := ⟨.hbm, 159, rfl⟩
abbrev main_c_41 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_c_42 : Ref sig .tc := ⟨.hbm, 164, rfl⟩
abbrev main_call6_v0 : Ref sig .tc := ⟨.hbm, 165, rfl⟩
abbrev main_call6_v1 : Ref sig .tc := ⟨.hbm, 166, rfl⟩
abbrev main_v115 : Ref sig .tc := ⟨.hbm, 167, rfl⟩
abbrev main_v116 : Ref sig .tc := ⟨.hbm, 168, rfl⟩
abbrev main_v117_0 : Ref sig .tc := ⟨.hbm, 169, rfl⟩
abbrev main_v117_1 : Ref sig .tc := ⟨.hbm, 170, rfl⟩
abbrev main_v118 : Ref sig .tc := ⟨.hbm, 171, rfl⟩
abbrev main_v119 : Ref sig .tc := ⟨.hbm, 172, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let v4 : Index := Scalar.indexCast arg0
  let c31 : Index := 31#32
  ![v4.toNat, 31]
def k0_off2 (i : grid0.Coords) : Fin 2 → Nat :=
  let arg0 : BitVec 32 := BitVec.ofNat 32 (i 0).val
  let v17 : Index := Scalar.indexCast arg0
  let c0_7 : Index := 0#32
  ![v17.toNat, 0]
def k0_off3 (i : grid0.Coords) : Fin 2 → Nat :=
  let arg0 : BitVec 32 := BitVec.ofNat 32 (i 0).val
  let v23 : Index := Scalar.indexCast arg0
  let c1 : Index := 1#32
  ![v23.toNat, 1]
def k0_off4 (i : grid0.Coords) : Fin 2 → Nat :=
  let arg0 : BitVec 32 := BitVec.ofNat 32 (i 0).val
  let v29 : Index := Scalar.indexCast arg0
  let c2 : Index := 2#32
  ![v29.toNat, 2]
def k0_off5 (i : grid0.Coords) : Fin 2 → Nat :=
  let arg0 : BitVec 32 := BitVec.ofNat 32 (i 0).val
  let v35 : Index := Scalar.indexCast arg0
  let c3 : Index := 3#32
  ![v35.toNat, 3]
def k0_off6 (i : grid0.Coords) : Fin 2 → Nat :=
  let arg0 : BitVec 32 := BitVec.ofNat 32 (i 0).val
  let v41 : Index := Scalar.indexCast arg0
  let c4 : Index := 4#32
  ![v41.toNat, 4]
def k0_off7 (i : grid0.Coords) : Fin 2 → Nat :=
  let arg0 : BitVec 32 := BitVec.ofNat 32 (i 0).val
  let v47 : Index := Scalar.indexCast arg0
  let c5 : Index := 5#32
  ![v47.toNat, 5]
def k0_off8 (i : grid0.Coords) : Fin 2 → Nat :=
  let arg0 : BitVec 32 := BitVec.ofNat 32 (i 0).val
  let v53 : Index := Scalar.indexCast arg0
  let c6 : Index := 6#32
  ![v53.toNat, 6]
def k0_off9 (i : grid0.Coords) : Fin 2 → Nat :=
  let arg0 : BitVec 32 := BitVec.ofNat 32 (i 0).val
  let v59 : Index := Scalar.indexCast arg0
  let c7 : Index := 7#32
  ![v59.toNat, 7]
def k0_off10 (i : grid0.Coords) : Fin 2 → Nat :=
  let arg0 : BitVec 32 := BitVec.ofNat 32 (i 0).val
  let v65 : Index := Scalar.indexCast arg0
  let c8 : Index := 8#32
  ![v65.toNat, 8]
def k0_off11 (i : grid0.Coords) : Fin 2 → Nat :=
  let arg0 : BitVec 32 := BitVec.ofNat 32 (i 0).val
  let v71 : Index := Scalar.indexCast arg0
  let c9 : Index := 9#32
  ![v71.toNat, 9]
def k0_off12 (i : grid0.Coords) : Fin 2 → Nat :=
  let arg0 : BitVec 32 := BitVec.ofNat 32 (i 0).val
  let v77 : Index := Scalar.indexCast arg0
  let c10 : Index := 10#32
  ![v77.toNat, 10]
def k0_off13 (i : grid0.Coords) : Fin 2 → Nat :=
  let arg0 : BitVec 32 := BitVec.ofNat 32 (i 0).val
  let v83 : Index := Scalar.indexCast arg0
  let c11 : Index := 11#32
  ![v83.toNat, 11]
def k0_off14 (i : grid0.Coords) : Fin 2 → Nat :=
  let arg0 : BitVec 32 := BitVec.ofNat 32 (i 0).val
  let v89 : Index := Scalar.indexCast arg0
  let c12 : Index := 12#32
  ![v89.toNat, 12]
def k0_off15 (i : grid0.Coords) : Fin 2 → Nat :=
  let arg0 : BitVec 32 := BitVec.ofNat 32 (i 0).val
  let v95 : Index := Scalar.indexCast arg0
  let c13 : Index := 13#32
  ![v95.toNat, 13]
def k0_off16 (i : grid0.Coords) : Fin 2 → Nat :=
  let arg0 : BitVec 32 := BitVec.ofNat 32 (i 0).val
  let v101 : Index := Scalar.indexCast arg0
  let c14 : Index := 14#32
  ![v101.toNat, 14]
def k0_off17 (i : grid0.Coords) : Fin 2 → Nat :=
  let arg0 : BitVec 32 := BitVec.ofNat 32 (i 0).val
  let v107 : Index := Scalar.indexCast arg0
  let c15 : Index := 15#32
  ![v107.toNat, 15]
def k0_off18 (i : grid0.Coords) : Fin 2 → Nat :=
  let arg0 : BitVec 32 := BitVec.ofNat 32 (i 0).val
  let v113 : Index := Scalar.indexCast arg0
  let c16 : Index := 16#32
  ![v113.toNat, 16]
def k0_off19 (i : grid0.Coords) : Fin 2 → Nat :=
  let arg0 : BitVec 32 := BitVec.ofNat 32 (i 0).val
  let v119 : Index := Scalar.indexCast arg0
  let c17 : Index := 17#32
  ![v119.toNat, 17]
def k0_off20 (i : grid0.Coords) : Fin 2 → Nat :=
  let arg0 : BitVec 32 := BitVec.ofNat 32 (i 0).val
  let v125 : Index := Scalar.indexCast arg0
  let c18 : Index := 18#32
  ![v125.toNat, 18]
def k0_off21 (i : grid0.Coords) : Fin 2 → Nat :=
  let arg0 : BitVec 32 := BitVec.ofNat 32 (i 0).val
  let v131 : Index := Scalar.indexCast arg0
  let c19 : Index := 19#32
  ![v131.toNat, 19]
def k0_off22 (i : grid0.Coords) : Fin 2 → Nat :=
  let arg0 : BitVec 32 := BitVec.ofNat 32 (i 0).val
  let v137 : Index := Scalar.indexCast arg0
  let c20 : Index := 20#32
  ![v137.toNat, 20]
def k0_off23 (i : grid0.Coords) : Fin 2 → Nat :=
  let arg0 : BitVec 32 := BitVec.ofNat 32 (i 0).val
  let v143 : Index := Scalar.indexCast arg0
  let c21 : Index := 21#32
  ![v143.toNat, 21]
def k0_off24 (i : grid0.Coords) : Fin 2 → Nat :=
  let arg0 : BitVec 32 := BitVec.ofNat 32 (i 0).val
  let v149 : Index := Scalar.indexCast arg0
  let c22 : Index := 22#32
  ![v149.toNat, 22]
def k0_off25 (i : grid0.Coords) : Fin 2 → Nat :=
  let arg0 : BitVec 32 := BitVec.ofNat 32 (i 0).val
  let v155 : Index := Scalar.indexCast arg0
  let c23 : Index := 23#32
  ![v155.toNat, 23]
def k0_off26 (i : grid0.Coords) : Fin 2 → Nat :=
  let arg0 : BitVec 32 := BitVec.ofNat 32 (i 0).val
  let v161 : Index := Scalar.indexCast arg0
  let c24 : Index := 24#32
  ![v161.toNat, 24]
def k0_off27 (i : grid0.Coords) : Fin 2 → Nat :=
  let arg0 : BitVec 32 := BitVec.ofNat 32 (i 0).val
  let v167 : Index := Scalar.indexCast arg0
  let c25 : Index := 25#32
  ![v167.toNat, 25]
def k0_off28 (i : grid0.Coords) : Fin 2 → Nat :=
  let arg0 : BitVec 32 := BitVec.ofNat 32 (i 0).val
  let v173 : Index := Scalar.indexCast arg0
  let c26 : Index := 26#32
  ![v173.toNat, 26]
def k0_off29 (i : grid0.Coords) : Fin 2 → Nat :=
  let arg0 : BitVec 32 := BitVec.ofNat 32 (i 0).val
  let v179 : Index := Scalar.indexCast arg0
  let c27 : Index := 27#32
  ![v179.toNat, 27]
def k0_off30 (i : grid0.Coords) : Fin 2 → Nat :=
  let arg0 : BitVec 32 := BitVec.ofNat 32 (i 0).val
  let v185 : Index := Scalar.indexCast arg0
  let c28 : Index := 28#32
  ![v185.toNat, 28]
def k0_off31 (i : grid0.Coords) : Fin 2 → Nat :=
  let arg0 : BitVec 32 := BitVec.ofNat 32 (i 0).val
  let v191 : Index := Scalar.indexCast arg0
  let c29 : Index := 29#32
  ![v191.toNat, 29]
def k0_off32 (i : grid0.Coords) : Fin 2 → Nat :=
  let arg0 : BitVec 32 := BitVec.ofNat 32 (i 0).val
  let v197 : Index := Scalar.indexCast arg0
  let c30 : Index := 30#32
  ![v197.toNat, 30]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 1 → Memref sig .tc .smem S16x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S768x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S496x256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x768x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x496x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel5Ideal.lean ====
variable {F : FTy → Type} [FloatOps F] [Named F]
def κ : String → Option EReal := fun
  | "mask" => some ⊥
  | _ => none
-- ==== Reference5Ideal.lean ====
abbrev S32x16 : Shape := ⟨2, ![32, 16]⟩
abbrev S16x32 : Shape := ⟨2, ![16, 32]⟩
abbrev S_ : Shape := ⟨0, ![]⟩
abbrev S8192 : Shape := ⟨1, ![8192]⟩
abbrev S8192x1 : Shape := ⟨2, ![8192, 1]⟩
abbrev S16x8192 : Shape := ⟨2, ![16, 8192]⟩
abbrev S256 : Shape := ⟨1, ![256]⟩
abbrev S1x256 : Shape := ⟨2, ![1, 256]⟩
abbrev S768 : Shape := ⟨1, ![768]⟩
abbrev S768x1 : Shape := ⟨2, ![768, 1]⟩
abbrev S768x256 : Shape := ⟨2, ![768, 256]⟩
abbrev S496 : Shape := ⟨1, ![496]⟩
abbrev S496x1 : Shape := ⟨2, ![496, 1]⟩
abbrev S496x256 : Shape := ⟨2, ![496, 256]⟩
abbrev S768x256x1 : Shape := ⟨3, ![768, 256, 1]⟩
abbrev S16x768x256 : Shape := ⟨3, ![16, 768, 256]⟩
abbrev S4x4x768x256 : Shape := ⟨4, ![4, 4, 768, 256]⟩
abbrev S4x768x4x256 : Shape := ⟨4, ![4, 768, 4, 256]⟩
abbrev S4x768x1024 : Shape := ⟨3, ![4, 768, 1024]⟩
abbrev S496x256x1 : Shape := ⟨3, ![496, 256, 1]⟩
abbrev S16x496x256 : Shape := ⟨3, ![16, 496, 256]⟩
abbrev S4x4x496x256 : Shape := ⟨4, ![4, 4, 496, 256]⟩
abbrev S4x496x4x256 : Shape := ⟨4, ![4, 496, 4, 256]⟩
abbrev S4x496x1024 : Shape := ⟨3, ![4, 496, 1024]⟩
abbrev S16x1 : Shape := ⟨2, ![16, 1]⟩
abbrev S16 : Shape := ⟨1, ![16]⟩

abbrev nBuf : Space → Nat
  | .hbm => 118
  | .vmem => 0
  | .smem => 0
  | _ => 0

abbrev bufTy : (tb : Table) → Fin (tcTables nBuf tb) → BufTy
  | .hbm, ⟨0, _⟩ => ⟨S32x16, .f32⟩
  | .hbm, ⟨1, _⟩ => ⟨S16x32, .f32⟩
  | .hbm, ⟨2, _⟩ => ⟨S_, .f32⟩
  | .hbm, ⟨3, _⟩ => ⟨S16x32, .f32⟩
  | .hbm, ⟨4, _⟩ => ⟨S16x32, .f32⟩
  | .hbm, ⟨5, _⟩ => ⟨S8192, .i32⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .f32⟩
  | .hbm, ⟨10, _⟩ => ⟨S_, .f32⟩
  | .hbm, ⟨11, _⟩ => ⟨S8192, .f32⟩
  | .hbm, ⟨12, _⟩ => ⟨S8192, .f32⟩
  | .hbm, ⟨13, _⟩ => ⟨S8192, .f32⟩
  | .hbm, ⟨14, _⟩ => ⟨S_, .f32⟩
  | .hbm, ⟨15, _⟩ => ⟨S8192, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S8192, .i32⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S8192, .i32⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S16x8192, .f32⟩
  | .hbm, ⟨42, _⟩ => ⟨S256, .i32⟩
  | .hbm, ⟨43, _⟩ => ⟨S1x256, .i32⟩
  | .hbm, ⟨44, _⟩ => ⟨S_, .i32⟩
  | .hbm, ⟨45, _⟩ => ⟨S1x256, .i32⟩
  | .hbm, ⟨46, _⟩ => ⟨S1x256, .i32⟩
  | .hbm, ⟨47, _⟩ => ⟨S768, .i32⟩
  | .hbm, ⟨48, _⟩ => ⟨S768x1, .i32⟩
  | .hbm, ⟨49, _⟩ => ⟨S768x256, .i32⟩
  | .hbm, ⟨50, _⟩ => ⟨S768x256, .i32⟩
  | .hbm, ⟨51, _⟩ => ⟨S768x256, .i32⟩
  | .hbm, ⟨52, _⟩ => ⟨S496, .i32⟩
  | .hbm, ⟨53, _⟩ => ⟨S496x1, .i32⟩
  | .hbm, ⟨54, _⟩ => ⟨S_, .i32⟩
  | .hbm, ⟨55, _⟩ => ⟨S496x1, .i32⟩
  | .hbm, ⟨56, _⟩ => ⟨S496x1, .i32⟩
  | .hbm, ⟨57, _⟩ => ⟨S_, .i32⟩
  | .hbm, ⟨58, _⟩ => ⟨S496x1, .i32⟩
  | .hbm, ⟨59, _⟩ => ⟨S496x1, .i32⟩
  | .hbm, ⟨60, _⟩ => ⟨S496x256, .i32⟩
  | .hbm, ⟨61, _⟩ => ⟨S496x256, .i32⟩
  | .hbm, ⟨62, _⟩ => ⟨S496x256, .i32⟩
  | .hbm, ⟨63, _⟩ => ⟨S_, .i32⟩
  | .hbm, ⟨64, _⟩ => ⟨S496x256, .i32⟩
  | .hbm, ⟨65, _⟩ => ⟨S496x256, .i32⟩
  | .hbm, ⟨66, _⟩ => ⟨S_, .i32⟩
  | .hbm, ⟨67, _⟩ => ⟨S768x256, .i32⟩
  | .hbm, ⟨68, _⟩ => ⟨S768x256, .i1⟩
  | .hbm, ⟨69, _⟩ => ⟨S_, .i32⟩
  | .hbm, ⟨70, _⟩ => ⟨S768x256, .i32⟩
  | .hbm, ⟨71, _⟩ => ⟨S768x256, .i1⟩
  | .hbm, ⟨72, _⟩ => ⟨S768x256, .i1⟩
  | .hbm, ⟨73, _⟩ => ⟨S_, .i32⟩
  | .hbm, ⟨74, _⟩ => ⟨S768x256, .i32⟩
  | .hbm, ⟨75, _⟩ => ⟨S768x256, .i32⟩
  | .hbm, ⟨76, _⟩ => ⟨S_, .i32⟩
  | .hbm, ⟨77, _⟩ => ⟨S768x256, .i32⟩
  | .hbm, ⟨78, _⟩ => ⟨S768x256, .i1⟩
  | .hbm, ⟨79, _⟩ => ⟨S_, .i32⟩
  | .hbm, ⟨80, _⟩ => ⟨S768x256, .i32⟩
  | .hbm, ⟨81, _⟩ => ⟨S768x256, .i32⟩
  | .hbm, ⟨82, _⟩ => ⟨S768x256, .i32⟩
  | .hbm, ⟨83, _⟩ => ⟨S768x256x1, .i32⟩
  | .hbm, ⟨84, _⟩ => ⟨S16x768x256, .f32⟩
  | .hbm, ⟨85, _⟩ => ⟨S_, .f32⟩
  | .hbm, ⟨86, _⟩ => ⟨S_, .f32⟩
  | .hbm, ⟨87, _⟩ => ⟨S16x768x256, .i1⟩
  | .hbm, ⟨88, _⟩ => ⟨S16x768x256, .f32⟩
  | .hbm, ⟨89, _⟩ => ⟨S16x768x256, .f32⟩
  | .hbm, ⟨90, _⟩ => ⟨S4x4x768x256, .f32⟩
  | .hbm, ⟨91, _⟩ => ⟨S4x768x4x256, .f32⟩
  | .hbm, ⟨92, _⟩ => ⟨S4x768x1024, .f32⟩
  | .hbm, ⟨93, _⟩ => ⟨S_, .i32⟩
  | .hbm, ⟨94, _⟩ => ⟨S496x256, .i32⟩
  | .hbm, ⟨95, _⟩ => ⟨S496x256, .i1⟩
  | .hbm, ⟨96, _⟩ => ⟨S_, .i32⟩
  | .hbm, ⟨97, _⟩ => ⟨S496x256, .i32⟩
  | .hbm, ⟨98, _⟩ => ⟨S496x256, .i32⟩
  | .hbm, ⟨99, _⟩ => ⟨S_, .i32⟩
  | .hbm, ⟨100, _⟩ => ⟨S496x256, .i32⟩
  | .hbm, ⟨101, _⟩ => ⟨S496x256, .i1⟩
  | .hbm, ⟨102, _⟩ => ⟨S_, .i32⟩
  | .hbm, ⟨103, _⟩ => ⟨S496x256, .i32⟩
  | .hbm, ⟨104, _⟩ => ⟨S496x256, .i32⟩
  | .hbm, ⟨105, _⟩ => ⟨S496x256, .i32⟩
  | .hbm, ⟨106, _⟩ => ⟨S496x256x1, .i32⟩
  | .hbm, ⟨107, _⟩ => ⟨S16x496x256, .f32⟩
  | .hbm, ⟨108, _⟩ => ⟨S_, .f32⟩
  | .hbm, ⟨109, _⟩ => ⟨S_, .f32⟩
  | .hbm, ⟨110, _⟩ => ⟨S16x496x256, .i1⟩
  | .hbm, ⟨111, _⟩ => ⟨S16x496x256, .f32⟩
  | .hbm, ⟨112, _⟩ => ⟨S16x496x256, .f32⟩
  | .hbm, ⟨113, _⟩ => ⟨S4x4x496x256, .f32⟩
  | .hbm, ⟨114, _⟩ => ⟨S4x496x4x256, .f32⟩
  | .hbm, ⟨115, _⟩ => ⟨S4x496x1024, .f32⟩
  | .hbm, ⟨116, _⟩ => ⟨S16x1, .f32⟩
  | .hbm, ⟨117, _⟩ => ⟨S16, .f32⟩
  | _, _ => ⟨S32x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_6 : Ref sig .tc := ⟨.hbm, 33, rfl⟩
abbrev main_v24 : Ref sig .tc := ⟨.hbm, 34, rfl⟩
abbrev main_v25 : Ref sig .tc := ⟨.hbm, 35, rfl⟩
abbrev main_c_7 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_c_8 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_c_9 : Ref sig .tc := ⟨.hbm, 54, rfl⟩
abbrev main_v42 : Ref sig .tc := ⟨.hbm, 55, rfl⟩
abbrev main_v43 : Ref sig .tc := ⟨.hbm, 56, rfl⟩
abbrev main_c_10 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_c_11 : Ref sig .tc := ⟨.hbm, 63, rfl⟩
abbrev main_v49 : Ref sig .tc := ⟨.hbm, 64, rfl⟩
abbrev main_v50 : Ref sig .tc := ⟨.hbm, 65, rfl⟩
abbrev main_c_12 : Ref sig .tc := ⟨.hbm, 66, rfl⟩
abbrev main_v51 : Ref sig .tc := ⟨.hbm, 67, rfl⟩
abbrev main_v52 : Ref sig .tc := ⟨.hbm, 68, rfl⟩
abbrev main_c_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_14 : Ref sig .tc := ⟨.hbm, 73, rfl⟩
abbrev main_v56 : Ref sig .tc := ⟨.hbm, 74, rfl⟩
abbrev main_v57 : Ref sig .tc := ⟨.hbm, 75, rfl⟩
abbrev main_c_15 : Ref sig .tc := ⟨.hbm, 76, rfl⟩
abbrev main_v58 : Ref sig .tc := ⟨.hbm, 77, rfl⟩
abbrev main_v59 : Ref sig .tc := ⟨.hbm, 78, rfl⟩
abbrev main_c_16 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_17 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_18 : Ref sig .tc := ⟨.hbm, 93, rfl⟩
abbrev main_v69 : Ref sig .tc := ⟨.hbm, 94, rfl⟩
abbrev main_v70 : Ref sig .tc := ⟨.hbm, 95, rfl⟩
abbrev main_c_19 : Ref sig .tc := ⟨.hbm, 96, rfl⟩
abbrev main_v71 : Ref sig .tc := ⟨.hbm, 97, rfl⟩
abbrev main_v72 : Ref sig .tc := ⟨.hbm, 98, rfl⟩
abbrev main_c_20 : Ref sig .tc := ⟨.hbm, 99, rfl⟩
abbrev main_v73 : Ref sig .tc := ⟨.hbm, 100, rfl⟩
abbrev main_v74 : Ref sig .tc := ⟨.hbm, 101, rfl⟩
abbrev main_c_21 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_22 : Ref sig .tc := ⟨.hbm, 108, rfl⟩
abbrev main_call2_v0 : Ref sig .tc := ⟨.hbm, 109, rfl⟩
abbrev main_call2_v1 : Ref sig .tc := ⟨.hbm, 110, rfl⟩
abbrev main_call2_v2 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩

abbrev nD : Nat := 1
abbrev τ : Topo := Topo.v7x

variable {F : FTy → Type} [FloatOps F]
-- ==== Proof.Attn.BodyIdeal.lean ====
/- The idealized attention kernel's body, run once on any buffers: it neither faults nor blocks. -/
module

public import proofs.«01_k».proof.Proof.Gen.KernelIdeal.Frame
public import proofs.«01_k».proof.Proof.Gen.KernelIdeal.Loops
public import Idealize.ShloMosaic.Lib.Exec

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The loop over the pairs by its invariant, the body not depending on the last two values computed before it. -/
@[sl_loop] def pairs (𝒱 : Variants) (c : Dev nD) (bd : Option 𝒱.V) (E : Set ℕ) (i : grid0.Coords) (arg2 : Memref sig .tc .smem S16 .f32) (harg2 : arg2.IsWhole) (arg3 : Memref sig .tc .smem S105 .i32) (harg3 : arg3.IsWhole) (arg4 : Memref sig .tc .smem S105 .i32) (harg4 : arg4.IsWhole) (arg5 : Memref sig .tc .vmem S1x256x4096 .bf16) (harg5 : arg5.IsWhole) (arg6 : Memref sig .tc .vmem S1x4096x256 .bf16) (harg6 : arg6.IsWhole) (arg7 : Memref sig .tc .vmem S1x256x4096 .bf16) (harg7 : arg7.IsWhole) (arg8 : Memref sig .tc .vmem S4096x128 .bf16) (harg8 : arg8.IsWhole) (arg9 : Memref sig .tc .vmem S1x768x1024 .f32) (harg9 : arg9.IsWhole) (arg10 : Memref sig .tc .vmem S1x256x4096 .bf16) (harg10 : arg10.IsWhole) (arg11 : Memref sig .tc .vmem S4x128x128 .f32) (harg11 : arg11.IsWhole) (arg12 : Memref sig .tc .vmem S4096x512 .bf16) (harg12 : arg12.IsWhole) (arg13 : Memref sig .tc .vmem S4x80x4096 .bf16) (harg13 : arg13.IsWhole) (arg14 : Memref sig .tc .vmem S4x128x4096 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x16384 .f32) (harg17 : arg17.IsWhole) (arg18 : Memref sig .tc .vmem S80x16384 .f32) (harg18 : arg18.IsWhole) (v2394 : FVec F S1x1024 .f32) (X_arg3 : BufTy.Contents (Elt F) arg3.view.ty) (X_arg4 : BufTy.Contents (Elt F) arg4.view.ty) (X_arg12 : BufTy.Contents (Elt F) arg12.view.ty) (X_arg13 : BufTy.Contents (Elt F) arg13.view.ty) (X_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (k0_hw3L : ∀ (kq : ℕ) (hkq : kq < k0_t1_loop.trips), k0_chk3 (arg3.view.readAt (Elt F) (Rect.unit (s := S105) (k0_off57 ⟨kq, hkq⟩) S1.size (k0_off57_inb ⟨kq, hkq⟩)).toLoadRect X_arg3 (Shape.Idx.first (numel1_S1.symm ▸ Nat.one_pos)))) (k0_hw4L : ∀ (kq : ℕ) (hkq : kq < k0_t1_loop.trips), k0_chk4 (arg4.view.readAt (Elt F) (Rect.unit (s := S105) (k0_off57 ⟨kq, hkq⟩) S1.size (k0_off57_inb ⟨kq, hkq⟩)).toLoadRect X_arg4 (Shape.Idx.first (numel1_S1.symm ▸ Nat.one_pos)))) (k0_hw6L : ∀ (kq : ℕ) (hkq : kq < k0_t1_loop.trips), k0_chk6 (arg3.view.readAt (Elt F) (Rect.unit (s := S105) (k0_off66 ⟨kq, hkq⟩) S1.size (k0_off66_inb ⟨kq, hkq⟩)).toLoadRect X_arg3 (Shape.Idx.first (numel1_S1.symm ▸ Nat.one_pos)))) (k0_hw5L : ∀ (kq : ℕ) (hkq : kq < k0_t1_loop.trips), k0_chk5 (arg4.view.readAt (Elt F) (Rect.unit (s := S105) (k0_off66 ⟨kq, hkq⟩) S1.size (k0_off66_inb ⟨kq, hkq⟩)).toLoadRect X_arg4 (Shape.Idx.first (numel1_S1.symm ▸ Nat.one_pos)))) (k0_hw7L : ∀ (kq : ℕ) (hkq : kq < k0_t1_loop.trips), k0_chk7 (arg3.view.readAt (Elt F) (Rect.unit (s := S105) (k0_off73 ⟨kq, hkq⟩) S1.size (k0_off73_inb ⟨kq, hkq⟩)).toLoadRect X_arg3 (Shape.Idx.first (numel1_S1.symm ▸ Nat.one_pos)))) (k0_hw8L : ∀ (kq : ℕ) (hkq : kq < k0_t1_loop.trips), k0_chk8 (arg4.view.readAt (Elt F) (Rect.unit (s := S105) (k0_off73 ⟨kq, hkq⟩) S1.size (k0_off73_inb ⟨kq, hkq⟩)).toLoadRect X_arg4 (Shape.Idx.first (numel1_S1.symm ▸ Nat.one_pos)))) (k0_hw10L : ∀ (kq : ℕ) (hkq : kq < k0_t1_loop.trips), k0_chk10 (arg3.view.readAt (Elt F) (Rect.unit (s := S105) (k0_off82 ⟨kq, hkq⟩) S1.size (k0_off82_inb ⟨kq, hkq⟩)).toLoadRect X_arg3 (Shape.Idx.first (numel1_S1.symm ▸ Nat.one_pos)))) (k0_hw9L : ∀ (kq : ℕ) (hkq : kq < k0_t1_loop.trips), k0_chk9 (arg4.view.readAt (Elt F) (Rect.unit (s := S105) (k0_off82 ⟨kq, hkq⟩) S1.size (k0_off82_inb ⟨kq, hkq⟩)).toLoadRect X_arg4 (Shape.Idx.first (numel1_S1.symm ▸ Nat.one_pos)))) :=
  loopInv_k0_t1 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v2394 (broadcast S256x1024 (Scalar.ofBits .f32 0x00000000#32)) (broadcast S256x1024 (Scalar.ofBits .f32 0x00000000#32)) X_arg3 X_arg4 X_arg12 X_arg13 X_arg14 G_arg15 G_arg16 G_arg17 G_arg18 k0_hw3L k0_hw4L k0_hw6L k0_hw5L k0_hw7L k0_hw8L k0_hw10L k0_hw9L

set_option maxHeartbeats 0 in
/-- The body run on any buffers: when every word of the two tables of pairs, read anywhere, meets the alignment and range
    conditions of the slices it addresses, the body runs to the end; the tables and the read operands keep their contents,
    and the result's buffer and the scratch buffers hold some contents. -/
theorem safe (c : Dev nD) (E : Set ℕ) (i : grid0.Coords) (arg2 : Memref sig .tc .smem S16 .f32) (harg2 : arg2.IsWhole) (arg3 : Memref sig .tc .smem S105 .i32) (harg3 : arg3.IsWhole) (arg4 : Memref sig .tc .smem S105 .i32) (harg4 : arg4.IsWhole) (arg5 : Memref sig .tc .vmem S1x256x4096 .bf16) (harg5 : arg5.IsWhole) (arg6 : Memref sig .tc .vmem S1x4096x256 .bf16) (harg6 : arg6.IsWhole) (arg7 : Memref sig .tc .vmem S1x256x4096 .bf16) (harg7 : arg7.IsWhole) (arg8 : Memref sig .tc .vmem S4096x128 .bf16) (harg8 : arg8.IsWhole) (arg9 : Memref sig .tc .vmem S1x768x1024 .f32) (harg9 : arg9.IsWhole) (arg10 : Memref sig .tc .vmem S1x256x4096 .bf16) (harg10 : arg10.IsWhole) (arg11 : Memref sig .tc .vmem S4x128x128 .f32) (harg11 : arg11.IsWhole) (arg12 : Memref sig .tc .vmem S4096x512 .bf16) (harg12 : arg12.IsWhole) (arg13 : Memref sig .tc .vmem S4x80x4096 .bf16) (harg13 : arg13.IsWhole) (arg14 : Memref sig .tc .vmem S4x128x4096 .bf16) (harg14 : arg14.IsWhole) (arg15 : Memref sig .tc .vmem S256x1024 .f32) (harg15 : arg15.IsWhole) (arg16 : Memref sig .tc .vmem S256x1024 .f32) (harg16 : arg16.IsWhole) (arg17 : Memref sig .tc .vmem S1x16384 .f32) (harg17 : arg17.IsWhole) (arg18 : Memref sig .tc .vmem S80x16384 .f32) (harg18 : arg18.IsWhole)
    (f2 : BufTy.Contents (Elt F) arg2.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty)
    (f3 : BufTy.Contents (Elt F) arg3.view.ty) (f4 : BufTy.Contents (Elt F) arg4.view.ty)
    (hc1 : ∀ (r : Rect S105) (y), k0_chk1 (arg3.view.readAt (Elt F) r.toLoadRect f3 y))
    (hc3 : ∀ (r : Rect S105) (y), k0_chk3 (arg3.view.readAt (Elt F) r.toLoadRect f3 y))
    (hc6 : ∀ (r : Rect S105) (y), k0_chk6 (arg3.view.readAt (Elt F) r.toLoadRect f3 y))
    (hc7 : ∀ (r : Rect S105) (y), k0_chk7 (arg3.view.readAt (Elt F) r.toLoadRect f3 y))
    (hc10 : ∀ (r : Rect S105) (y), k0_chk10 (arg3.view.readAt (Elt F) r.toLoadRect f3 y))
    (hc12 : ∀ (r : Rect S105) (y), k0_chk12 (arg3.view.readAt (Elt F) r.toLoadRect f3 y))
    (hc2 : ∀ (r : Rect S105) (y), k0_chk2 (arg4.view.readAt (Elt F) r.toLoadRect f4 y))
    (hc4 : ∀ (r : Rect S105) (y), k0_chk4 (arg4.view.readAt (Elt F) r.toLoadRect f4 y))
    (hc5 : ∀ (r : Rect S105) (y), k0_chk5 (arg4.view.readAt (Elt F) r.toLoadRect f4 y))
    (hc8 : ∀ (r : Rect S105) (y), k0_chk8 (arg4.view.readAt (Elt F) r.toLoadRect f4 y))
    (hc9 : ∀ (r : Rect S105) (y), k0_chk9 (arg4.view.readAt (Elt F) r.toLoadRect f4 y))
    (hc11 : ∀ (r : Rect S105) (y), k0_chk11 (arg4.view.readAt (Elt F) r.toLoadRect f4 y))
    (K : PUnit → sProp 𝕄) :
    iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16)) ∗ (∃ f17, (arg17.view.loc (c : Thread nD τ) ↦[arg17.view.set]{fullShare} f17)) ∗ (∃ f18, (arg18.view.loc (c : Thread nD τ) ↦[arg18.view.set]{fullShare} f18))
        ∗ (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (∃ f10, (arg10.view.loc (c : Thread nD τ) ↦[arg10.view.set]{fullShare} f10)) ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ (∃ f15, (arg15.view.loc (c : Thread nD τ) ↦[arg15.view.set]{fullShare} f15)) ∗ (∃ f16, (arg16.view.loc (c : Thread nD τ) ↦[arg16.view.set]{fullShare} f16)) ∗ (∃ f17, (arg17.view.loc (c : Thread nD τ) ↦[arg17.view.set]{fullShare} f17)) ∗ (∃ f18, (arg18.view.loc (c : Thread nD τ) ↦[arg18.view.set]{fullShare} f18))) -∗ K ⟨⟩))
      ⊢ wp frame (wpE (defs₀ (F := F)) Variants.none c none) E (cc0_moba i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  have k0_hw3L : ∀ (kq : ℕ) (hkq : kq < k0_t1_loop.trips), k0_chk3 (arg3.view.readAt (Elt F) (Rect.unit (s := S105) (k0_off57 ⟨kq, hkq⟩) S1.size (k0_off57_inb ⟨kq, hkq⟩)).toLoadRect f3 (Shape.Idx.first (numel1_S1.symm ▸ Nat.one_pos))) := fun _ _ => hc3 _ _
  have k0_hw4L : ∀ (kq : ℕ) (hkq : kq < k0_t1_loop.trips), k0_chk4 (arg4.view.readAt (Elt F) (Rect.unit (s := S105) (k0_off57 ⟨kq, hkq⟩) S1.size (k0_off57_inb ⟨kq, hkq⟩)).toLoadRect f4 (Shape.Idx.first (numel1_S1.symm ▸ Nat.one_pos))) := fun _ _ => hc4 _ _
  have k0_hw6L : ∀ (kq : ℕ) (hkq : kq < k0_t1_loop.trips), k0_chk6 (arg3.view.readAt (Elt F) (Rect.unit (s := S105) (k0_off66 ⟨kq, hkq⟩) S1.size (k0_off66_inb ⟨kq, hkq⟩)).toLoadRect f3 (Shape.Idx.first (numel1_S1.symm ▸ Nat.one_pos))) := fun _ _ => hc6 _ _
  have k0_hw5L : ∀ (kq : ℕ) (hkq : kq < k0_t1_loop.trips), k0_chk5 (arg4.view.readAt (Elt F) (Rect.unit (s := S105) (k0_off66 ⟨kq, hkq⟩) S1.size (k0_off66_inb ⟨kq, hkq⟩)).toLoadRect f4 (Shape.Idx.first (numel1_S1.symm ▸ Nat.one_pos))) := fun _ _ => hc5 _ _
  have k0_hw7L : ∀ (kq : ℕ) (hkq : kq < k0_t1_loop.trips), k0_chk7 (arg3.view.readAt (Elt F) (Rect.unit (s := S105) (k0_off73 ⟨kq, hkq⟩) S1.size (k0_off73_inb ⟨kq, hkq⟩)).toLoadRect f3 (Shape.Idx.first (numel1_S1.symm ▸ Nat.one_pos))) := fun _ _ => hc7 _ _
  have k0_hw8L : ∀ (kq : ℕ) (hkq : kq < k0_t1_loop.trips), k0_chk8 (arg4.view.readAt (Elt F) (Rect.unit (s := S105) (k0_off73 ⟨kq, hkq⟩) S1.size (k0_off73_inb ⟨kq, hkq⟩)).toLoadRect f4 (Shape.Idx.first (numel1_S1.symm ▸ Nat.one_pos))) := fun _ _ => hc8 _ _
  have k0_hw10L : ∀ (kq : ℕ) (hkq : kq < k0_t1_loop.trips), k0_chk10 (arg3.view.readAt (Elt F) (Rect.unit (s := S105) (k0_off82 ⟨kq, hkq⟩) S1.size (k0_off82_inb ⟨kq, hkq⟩)).toLoadRect f3 (Shape.Idx.first (numel1_S1.symm ▸ Nat.one_pos))) := fun _ _ => hc10 _ _
  have k0_hw9L : ∀ (kq : ℕ) (hkq : kq < k0_t1_loop.trips), k0_chk9 (arg4.view.readAt (Elt F) (Rect.unit (s := S105) (k0_off82 ⟨kq, hkq⟩) S1.size (k0_off82_inb ⟨kq, hkq⟩)).toLoadRect f4 (Shape.Idx.first (numel1_S1.symm ▸ Nat.one_pos))) := fun _ _ => hc9 _ _
  simp only [cc0_moba_eq_skeleton]; unfold cc0_moba_skel
  iintro ⟨H2, H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, Hk⟩
  sl_exec (disch := (intros; first | exact hc1 _ _ | exact hc2 _ _ | exact hc3 _ _ | exact hc4 _ _ | exact hc5 _ _ | exact hc6 _ _ | exact hc7 _ _ | exact hc8 _ _ | exact hc9 _ _ | exact hc10 _ _ | exact hc11 _ _ | exact hc12 _ _))
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18

end Cert.Proof.AttnIdeal

end
-- ==== Proof.Attn.TablesIdeal.lean ====
/- The idealized attention kernel's two tables of pairs. -/
module

public import proofs.«01_k».proof.Proof.Gen.KernelIdeal.Frame
public import Idealize.ShloMosaic.Lib.Pipeline.ValueKit

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The two tables of pairs -/

/-- A word of the table of query tiles: every slice it addresses is aligned and inside its buffer. -/
def RowOk (w : BitVec 32) : Prop := k0_chk1 w ∧ k0_chk3 w ∧ k0_chk6 w ∧ k0_chk7 w ∧ k0_chk10 w ∧ k0_chk12 w

/-- A word of the table of key blocks: every slice it addresses is aligned and inside its buffer. -/
def ColOk (w : BitVec 32) : Prop := k0_chk2 w ∧ k0_chk4 w ∧ k0_chk5 w ∧ k0_chk8 w ∧ k0_chk9 w ∧ k0_chk11 w

set_option maxHeartbeats 0 in
/-- The numbers below sixteen are such words. -/
theorem rowOk_small : ∀ k : Fin 16, RowOk (BitVec.ofNat 32 k.val) := by
  intro k; unfold RowOk
  refine ⟨?_, ?_, ?_, ?_, ?_, ?_⟩ <;> revert k <;> decide +kernel

set_option maxHeartbeats 0 in
theorem colOk_small : ∀ k : Fin 16, ColOk (BitVec.ofNat 32 k.val) := by
  intro k; unfold ColOk
  refine ⟨?_, ?_, ?_, ?_, ?_, ?_⟩ <;> revert k <;> decide +kernel

/-- Every word of the two tables is a number below sixteen. -/
theorem small_lit0 : ∀ k : Fin 105, ∃ j : Fin 16, lit0 k = BitVec.ofNat 32 j.val := by decide +kernel
theorem small_lit1 : ∀ k : Fin 105, ∃ j : Fin 16, lit1 k = BitVec.ofNat 32 j.val := by decide +kernel

/-- The two tables as arrays. -/
def rowTable : (⟨S105, .i32⟩ : BufTy).Contents (Elt F) := fun i => lit0 (S105.rowMajor i)
def colTable : (⟨S105, .i32⟩ : BufTy).Contents (Elt F) := fun i => lit1 (S105.rowMajor i)

/-- The region finds the two tables as the program's constants. -/
theorem V_rows (c : Dev nD) : V m c main_c = rowTable := by
  unfold_abbrev_sides
  after_results
  rfl
theorem V_cols (c : Dev nD) : V m c main_c_0 = colTable := by
  unfold_abbrev_sides
  after_results
  rfl

/-- At every point each word of the first table's block is a query tile's number, and of the second a key block's. -/
theorem rowOk (c : Dev nD) (t : Fin cfg0.N) (y) : RowOk (iblk m c 1 t y) := by
  have h : ∀ z, RowOk (V m c main_c z) := fun z => by
    obtain ⟨j, hj⟩ := small_lit0 (S105.rowMajor z); exact ((congrFun (V_rows m c) z).trans hj) ▸ rowOk_small j
  exact h _
theorem colOk (c : Dev nD) (t : Fin cfg0.N) (y) : ColOk (iblk m c 2 t y) := by
  have h : ∀ z, ColOk (V m c main_c_0 z) := fun z => by
    obtain ⟨j, hj⟩ := small_lit1 (S105.rowMajor z); exact ((congrFun (V_cols m c) z).trans hj) ▸ colOk_small j
  exact h _

end Cert.Proof.AttnIdeal

end
-- ==== Proof.Attn.RunIdeal.lean ====
/- The idealized attention call's run: its body at every point of the grid, the launch, and the frame. -/
module

public import proofs.«01_k».proof.Proof.Attn.BodyIdeal
public import proofs.«01_k».proof.Proof.Attn.TablesIdeal

@[expose] public section

set_option maxRecDepth 16384

noncomputable section

namespace Cert.Proof.AttnIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The pipeline's proof data -/

/-- Nothing is said of what the body leaves in the result's window. -/
def forgets : Fin 9 → Bool := fun w => w.val == 8

/-- The proof data of the pipeline on core `c`: each operand's buffer holds its block before and after the body; the
    result's window is not named; the scratch buffers hold some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]

/-- The pipeline's invariant: the eight scratch buffers at some contents, and the generator's register. -/
theorem invariant_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

/-! ## The body at a point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ (∃ d, owns (c : Thread nD τ) (st0_8 t) fullShare d))

set_option maxHeartbeats 4000000 in
/-- The body at any point: the operands hold their blocks, so the tables' words are in range and `safe` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0_of m (dats m 0 c) (A_eq m c 0) (after_0 m c), before0_1_of m (dats m 0 c) (A_eq m c 1) (after_1 m c),
    before0_2_of m (dats m 0 c) (A_eq m c 2) (after_2 m c), before0_3_of m (dats m 0 c) (A_eq m c 3) (after_3 m c),
    before0_4_of m (dats m 0 c) (A_eq m c 4) (after_4 m c), before0_5_of m (dats m 0 c) (A_eq m c 5) (after_5 m c),
    before0_6_of m (dats m 0 c) (A_eq m c 6) (after_6 m c), before0_7_of m (dats m 0 c) (A_eq m c 7) (after_7 m c)]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    after_0, after_1, after_2, after_3, after_4, after_5, after_6, after_7]
  rw [invariant_eq]
  unfold owns
  iintro ⟨⟨⟨⟨%e0, %u0, -, S0⟩, ⟨%e1, %u1, -, S1⟩, ⟨%e2, %u2, -, S2⟩, ⟨%e3, %u3, -, S3⟩, ⟨%e4, %u4, -, S4⟩, ⟨%e5, %u5, -, S5⟩, ⟨%e6, %u6, -, S6⟩, ⟨%e7, %u7, -, S7⟩⟩, Hr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩, ⟨%d6, %g6, %h6, H6⟩, ⟨%d7, %g7, %h7, H7⟩, ⟨%d8, %g8, -, H8⟩⟩
  have hr : ∀ (r : Rect S105) (y), RowOk ((st0_1 t).view.readAt (Elt F) r.toLoadRect g1 y) := fun r y => by
    rw [View.readAt_apply, h1]; exact rowOk m c t _
  have hk : ∀ (r : Rect S105) (y), ColOk ((st0_2 t).view.readAt (Elt F) r.toLoadRect g2 y) := fun r y => by
    rw [View.readAt_apply, h2]; exact colOk m c t _
  iapply (safe c Set.univ (grid0.coords t) _ _ _ _ _ _ _ _ _ _ _ _ _ _ _ _ _ _ _ _ _ _ _ _ _ _ _ _ _ _ _ _ _ _ g0 g3 g4 g5 g6 g7 g1 g2
    (fun r y => (hr r y).1) (fun r y => (hr r y).2.1) (fun r y => (hr r y).2.2.1) (fun r y => (hr r y).2.2.2.1)
    (fun r y => (hr r y).2.2.2.2.1) (fun r y => (hr r y).2.2.2.2.2)
    (fun r y => (hk r y).1) (fun r y => (hk r y).2.1) (fun r y => (hk r y).2.2.1) (fun r y => (hk r y).2.2.2.1)
    (fun r y => (hk r y).2.2.2.2.1) (fun r y => (hk r y).2.2.2.2.2) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [S0]; · iexists _; iexact S0
  isplitl [S1]; · iexists _; iexact S1
  isplitl [S2]; · iexists _; iexact S2
  isplitl [S3]; · iexists _; iexact S3
  isplitl [S4]; · iexists _; iexact S4
  isplitl [S5]; · iexists _; iexact S5
  isplitl [S6]; · iexists _; iexact S6
  isplitl [S7]; · iexists _; iexact S7
  iintro ⟨H0, H1, H2, H3, H4, H5, H6, H7, ⟨%f8, H8⟩, ⟨%v0, S0⟩, ⟨%v1, S1⟩, ⟨%v2, S2⟩, ⟨%v3, S3⟩, ⟨%v4, S4⟩, ⟨%v5, S5⟩, ⟨%v6, S6⟩, ⟨%v7, S7⟩⟩
  isplitl [S0 S1 S2 S3 S4 S5 S6 S7 Hr]
  · isplitr [Hr]
    · isplitl [S0]; · iexists _; iexists v0; isplitr; · ipureintro; rfl
                      iexact S0
      isplitl [S1]; · iexists _; iexists v1; isplitr; · ipureintro; rfl
                      iexact S1
      isplitl [S2]; · iexists _; iexists v2; isplitr; · ipureintro; rfl
                      iexact S2
      isplitl [S3]; · iexists _; iexists v3; isplitr; · ipureintro; rfl
                      iexact S3
      isplitl [S4]; · iexists _; iexists v4; isplitr; · ipureintro; rfl
                      iexact S4
      isplitl [S5]; · iexists _; iexists v5; isplitr; · ipureintro; rfl
                      iexact S5
      isplitl [S6]; · iexists _; iexists v6; isplitr; · ipureintro; rfl
                      iexact S6
      iexists _; iexists v7; isplitr; · ipureintro; rfl
      iexact S7
    iexact Hr
  isplitl [Ho]; · iexact Ho
  isplitl [H0]; · iexists g0; isplitr; · ipureintro; exact h0
                  iexact H0
  isplitl [H1]; · iexists g1; isplitr; · ipureintro; exact h1
                  iexact H1
  isplitl [H2]; · iexists g2; isplitr; · ipureintro; exact h2
                  iexact H2
  isplitl [H3]; · iexists g3; isplitr; · ipureintro; exact h3
                  iexact H3
  isplitl [H4]; · iexists g4; isplitr; · ipureintro; exact h4
                  iexact H4
  isplitl [H5]; · iexists g5; isplitr; · ipureintro; exact h5
                  iexact H5
  isplitl [H6]; · iexists g6; isplitr; · ipureintro; exact h6
                  iexact H6
  isplitl [H7]; · iexists g7; isplitr; · ipureintro; exact h7
                  iexact H7
  iexists _; iexists f8; isplitr; · ipureintro; rfl
  iexact H8

/-- The body table's row at point `t`'s slots is the body at that point. -/
theorem row_eq (t : Fin cfg0.N) :
    defs₀ (F := F) .tc cfg0.body (cfg0.bodyArgs t (cfg0.slots t)) = bodyAt0 t := by
  unfold defs₀; rw [Defs.onTc_tc]

/-- The library's obligation on the body, at every point. -/
theorem body_obligation (c : Dev nD) : BodyObligation (dats (F := F) m 0 c) (defs₀ (F := F)) Variants.none () Set.univ forgets := fun t => by
  rw [bigSep_W0, bigSep_W0, row_eq]
  exact triple_restated (sound_body m c t) rfl .rfl fun _ => .rfl

/-! ## The run and the frame -/

set_option backward.isDefEq.respectTransparency.types false in
set_option maxHeartbeats 4000000 in
/-- The launch: every run ends with each operand's array as the region found it and every semaphore counter at zero. -/
theorem run_main : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

/-- The idealized attention call runs to the end from any memory, leaves its four arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ ⟨h, hz⟩ => ⟨fun c =>
      ⟨(Pipeline.RDat.FramePost.arr_in h c 4 rfl).trans ((A_eq m c 4).trans (V_main_arg0 m c)),
        (Pipeline.RDat.FramePost.arr_in h c 5 rfl).trans ((A_eq m c 5).trans (V_main_arg1 m c)),
        (Pipeline.RDat.FramePost.arr_in h c 7 rfl).trans ((A_eq m c 7).trans (V_main_arg2 m c)),
        (Pipeline.RDat.FramePost.arr_in h c 0 rfl).trans ((A_eq m c 0).trans (V_main_arg3 m c))⟩, hz⟩) (run_main m ρ)

end Cert.Proof.AttnIdeal

end
-- ==== Proof.Rows.lean ====
/- The layer's row-wise mathematics over the extended reals, as functions of one row: the root-mean-square
   normalisation, a row times a matrix, and the gated feed-forward block. The kernels' blocks and the references' arrays
   are both read as these functions, row by row. -/
module

public import Idealize.ShloMosaic.Lib.Pointwise

@[expose] public section

noncomputable section

namespace Cert.Proof.Rows

open Idealize.ShloMosaic

/-- Entry `j` of the row `h` times the matrix `w`. -/
def mul {K N : Nat} (h : Fin K → EReal) (w : Fin K → Fin N → EReal) (j : Fin N) : EReal := ∑ k, h k * w k j

/-- The reciprocal root of a row's mean square over 1024 entries, with the small constant added under the root. -/
def scale (x : Fin 1024 → EReal) : EReal :=
  Ideal.rsqrt (Ideal.div (∑ k, x k * x k) (Ideal.ofBits .f32 0x44800000#32) + Ideal.ofBits .f32 0x358637BD#32)

/-- The row `x` normalised by its root mean square and weighted by `g`. -/
def nrm (x g : Fin 1024 → EReal) (c : Fin 1024) : EReal := x c * scale x * g c

/-- The gated hidden row of the feed-forward block: `silu (h wg) * (h wu)`. -/
def hid (h : Fin 1024 → EReal) (wg wu : Fin 1024 → Fin 2816 → EReal) (j : Fin 2816) : EReal :=
  mul h wg j * Ideal.logistic (mul h wg j) * mul h wu j

/-- The row `x` plus half of the feed-forward block of its normalised row. -/
def ffn (x g : Fin 1024 → EReal) (wg wu : Fin 1024 → Fin 2816 → EReal) (wd : Fin 2816 → Fin 1024 → EReal)
    (c : Fin 1024) : EReal :=
  x c + Ideal.ofBits .f32 0x3F000000#32 * mul (hid (nrm x g) wg wu) wd c

/-- A row with the two attention outputs' projections added. -/
def mix (x : Fin 1024 → EReal) (a b : Fin 512 → EReal) (wa wb : Fin 512 → Fin 1024 → EReal) (c : Fin 1024) : EReal :=
  x c + mul a wa c + mul b wb c

/-- A row's product depends on the row's and the matrix's entries only. -/
theorem mul_congr {K N : Nat} {h h' : Fin K → EReal} {w w' : Fin K → Fin N → EReal} (hh : ∀ k, h k = h' k)
    (hw : ∀ k j, w k j = w' k j) (j : Fin N) : mul h w j = mul h' w' j := by
  obtain rfl := funext hh
  obtain rfl := funext fun k => funext (hw k)
  rfl

/-- A normalised row depends on its arguments' entries only. -/
theorem nrm_congr {x x' g g' : Fin 1024 → EReal} (hx : ∀ k, x k = x' k) (hg : ∀ k, g k = g' k) (c : Fin 1024) :
    nrm x g c = nrm x' g' c := by
  obtain rfl := funext hx
  obtain rfl := funext hg
  rfl

/-- The feed-forward block's row depends on its arguments' entries only. -/
theorem ffn_congr {x x' g g' : Fin 1024 → EReal} {wg wg' wu wu' : Fin 1024 → Fin 2816 → EReal}
    {wd wd' : Fin 2816 → Fin 1024 → EReal} (hx : ∀ k, x k = x' k) (hg : ∀ k, g k = g' k)
    (hwg : ∀ k j, wg k j = wg' k j) (hwu : ∀ k j, wu k j = wu' k j) (hwd : ∀ k j, wd k j = wd' k j) (c : Fin 1024) :
    ffn x g wg wu wd c = ffn x' g' wg' wu' wd' c := by
  obtain rfl := funext hx
  obtain rfl := funext hg
  obtain rfl := funext fun k => funext (hwg k)
  obtain rfl := funext fun k => funext (hwu k)
  obtain rfl := funext fun k => funext (hwd k)
  rfl

/-- The final block's row depends on its arguments' entries only. -/
theorem final_congr {x x' : Fin 1024 → EReal} {a a' b b' : Fin 512 → EReal} {wa wa' wb wb' : Fin 512 → Fin 1024 → EReal}
    {g g' : Fin 1024 → EReal} {wg wg' wu wu' : Fin 1024 → Fin 2816 → EReal} {wd wd' : Fin 2816 → Fin 1024 → EReal}
    {gf gf' : Fin 1024 → EReal} (hx : ∀ k, x k = x' k) (ha : ∀ k, a k = a' k) (hb : ∀ k, b k = b' k)
    (hwa : ∀ k j, wa k j = wa' k j) (hwb : ∀ k j, wb k j = wb' k j) (hg : ∀ k, g k = g' k)
    (hwg : ∀ k j, wg k j = wg' k j) (hwu : ∀ k j, wu k j = wu' k j) (hwd : ∀ k j, wd k j = wd' k j)
    (hgf : ∀ k, gf k = gf' k) (j : Fin 1024) :
    nrm (ffn (mix x a b wa wb) g wg wu wd) gf j = nrm (ffn (mix x' a' b' wa' wb') g' wg' wu' wd') gf' j := by
  obtain rfl := funext hx
  obtain rfl := funext ha
  obtain rfl := funext hb
  obtain rfl := funext fun k => funext (hwa k)
  obtain rfl := funext fun k => funext (hwb k)
  obtain rfl := funext hg
  obtain rfl := funext fun k => funext (hwg k)
  obtain rfl := funext fun k => funext (hwu k)
  obtain rfl := funext fun k => funext (hwd k)
  obtain rfl := funext hgf
  rfl

end Cert.Proof.Rows

end
-- ==== Proof.First.Block.lean ====
/- What one grid point of the first feed-forward kernel computes from its blocks, entry by entry. -/
module

public import proofs.«01_k».proof.Proof.Rows
public import proofs.«01_k».proof.Proof.Gen.Kernel2Ideal.Skeleton

@[expose] public section

set_option maxRecDepth 16384

noncomputable section

namespace Cert.Proof.First

open Cert.Kernel2Ideal Cert.Kernel2Ideal.Gen Cert.Proof.Rows Idealize.ShloMosaic

variable (x : Vec Ideal S512x1024 .f32) (g : Vec Ideal S1x1024 .f32) (wg wu : Vec Ideal S1024x2816 .bf16)
  (wd : Vec Ideal S2816x1024 .bf16)

/-- The rows after the feed-forward block. -/
theorem pay5_apply (r : Fin 512) (c : Fin 1024) :
    k0_pay5 x g wg wu wd (ix2 r c)
      = ffn (fun c => x (ix2 r c)) (fun c => g (ix2 0 c)) (fun k j => wg (ix2 k j)) (fun k j => wu (ix2 k j))
          (fun j c => wd (ix2 j c)) c := by
  pointwise [k0_pay5]
  rfl

/-- Their sums of squares. -/
theorem pay6_apply (r : Fin 512) :
    k0_pay6 x g wg wu wd (ix1 r) = ∑ c, k0_pay5 x g wg wu wd (ix2 r c) * k0_pay5 x g wg wu wd (ix2 r c) := by
  pointwise [k0_pay6]

/-- The rows normalised by given sums of squares. -/
theorem pay1_apply (y : FVec Ideal S512x1024 .f32) (gm : Vec Ideal S1x1024 .f32) (ss : FVec Ideal S512 .f32)
    (r : Fin 512) (c : Fin 1024) (h : ss (ix1 r) = ∑ c, y (ix2 r c) * y (ix2 r c)) :
    k0_pay1 y gm ss (ix2 r c) = nrm (fun c => y (ix2 r c)) (fun c => gm (ix2 0 c)) c := by
  pointwise [k0_pay1]
  rw [h]
  rfl

/-- The rows' projection on the columns kept row by row. -/
theorem pay2_apply (y : FVec Ideal S512x1024 .f32) (gm : Vec Ideal S1x1024 .f32) (ss : FVec Ideal S512 .f32)
    (w : Vec Ideal S1024x1024 .bf16) (r : Fin 512) (j : Fin 1024) :
    k0_pay2 y gm ss w (ix2 r j) = mul (fun k => k0_pay1 y gm ss (ix2 r k)) (fun k j => w (ix2 k j)) j := by
  pointwise [k0_pay2]
  rfl

/-- The rows' projection on the columns kept column by column. -/
theorem pay3_apply (y : FVec Ideal S512x1024 .f32) (gm : Vec Ideal S1x1024 .f32) (ss : FVec Ideal S512 .f32)
    (w : Vec Ideal S1792x1024 .bf16) (i : Fin 1792) (r : Fin 512) :
    k0_pay3 y gm ss w (ix3 0 i r) = ∑ k, w (ix2 i k) * k0_pay1 y gm ss (ix2 r k) := by
  pointwise [k0_pay3]

/-- The rows' gates, kept column by column. -/
theorem pay4_apply (y : FVec Ideal S512x1024 .f32) (gm : Vec Ideal S1x1024 .f32) (ss : FVec Ideal S512 .f32)
    (w : Vec Ideal S32x1024 .bf16) (i : Fin 32) (r : Fin 512) :
    k0_pay4 y gm ss w (ix3 0 i r) = Ideal.logistic (∑ k, w (ix2 i k) * k0_pay1 y gm ss (ix2 r k)) := by
  pointwise [k0_pay4]

end Cert.Proof.First

end
-- ==== Proof.First.Columns.lean ====
/- Which column of the projection each kept column is, and the factor the queries carry. -/
module

public import proofs.«01_k».proof.Proof.Rows

@[expose] public section

noncomputable section

namespace Cert.Proof.First

open Idealize.ShloMosaic

/-- The projection's column kept as key-like column `j`. -/
def keyCol (j : Fin 1024) : Fin 2840 :=
  ⟨if j.val < 512 then 512 + j.val else if j.val < 896 then 1536 + j.val else 1664 + j.val, by
    split <;> [skip; split] <;> omega⟩

/-- The projection's column kept as query- or value-like column `i`. -/
def queryCol (i : Fin 1792) : Fin 2840 :=
  ⟨if i.val < 512 then i.val else if i.val < 1536 then 512 + i.val else if i.val < 1664 then 896 + i.val
    else 1024 + i.val, by split <;> [skip; split <;> [skip; split]] <;> omega⟩

/-- The factor of column `i`: the attention's scale for a query, one for a value. -/
def queryScale (i : Fin 1792) : EReal :=
  if i.val < 512 ∨ (1024 ≤ i.val ∧ i.val < 1536) then Ideal.ofBits .f32 0x3E38AA3B#32 else 1

/-- A function of the column read piece by piece, as the key-like columns are laid side by side. -/
theorem key_pieces (f : Fin 2840 → EReal) (j : Fin 1024) :
    (if h : j.val < 512 then f ⟨512 + j.val, by omega⟩
      else if h : j.val - 512 < 128 then f ⟨2048 + (j.val - 512), by omega⟩
      else if h : j.val - 512 - 128 < 128 then f ⟨2176 + (j.val - 512 - 128), by omega⟩
      else if h : j.val - 512 - 128 - 128 < 128 then f ⟨2304 + (j.val - 512 - 128 - 128), by omega⟩
      else f ⟨2560 + (j.val - 512 - 128 - 128 - 128), by omega⟩) = f (keyCol j) := by
  split_ifs <;> exact congrArg f (Fin.ext (by simp only [keyCol]; split_ifs <;> omega))

/-- A function of the column read piece by piece, as the query- and value-like columns are laid side by side. -/
theorem query_pieces (f : Fin 2840 → EReal) (j : Fin 1792) :
    (if h : j.val < 512 then f ⟨j.val, by omega⟩ * Ideal.ofBits .f32 0x3E38AA3B#32
      else if h : j.val - 512 < 512 then f ⟨1024 + (j.val - 512), by omega⟩
      else if h : j.val - 512 - 512 < 512 then f ⟨1536 + (j.val - 512 - 512), by omega⟩ * Ideal.ofBits .f32 0x3E38AA3B#32
      else if h : j.val - 512 - 512 - 512 < 128 then f ⟨2432 + (j.val - 512 - 512 - 512), by omega⟩
      else f ⟨2688 + (j.val - 512 - 512 - 512 - 128), by omega⟩) = f (queryCol j) * queryScale j := by
  have e : ∀ a : Fin 2840, a.val = (queryCol j).val → f a = f (queryCol j) := fun a h => congrArg f (Fin.ext h)
  by_cases h0 : j.val < 512
  · rw [dif_pos h0, queryScale, if_pos (Or.inl h0), e _ (by simp only [queryCol]; split_ifs <;> omega)]
  rw [dif_neg h0]
  by_cases h1 : j.val - 512 < 512
  · rw [dif_pos h1, queryScale, if_neg (by omega), mul_one, e _ (by simp only [queryCol]; split_ifs <;> omega)]
  rw [dif_neg h1]
  by_cases h2 : j.val - 512 - 512 < 512
  · rw [dif_pos h2, queryScale, if_pos (by omega), e _ (by simp only [queryCol]; split_ifs <;> omega)]
  rw [dif_neg h2, queryScale, if_neg (by omega), mul_one]
  by_cases h3 : j.val - 512 - 512 - 512 < 128
  · rw [dif_pos h3, e _ (by simp only [queryCol]; split_ifs <;> omega)]
  · rw [dif_neg h3, e _ (by simp only [queryCol]; split_ifs <;> omega)]

/-- The attention's scale as a real number. -/
theorem scale_real : Ideal.ofBits .f32 0x3E38AA3B#32 = ((12102203 / 67108864 : ℝ) : EReal) := by
  simp [Ideal.ofBits, Ideal.ieee, -EReal.coe_mul]; norm_num

/-- The factor is a nonnegative real number. -/
theorem queryScale_real (i : Fin 1792) : 0 ≤ queryScale i ∧ queryScale i ≠ ⊤ := by
  unfold queryScale
  split_ifs
  · rw [scale_real]
    exact ⟨EReal.coe_nonneg.mpr (by norm_num), EReal.coe_ne_top _⟩
  · exact ⟨zero_le_one, EReal.coe_ne_top 1⟩

/-- A nonnegative real factor of every weight comes out of a row's product with them. -/
theorem sum_scaled {s : EReal} (h0 : 0 ≤ s) (ht : s ≠ ⊤) {K : Nat} (w n : Fin K → EReal) :
    ∑ k, w k * s * n k = (∑ k, n k * w k) * s := by
  have e : ∀ k, w k * s * n k = n k * w k * s := fun k => by rw [mul_comm, mul_assoc]
  simp only [e]
  induction (Finset.univ : Finset (Fin K)) using Finset.induction_on with
  | empty => simp
  | insert a S ha ih =>
    rw [Finset.sum_insert ha, Finset.sum_insert ha, ih, EReal.right_distrib_of_nonneg_of_ne_top h0 ht]

/-- The logistic function at zero is one half. -/
theorem logistic_zero : Ideal.logistic 0 = Ideal.ofBits .f32 0x3F000000#32 := by
  have h : Ideal.ofBits .f32 0x3F000000#32 = ((1 / 2 : ℝ) : EReal) := by
    simp [Ideal.ofBits, Ideal.ieee, -EReal.coe_mul]; norm_num
  rw [h, show (0 : EReal) = ((0 : ℝ) : EReal) from rfl, Ideal.logistic_coe]
  norm_num

end Cert.Proof.First

end
-- ==== Proof.First.Host.lean ====
/- The arrays the host prepares for the first feed-forward kernel, from its arguments, each read at an index. -/
module

public import proofs.«01_k».proof.Defs
public import proofs.«01_k».proof.Proof.First.Columns
public import proofs.«01_k».proof.Proof.Gen.Kernel2Ideal.Frame
public import Idealize.ShloMosaic.Lib.Pipeline.ValueKit

@[expose] public section

set_option maxRecDepth 16384

noncomputable section

namespace Cert.Proof.First

open Cert.Kernel2Ideal Cert.Kernel2Ideal.Gen Idealize.ShloMosaic Idealize.ShloMosaic.TcCoe

/-- The weights of the key-like columns, side by side. -/
def keyW (w : FVec Ideal S1024x2840 .f32) : FVec Ideal S1024x1024 .bf16 :=
  truncf .bf16 (concatenate (α := Ideal .f32) S1024x1024 1
    [⟨S1024x512, extractStridedSlice S1024x512 ![0, 512] w slices_S1024x2840_S1024x512_0_512⟩,
     ⟨S1024x128, extractStridedSlice S1024x128 ![0, 2048] w slices_S1024x2840_S1024x128_0_2048⟩,
     ⟨S1024x128, extractStridedSlice S1024x128 ![0, 2176] w slices_S1024x2840_S1024x128_0_2176⟩,
     ⟨S1024x128, extractStridedSlice S1024x128 ![0, 2304] w slices_S1024x2840_S1024x128_0_2304⟩,
     ⟨S1024x128, extractStridedSlice S1024x128 ![0, 2560] w slices_S1024x2840_S1024x128_0_2560⟩]
    concatenates_S1024x512_S1024x128_S1024x128_S1024x128_S1024x128_S1024x1024_d1) bitsLt_bf16_f32

/-- The weights of the query- and value-like columns, as rows, the queries' scaled. -/
def queryW (w : FVec Ideal S1024x2840 .f32) : FVec Ideal S1792x1024 .bf16 :=
  truncf .bf16 (transpose S1792x1024 [1, 0] (concatenate (α := Ideal .f32) S1024x1792 1
    [⟨S1024x512, mulf (extractStridedSlice S1024x512 ![0, 0] w slices_S1024x2840_S1024x512_0_0)
        (broadcastInDim S1024x512 ![] bcast_S_S1024x512 (constant S_ .f32 0x3E38AA3B#32))⟩,
     ⟨S1024x512, extractStridedSlice S1024x512 ![0, 1024] w slices_S1024x2840_S1024x512_0_1024⟩,
     ⟨S1024x512, mulf (extractStridedSlice S1024x512 ![0, 1536] w slices_S1024x2840_S1024x512_0_1536)
        (broadcastInDim S1024x512 ![] bcast_S_S1024x512 (constant S_ .f32 0x3E38AA3B#32))⟩,
     ⟨S1024x128, extractStridedSlice S1024x128 ![0, 2432] w slices_S1024x2840_S1024x128_0_2432⟩,
     ⟨S1024x128, extractStridedSlice S1024x128 ![0, 2688] w slices_S1024x2840_S1024x128_0_2688⟩]
    concatenates_S1024x512_S1024x512_S1024x512_S1024x128_S1024x128_S1024x1792_d1)
    transposes_S1024x1792_S1792x1024_1_0) bitsLt_bf16_f32

/-- The weights of the gates, each group of twelve followed by four zero columns, as rows. -/
def gateW (w : FVec Ideal S1024x2840 .f32) : FVec Ideal S32x1024 .bf16 :=
  truncf .bf16 (transpose S32x1024 [1, 0] (shapeCast S1024x32 (pad S1024x2x16 ![0, 0, 0] ![0, 0, 4] ![0, 0, 0]
    (shapeCast S1024x2x12 (extractStridedSlice S1024x24 ![0, 2816] w slices_S1024x2840_S1024x24_0_2816)
      shapeCasts_S1024x24_S1024x2x12)
    (sitofp .f32 (constantI S_ 32 0#32)) pads_S1024x2x12_S1024x2x16_000_000_040 h_S_) shapeCasts_S1024x2x16_S1024x32)
    transposes_S1024x32_S32x1024_1_0) bitsLt_bf16_f32

/-- A feed-forward weight as a matrix. -/
def upW (w : FVec Ideal S1x1024x2816 .f32) : FVec Ideal S1024x2816 .bf16 :=
  truncf .bf16 (shapeCast S1024x2816 w shapeCasts_S1x1024x2816_S1024x2816) bitsLt_bf16_f32

/-- The last feed-forward weight as a matrix. -/
def downW (w : FVec Ideal S1x2816x1024 .f32) : FVec Ideal S2816x1024 .bf16 :=
  truncf .bf16 (shapeCast S2816x1024 w shapeCasts_S1x2816x1024_S2816x1024) bitsLt_bf16_f32

/-- The input with its sequences one after the other. -/
def rowsOf (x : FVec Ideal S8x4096x1024 .f32) : FVec Ideal S32768x1024 .f32 :=
  shapeCast S32768x1024 x shapeCasts_S8x4096x1024_S32768x1024

/-- The projection's weights as a matrix. -/
def inW (w : FVec Ideal S1x1024x2840 .f32) : FVec Ideal S1024x2840 .f32 :=
  shapeCast S1024x2840 w shapeCasts_S1x1024x2840_S1024x2840

theorem upW_apply (w : FVec Ideal S1x1024x2816 .f32) (k : Fin 1024) (j : Fin 2816) : upW w (ix2 k j) = w (ix3 0 k j) := by
  pointwise [upW]

theorem downW_apply (w : FVec Ideal S1x2816x1024 .f32) (k : Fin 2816) (j : Fin 1024) :
    downW w (ix2 k j) = w (ix3 0 k j) := by
  pointwise [downW]

theorem rowsOf_apply (x : FVec Ideal S8x4096x1024 .f32) (r : Fin 32768) (k : Fin 1024) :
    rowsOf x (ix2 r k) = x (ix3 ⟨r.val / 4096, by omega⟩ ⟨r.val % 4096, by omega⟩ k) := by
  pointwise [rowsOf]

theorem inW_apply (w : FVec Ideal S1x1024x2840 .f32) (k : Fin 1024) (j : Fin 2840) : inW w (ix2 k j) = w (ix3 0 k j) := by
  pointwise [inW]

theorem keyW_apply (w : FVec Ideal S1024x2840 .f32) (k j : Fin 1024) : keyW w (ix2 k j) = w (ix2 k (keyCol j)) := by
  pointwise [keyW]
  exact key_pieces (fun a => w (ix2 k a)) j

theorem queryW_apply (w : FVec Ideal S1024x2840 .f32) (i : Fin 1792) (k : Fin 1024) :
    queryW w (ix2 i k) = w (ix2 k (queryCol i)) * queryScale i := by
  pointwise [queryW]
  exact query_pieces (fun a => w (ix2 k a)) i

theorem gateW_apply (w : FVec Ideal S1024x2840 .f32) (i : Fin 32) (k : Fin 1024) :
    gateW w (ix2 i k) = if h : i.val % 16 < 12 then w (ix2 k ⟨2816 + (i.val / 16 * 12 + i.val % 16), by omega⟩)
      else (0 : EReal) := by
  pointwise [gateW]
  by_cases h : i.val % 16 < 12
  · rw [dif_pos ⟨by omega, h⟩, dif_pos h]
  · rw [dif_neg (fun h' => h h'.2), dif_neg h]
    change (((0#32 : BitVec 32).toInt : ℝ) : EReal) = 0
    simp

variable (m : (ℓ : Loc nD τ sig) → Buf (Elt Ideal) ℓ) (c : Dev nD)

theorem V_v26 : V m c main_v26 = rowsOf (m ((c.tc : Thread nD τ).loc main_arg0)) := by
  unfold_abbrev_sides
  simp only [List.flatten_cons, List.flatten_nil, List.append_nil, List.cons_append, List.nil_append]
  after_results
  rfl

theorem V_v13 : V m c main_v13 = keyW (inW (m ((c.tc : Thread nD τ).loc main_arg6))) := by
  unfold_abbrev_sides
  simp only [List.flatten_cons, List.flatten_nil, List.append_nil, List.cons_append, List.nil_append]
  after_results
  rfl

theorem V_v20 : V m c main_v20 = queryW (inW (m ((c.tc : Thread nD τ).loc main_arg6))) := by
  unfold_abbrev_sides
  simp only [List.flatten_cons, List.flatten_nil, List.append_nil, List.cons_append, List.nil_append]
  after_results
  rfl

theorem V_v25 : V m c main_v25 = gateW (inW (m ((c.tc : Thread nD τ).loc main_arg6))) := by
  unfold_abbrev_sides
  simp only [List.flatten_cons, List.flatten_nil, List.append_nil, List.cons_append, List.nil_append]
  after_results
  rfl

theorem V_v29 : V m c main_v29 = upW (m ((c.tc : Thread nD τ).loc main_arg2)) := by
  unfold_abbrev_sides
  simp only [List.flatten_cons, List.flatten_nil, List.append_nil, List.cons_append, List.nil_append]
  after_results
  rfl

theorem V_v31 : V m c main_v31 = upW (m ((c.tc : Thread nD τ).loc main_arg3)) := by
  unfold_abbrev_sides
  simp only [List.flatten_cons, List.flatten_nil, List.append_nil, List.cons_append, List.nil_append]
  after_results
  rfl

theorem V_v33 : V m c main_v33 = downW (m ((c.tc : Thread nD τ).loc main_arg4)) := by
  unfold_abbrev_sides
  simp only [List.flatten_cons, List.flatten_nil, List.append_nil, List.cons_append, List.nil_append]
  after_results
  rfl

end Cert.Proof.First

end
-- ==== Proof.Final.Reference.lean ====
/- The stages of the reference's final feed-forward block as whole-array operations, each read at an index as the
   row-wise function it is, and the reference's result as their composition. -/
module

public import proofs.«01_k».proof.Proof.Rows
public import proofs.«01_k».proof.Proof.Gen.Reference3Ideal.Run

@[expose] public section

set_option maxRecDepth 16384

noncomputable section

namespace Cert.Proof.Final.Ref

open Cert.Reference3Ideal Cert.Reference3Ideal.Gen Cert.Proof.Rows Idealize.ShloMosaic Idealize.ShloMosaic.TcCoe

/-- Every row normalised by its root mean square and weighted. -/
def norm (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
    (broadcastInDim S32768x1 ![0] bcast_S32768_S32768x1_0
      (Host.reduceAdd (mulf x x) (constant S_ .f32 0x00000000#32) reducesTo_S32768x1024_S32768_d1 h_S_))
    (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The gated hidden array of the feed-forward block. -/
def hidden (h : FVec Ideal S32768x1024 .f32) (wg wu : FVec Ideal S1024x2816 .f32) : FVec Ideal S32768x2816 .f32 :=
  mulf (mulf (Host.dotGeneral dot_S32768x1024_S1024x2816_S32768x2816_1_0_0_1_n_n none h wg)
    (Host.divf (broadcastInDim S32768x2816 ![] bcast_S_S32768x2816 (constant S_ .f32 0x3F800000#32))
      (addf (broadcastInDim S32768x2816 ![] bcast_S_S32768x2816 (constant S_ .f32 0x3F800000#32))
        (Host.exp (Host.negf (Host.dotGeneral dot_S32768x1024_S1024x2816_S32768x2816_1_0_0_1_n_n none h wg))))))
    (Host.dotGeneral dot_S32768x1024_S1024x2816_S32768x2816_1_0_0_1_n_n none h wu)

/-- The array plus half of the feed-forward block of its normalisation. -/
def block (x : FVec Ideal S32768x1024 .f32) (g : FVec Ideal S1024 .f32) (wg wu : FVec Ideal S1024x2816 .f32)
    (wd : FVec Ideal S2816x1024 .f32) : FVec Ideal S32768x1024 .f32 :=
  addf x (mulf (broadcastInDim S32768x1024 ![] bcast_S_S32768x1024 (constant S_ .f32 0x3F000000#32))
    (Host.dotGeneral dot_S32768x2816_S2816x1024_S32768x1024_1_0_0_1_n_n none (hidden (norm x g) wg wu) wd))

/-- The residual stream with the two attention outputs, side by side, projected and added. -/
def mixed (x : FVec Ideal S32768x1024 .f32) (a b : FVec Ideal S8x512x4096 .bf16) (w : FVec Ideal S1x1024x1024 .f32) :
    FVec Ideal S32768x1024 .f32 :=
  addf x (Host.dotGeneral dot_S32768x1024_S1024x1024_S32768x1024_1_0_0_1_n_n none
    (shapeCast S32768x1024 (concatenate (α := Ideal .f32) S8x4096x1024 2
      [⟨S8x4096x512, (transpose S8x4096x512 [0, 2, 1] (extf .f32 a bitsLt_bf16_f32) transposes_S8x512x4096_S8x4096x512_0_2_1)⟩,
       ⟨S8x4096x512, (transpose S8x4096x512 [0, 2, 1] (extf .f32 b bitsLt_bf16_f32) transposes_S8x512x4096_S8x4096x512_0_2_1)⟩]
      concatenates_S8x4096x512_S8x4096x512_S8x4096x1024_d2) shapeCasts_S8x4096x1024_S32768x1024)
    (shapeCast S1024x1024 w shapeCasts_S1x1024x1024_S1024x1024))

/-- A row of the normalised array. -/
theorem norm_apply (x : FVec Ideal S32768x1024 .f32) (g : FVec Ideal S1024 .f32) (r : Fin 32768) (c : Fin 1024) :
    norm x g (ix2 r c) = nrm (fun c => x (ix2 r c)) (fun c => g (ix1 c)) c := by
  pointwise [norm]
  rfl

/-- A row of the hidden array. -/
theorem hidden_apply (h : FVec Ideal S32768x1024 .f32) (wg wu : FVec Ideal S1024x2816 .f32) (r : Fin 32768) (j : Fin 2816) :
    hidden h wg wu (ix2 r j)
      = hid (fun c => h (ix2 r c)) (fun k j => wg (ix2 k j)) (fun k j => wu (ix2 k j)) j := by
  pointwise [hidden]
  rfl

/-- A row after the feed-forward block. -/
theorem block_apply (x : FVec Ideal S32768x1024 .f32) (g : FVec Ideal S1024 .f32) (wg wu : FVec Ideal S1024x2816 .f32)
    (wd : FVec Ideal S2816x1024 .f32) (r : Fin 32768) (c : Fin 1024) :
    block x g wg wu wd (ix2 r c)
      = ffn (fun c => x (ix2 r c)) (fun c => g (ix1 c)) (fun k j => wg (ix2 k j)) (fun k j => wu (ix2 k j))
          (fun j c => wd (ix2 j c)) c := by
  pointwise [block]
  simp only [hidden_apply, norm_apply]
  rfl

/-- A row of the mixed array: the two halves of the output projection's rows, one for each attention. Row `r` is position
    `r % 4096` of sequence `r / 4096`. -/
theorem mixed_apply (x : FVec Ideal S32768x1024 .f32) (a b : FVec Ideal S8x512x4096 .bf16) (w : FVec Ideal S1x1024x1024 .f32)
    (r : Fin 32768) (c : Fin 1024) :
    mixed x a b w (ix2 r c)
      = mix (fun c => x (ix2 r c))
          (fun k => a (ix3 ⟨r.val / 4096, by omega⟩ k ⟨r.val % 4096, by omega⟩))
          (fun k => b (ix3 ⟨r.val / 4096, by omega⟩ k ⟨r.val % 4096, by omega⟩))
          (fun k c => w (ix3 0 ⟨k.val, by omega⟩ c)) (fun k c => w (ix3 0 ⟨512 + k.val, by omega⟩ c)) c := by
  pointwise [mixed]
  exact (add_assoc _ _ _).symm

/-- A [1, 1024] weight row as a vector. -/
theorem row_apply (g : FVec Ideal S1x1024 .f32) (k : Fin 1024) :
    shapeCast S1024 g shapeCasts_S1x1024_S1024 (ix1 k) = g (ix2 0 k) := by
  pointwise

/-- A [1, 1024, 2816] weight as a matrix. -/
theorem up_apply (w : FVec Ideal S1x1024x2816 .f32) (k : Fin 1024) (j : Fin 2816) :
    shapeCast S1024x2816 w shapeCasts_S1x1024x2816_S1024x2816 (ix2 k j) = w (ix3 0 k j) := by
  pointwise

/-- A [1, 2816, 1024] weight as a matrix. -/
theorem down_apply (w : FVec Ideal S1x2816x1024 .f32) (k : Fin 2816) (j : Fin 1024) :
    shapeCast S2816x1024 w shapeCasts_S1x2816x1024_S2816x1024 (ix2 k j) = w (ix3 0 k j) := by
  pointwise

/-- The reference's result is its stages composed. -/
theorem res_eq (m : (ℓ : Loc nD τ sig) → Buf (Elt Ideal) ℓ) (c : Dev nD) :
    Value.res_main_v46 m c
      = norm (block (mixed (m ((c.tc : Thread nD τ).loc main_arg0)) (m ((c.tc : Thread nD τ).loc main_arg1))
            (m ((c.tc : Thread nD τ).loc main_arg2)) (m ((c.tc : Thread nD τ).loc main_arg3)))
          (shapeCast S1024 (m ((c.tc : Thread nD τ).loc main_arg4)) shapeCasts_S1x1024_S1024)
          (shapeCast S1024x2816 (m ((c.tc : Thread nD τ).loc main_arg5)) shapeCasts_S1x1024x2816_S1024x2816)
          (shapeCast S1024x2816 (m ((c.tc : Thread nD τ).loc main_arg6)) shapeCasts_S1x1024x2816_S1024x2816)
          (shapeCast S2816x1024 (m ((c.tc : Thread nD τ).loc main_arg7)) shapeCasts_S1x2816x1024_S2816x1024))
        (m ((c.tc : Thread nD τ).loc main_arg8)) := by
  unfold Value.res_main_v46
  rfl

end Cert.Proof.Final.Ref

end
-- ==== Proof.First.Reference.lean ====
/- The stages of the reference's first feed-forward block and projection as whole-array operations, each read at an index,
   and the reference's results as their compositions. -/
module

public import proofs.«01_k».proof.Proof.Final.Reference
public import proofs.«01_k».proof.Proof.First.Columns
public import proofs.«01_k».proof.Proof.Gen.Reference2Ideal.Run

@[expose] public section

set_option maxRecDepth 16384

noncomputable section

namespace Cert.Proof.First.Ref

open Cert.Proof.First Cert.Reference2Ideal Cert.Reference2Ideal.Gen Cert.Proof.Rows Idealize.ShloMosaic Idealize.ShloMosaic.TcCoe

/-- The product with the projection's weights. -/
def proj (h : FVec Ideal S32768x1024 .f32) (w : FVec Ideal S1024x2840 .f32) : FVec Ideal S32768x2840 .f32 :=
  Host.dotGeneral dot_S32768x1024_S1024x2840_S32768x2840_1_0_0_1_n_n none h w

/-- The key-like columns, side by side. -/
def keys (p : FVec Ideal S32768x2840 .f32) : FVec Ideal S32768x1024 .bf16 :=
  truncf .bf16 (concatenate (α := Ideal .f32) S32768x1024 1
    [⟨S32768x512, extractStridedSlice S32768x512 ![0, 512] p slices_S32768x2840_S32768x512_0_512⟩,
     ⟨S32768x128, extractStridedSlice S32768x128 ![0, 2048] p slices_S32768x2840_S32768x128_0_2048⟩,
     ⟨S32768x128, extractStridedSlice S32768x128 ![0, 2176] p slices_S32768x2840_S32768x128_0_2176⟩,
     ⟨S32768x128, extractStridedSlice S32768x128 ![0, 2304] p slices_S32768x2840_S32768x128_0_2304⟩,
     ⟨S32768x128, extractStridedSlice S32768x128 ![0, 2560] p slices_S32768x2840_S32768x128_0_2560⟩]
    concatenates_S32768x512_S32768x128_S32768x128_S32768x128_S32768x128_S32768x1024_d1) bitsLt_bf16_f32

/-- The query- and value-like columns, side by side, the queries scaled. -/
def side (p : FVec Ideal S32768x2840 .f32) : FVec Ideal S32768x1792 .f32 :=
  concatenate (α := Ideal .f32) S32768x1792 1
    [⟨S32768x512, mulf (extractStridedSlice S32768x512 ![0, 0] p slices_S32768x2840_S32768x512_0_0)
        (broadcastInDim S32768x512 ![] bcast_S_S32768x512 (constant S_ .f32 0x3E38AA3B#32))⟩,
     ⟨S32768x512, extractStridedSlice S32768x512 ![0, 1024] p slices_S32768x2840_S32768x512_0_1024⟩,
     ⟨S32768x512, mulf (extractStridedSlice S32768x512 ![0, 1536] p slices_S32768x2840_S32768x512_0_1536)
        (broadcastInDim S32768x512 ![] bcast_S_S32768x512 (constant S_ .f32 0x3E38AA3B#32))⟩,
     ⟨S32768x128, extractStridedSlice S32768x128 ![0, 2432] p slices_S32768x2840_S32768x128_0_2432⟩,
     ⟨S32768x128, extractStridedSlice S32768x128 ![0, 2688] p slices_S32768x2840_S32768x128_0_2688⟩]
    concatenates_S32768x512_S32768x512_S32768x512_S32768x128_S32768x128_S32768x1792_d1

/-- Those columns as rows, one sequence after the other, positions last. -/
def queries (y : FVec Ideal S32768x1792 .f32) : FVec Ideal S8x1792x4096 .bf16 :=
  truncf .bf16 (transpose S8x1792x4096 [0, 2, 1] (shapeCast S8x4096x1792 y shapeCasts_S32768x1792_S8x4096x1792)
    transposes_S8x4096x1792_S8x1792x4096_0_2_1) bitsLt_bf16_f32

/-- The gate columns through the logistic function. -/
def gate (p : FVec Ideal S32768x2840 .f32) : FVec Ideal S32768x24 .f32 :=
  Host.divf (broadcastInDim S32768x24 ![] bcast_S_S32768x24 (constant (F := Ideal) S_ .f32 0x3F800000#32))
    (addf (broadcastInDim S32768x24 ![] bcast_S_S32768x24 (constant S_ .f32 0x3F800000#32))
      (Host.exp (Host.negf (extractStridedSlice S32768x24 ![0, 2816] p slices_S32768x2840_S32768x24_0_2816))))

/-- Each group of twelve gates followed by four halves. -/
def padded (y : FVec Ideal S32768x24 .f32) : FVec Ideal S8x4096x2x16 .f32 :=
  pad S8x4096x2x16 ![0, 0, 0, 0] ![0, 0, 0, 4] ![0, 0, 0, 0]
    (shapeCast S8x4096x2x12 y shapeCasts_S32768x24_S8x4096x2x12)
    (id (constant S_ .f32 0x3F000000#32)) pads_S8x4096x2x12_S8x4096x2x16_000_000_000_040 h_S_

/-- The gates as rows, positions last. -/
def gates (y : FVec Ideal S8x4096x2x16 .f32) : FVec Ideal S8x32x4096 .f32 :=
  transpose S8x32x4096 [0, 2, 1] (shapeCast S8x4096x32 y shapeCasts_S8x4096x2x16_S8x4096x32)
    transposes_S8x4096x32_S8x32x4096_0_2_1

/-- A row of the projection. -/
theorem proj_apply (h : FVec Ideal S32768x1024 .f32) (w : FVec Ideal S1024x2840 .f32) (r : Fin 32768) (j : Fin 2840) :
    proj h w (ix2 r j) = mul (fun k => h (ix2 r k)) (fun k j => w (ix2 k j)) j := by
  pointwise [proj]
  rfl

variable (p : FVec Ideal S32768x2840 .f32) (r : Fin 32768)

/-- The columns of `keys`. -/
theorem keys_apply (j : Fin 1024) : keys p (ix2 r j) = p (ix2 r (keyCol j)) := by
  pointwise [keys]
  exact key_pieces (fun a => p (ix2 r a)) j

/-- The columns of `side`. -/
theorem side_apply (j : Fin 1792) : side p (ix2 r j) = p (ix2 r (queryCol j)) * queryScale j := by
  pointwise [side]
  exact query_pieces (fun a => p (ix2 r a)) j

/-- The rows of `queries`. -/
theorem queries_apply (y : FVec Ideal S32768x1792 .f32) (b : Fin 8) (i : Fin 1792) (t : Fin 4096) :
    queries y (ix3 b i t) = y (ix2 ⟨b.val * 4096 + t.val, by omega⟩ i) := by
  pointwise [queries]

/-- The columns of `gate`. -/
theorem gate_apply (j : Fin 24) : gate p (ix2 r j) = Ideal.logistic (p (ix2 r ⟨2816 + j.val, by omega⟩)) := by
  pointwise [gate]
  rfl

/-- The padded gates. -/
theorem padded_apply (y : FVec Ideal S32768x24 .f32) (b : Fin 8) (t : Fin 4096) (g : Fin 2) (q : Fin 16) :
    padded y (ix4 b t g q) = if h : q.val < 12 then y (ix2 ⟨b.val * 4096 + t.val, by omega⟩ ⟨g.val * 12 + q.val, by omega⟩)
      else Ideal.ofBits .f32 0x3F000000#32 := by
  pointwise [padded]
  rfl

/-- The rows of `gates`. -/
theorem gates_apply (y : FVec Ideal S8x4096x2x16 .f32) (b : Fin 8) (i : Fin 32) (t : Fin 4096) :
    gates y (ix3 b i t) = y (ix4 b t ⟨i.val / 16, by omega⟩ ⟨i.val % 16, by omega⟩) := by
  pointwise [gates]

/-- A [1, 1024, 2840] weight as a matrix. -/
theorem in_apply (w : FVec Ideal S1x1024x2840 .f32) (k : Fin 1024) (j : Fin 2840) :
    shapeCast S1024x2840 w shapeCasts_S1x1024x2840_S1024x2840 (ix2 k j) = w (ix3 0 k j) := by
  pointwise

/-- The input with its sequences one after the other. -/
theorem x_apply (x : FVec Ideal S8x4096x1024 .f32) (r : Fin 32768) (k : Fin 1024) :
    shapeCast S32768x1024 x shapeCasts_S8x4096x1024_S32768x1024 (ix2 r k)
      = x (ix3 ⟨r.val / 4096, by omega⟩ ⟨r.val % 4096, by omega⟩ k) := by
  pointwise

/-- The rows after the first feed-forward block. -/
def rows (x : FVec Ideal S8x4096x1024 .f32) (g : FVec Ideal S1x1024 .f32) (wg wu : FVec Ideal S1x1024x2816 .f32)
    (wd : FVec Ideal S1x2816x1024 .f32) : FVec Ideal S32768x1024 .f32 :=
  Final.Ref.block (shapeCast S32768x1024 x shapeCasts_S8x4096x1024_S32768x1024)
    (shapeCast S1024 g shapeCasts_S1x1024_S1024) (shapeCast S1024x2816 wg shapeCasts_S1x1024x2816_S1024x2816)
    (shapeCast S1024x2816 wu shapeCasts_S1x1024x2816_S1024x2816)
    (shapeCast S2816x1024 wd shapeCasts_S1x2816x1024_S2816x1024)

/-- The projection of the rows' normalisation. -/
def projected (y : FVec Ideal S32768x1024 .f32) (g : FVec Ideal S1x1024 .f32) (w : FVec Ideal S1x1024x2840 .f32) :
    FVec Ideal S32768x2840 .f32 :=
  proj (Final.Ref.norm y (shapeCast S1024 g shapeCasts_S1x1024_S1024))
    (shapeCast S1024x2840 w shapeCasts_S1x1024x2840_S1024x2840)

theorem rows_apply (x : FVec Ideal S8x4096x1024 .f32) (g : FVec Ideal S1x1024 .f32) (wg wu : FVec Ideal S1x1024x2816 .f32)
    (wd : FVec Ideal S1x2816x1024 .f32) (r : Fin 32768) (c : Fin 1024) :
    rows x g wg wu wd (ix2 r c)
      = ffn (fun k => x (ix3 ⟨r.val / 4096, by omega⟩ ⟨r.val % 4096, by omega⟩ k)) (fun k => g (ix2 0 k))
          (fun k j => wg (ix3 0 k j)) (fun k j => wu (ix3 0 k j)) (fun j c => wd (ix3 0 j c)) c := by
  rw [rows, Final.Ref.block_apply]
  exact ffn_congr (x_apply x r) (Final.Ref.row_apply g) (Final.Ref.up_apply wg) (Final.Ref.up_apply wu)
    (Final.Ref.down_apply wd) c

theorem projected_apply (y : FVec Ideal S32768x1024 .f32) (g : FVec Ideal S1x1024 .f32) (w : FVec Ideal S1x1024x2840 .f32)
    (r : Fin 32768) (j : Fin 2840) :
    projected y g w (ix2 r j)
      = mul (nrm (fun k => y (ix2 r k)) (fun k => g (ix2 0 k))) (fun k j => w (ix3 0 k j)) j := by
  rw [projected, proj_apply]
  exact mul_congr (fun k => (Final.Ref.norm_apply _ _ r k).trans
    (nrm_congr (fun _ => rfl) (Final.Ref.row_apply g) k)) (in_apply w) j

variable (m : (ℓ : Loc nD τ sig) → Buf (Elt Ideal) ℓ) (c : Dev nD)

/-- The reference's projection, from its arguments. -/
abbrev projection : FVec Ideal S32768x2840 .f32 :=
  projected (rows (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)))
    (m ((c.tc : Thread nD τ).loc main_arg5)) (m ((c.tc : Thread nD τ).loc main_arg6))

theorem keys_eq : Value.res_main_v54 m c = keys (projection m c) := by
  unfold Value.res_main_v54
  rfl

theorem queries_eq : Value.res_main_v62 m c = queries (side (projection m c)) := by
  unfold Value.res_main_v62
  rfl

theorem gates_eq : Value.res_main_v72 m c = gates (padded (gate (projection m c))) := by
  unfold Value.res_main_v72
  rfl

end Cert.Proof.First.Ref

end
-- ==== Proof.First.Value.lean ====
/- The first feed-forward kernel's output arrays after the run are the reference's results: each of the 64 grid points
   writes 512 consecutive positions, and every entry is the same row-wise function of the arguments. -/
module

public import proofs.«01_k».proof.Defs
public import proofs.«01_k».proof.Proof.First.Block
public import proofs.«01_k».proof.Proof.First.Host
public import proofs.«01_k».proof.Proof.First.Reference
public import proofs.«01_k».proof.Proof.Gen.Kernel2Ideal.Value
public import Idealize.ShloMosaic.Lib.Pipeline.ValueKit
public import Idealize.ShloMosaic.Lib.Claim

@[expose] public section

set_option maxRecDepth 16384

noncomputable section

namespace Cert.Proof.First

open Cert.Kernel2Ideal Cert.Kernel2Ideal.Gen Cert.Proof.Rows Idealize.ShloMosaic Idealize.ShloMosaic.TcCoe Idealize.SL.Sem

variable (m : (ℓ : Loc nD τ sig) → Buf (Elt Ideal) ℓ) (ρ : Dev nD → PrngReg)

/-- Where each window's block lies at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![0, 0] ∧ win0_7.index t = ![0, 0]
    ∧ win0_8.index t = ![0, 0] ∧ win0_9.index t = ![0, 0] ∧ win0_10.index t = ![t.val, 0]
    ∧ win0_11.index t = ![t.val, 0] ∧ win0_12.index t = ![t.val / 8, 0, t.val % 8]
    ∧ win0_13.index t = ![t.val / 8, 0, t.val % 8] := by
  decide +kernel

variable (c : Dev nD) (t : Fin cfg0.N)

/-- The input's block at a point is 512 consecutive positions of one sequence. -/
theorem blk0 (r : Fin 512) (k : Fin 1024) (R : Fin 32768) (hR : R.val = t.val * 512 + r.val) :
    iblk m c 0 t (ix2 r k)
      = m ((c.tc : Thread nD τ).loc main_arg0) (ix3 ⟨R.val / 4096, by omega⟩ ⟨R.val % 4096, by omega⟩ k) := by
  have h : iblk m c 0 t (ix2 r k) = V m c main_v26 (ix2 R k) := by blk_ext! [iblk, idx t, hR]
  rw [h, V_v26]
  exact rowsOf_apply _ _ _

/-- The feed-forward block's norm weights. -/
theorem blk1 (k : Fin 1024) :
    iblk m c 1 t (ix2 0 k) = m ((c.tc : Thread nD τ).loc main_arg1) (ix2 0 k) := by
  blk_ext! [iblk, V, idx t]

/-- The gate's weights. -/
theorem blk2 (k : Fin 1024) (j : Fin 2816) :
    iblk m c 2 t (ix2 k j) = m ((c.tc : Thread nD τ).loc main_arg2) (ix3 0 k j) := by
  have h : iblk m c 2 t (ix2 k j) = V m c main_v29 (ix2 k j) := by blk_ext! [iblk, idx t]
  rw [h, V_v29]
  exact upW_apply _ _ _

/-- The other branch's weights. -/
theorem blk3 (k : Fin 1024) (j : Fin 2816) :
    iblk m c 3 t (ix2 k j) = m ((c.tc : Thread nD τ).loc main_arg3) (ix3 0 k j) := by
  have h : iblk m c 3 t (ix2 k j) = V m c main_v31 (ix2 k j) := by blk_ext! [iblk, idx t]
  rw [h, V_v31]
  exact upW_apply _ _ _

/-- The last weights. -/
theorem blk4 (k : Fin 2816) (j : Fin 1024) :
    iblk m c 4 t (ix2 k j) = m ((c.tc : Thread nD τ).loc main_arg4) (ix3 0 k j) := by
  have h : iblk m c 4 t (ix2 k j) = V m c main_v33 (ix2 k j) := by blk_ext! [iblk, idx t]
  rw [h, V_v33]
  exact downW_apply _ _ _

/-- The projection's norm weights. -/
theorem blk6 (k : Fin 1024) :
    iblk m c 6 t (ix2 0 k) = m ((c.tc : Thread nD τ).loc main_arg5) (ix2 0 k) := by
  blk_ext! [iblk, V, idx t]

/-- The key-like columns' weights. -/
theorem blk7 (k : Fin 1024) (j : Fin 1024) :
    iblk m c 7 t (ix2 k j) = inW (m ((c.tc : Thread nD τ).loc main_arg6)) (ix2 k (keyCol j)) := by
  have h : iblk m c 7 t (ix2 k j) = V m c main_v13 (ix2 k j) := by blk_ext! [iblk, idx t]
  rw [h, V_v13]
  exact keyW_apply _ _ _

/-- The query- and value-like columns' weights, as rows, the queries' scaled. -/
theorem blk8 (i : Fin 1792) (k : Fin 1024) :
    (iblk m c 8 t (ix2 i k) : EReal)
      = inW (m ((c.tc : Thread nD τ).loc main_arg6)) (ix2 k (queryCol i)) * queryScale i := by
  have h : iblk m c 8 t (ix2 i k) = V m c main_v20 (ix2 i k) := by blk_ext! [iblk, idx t]
  rw [h, V_v20]
  exact queryW_apply _ _ _

/-- The gates' weights, as rows, twelve of each sixteen used. -/
theorem blk9 (i : Fin 32) (k : Fin 1024) :
    (iblk m c 9 t (ix2 i k) : EReal) = if h : i.val % 16 < 12 then
      inW (m ((c.tc : Thread nD τ).loc main_arg6)) (ix2 k ⟨2816 + (i.val / 16 * 12 + i.val % 16), by omega⟩) else (0 : EReal) := by
  have h : iblk m c 9 t (ix2 i k) = V m c main_v25 (ix2 i k) := by blk_ext! [iblk, idx t]
  rw [h, V_v25]
  exact gateW_apply _ _ _

/-- The rows after the feed-forward block, from the kernel's arguments. -/
abbrev rowsK : FVec Ideal Cert.Reference2Ideal.S32768x1024 .f32 :=
  Ref.rows (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4))

/-- Their projection. -/
abbrev projK : FVec Ideal Cert.Reference2Ideal.S32768x2840 .f32 :=
  Ref.projected (rowsK m c) (m ((c.tc : Thread nD τ).loc main_arg5)) (m ((c.tc : Thread nD τ).loc main_arg6))

/-- The block of rows a grid point computes. -/
abbrev yBlk : FVec Ideal S512x1024 .f32 :=
  k0_pay5 (iblk m c 0 t) (iblk m c 1 t) (iblk m c 2 t) (iblk m c 3 t) (iblk m c 4 t)

/-- Its rows' sums of squares. -/
abbrev sBlk : FVec Ideal S512 .f32 :=
  k0_pay6 (iblk m c 0 t) (iblk m c 1 t) (iblk m c 2 t) (iblk m c 3 t) (iblk m c 4 t)

/-- A row of the block is the row of the whole array at its place. -/
theorem point_rows (r : Fin 512) (j : Fin 1024) (R : Fin 32768) (hR : R.val = t.val * 512 + r.val) :
    yBlk m c t (ix2 r j) = rowsK m c (ix2 R j) := by
  refine (pay5_apply _ _ _ _ _ r j).trans (Eq.trans ?_ (Ref.rows_apply _ _ _ _ _ R j).symm)
  exact ffn_congr (fun k => blk0 m c t r k R hR) (blk1 m c t) (blk2 m c t) (blk3 m c t) (blk4 m c t) j

/-- A normalised row of the block. -/
theorem point_norm (r : Fin 512) (k : Fin 1024) (R : Fin 32768) (hR : R.val = t.val * 512 + r.val) :
    k0_pay1 (yBlk m c t) (iblk m c 6 t) (sBlk m c t) (ix2 r k)
      = nrm (fun k => rowsK m c (ix2 R k)) (fun k => m ((c.tc : Thread nD τ).loc main_arg5) (ix2 0 k)) k := by
  refine (pay1_apply _ _ _ r k (pay6_apply _ _ _ _ _ r)).trans ?_
  exact nrm_congr (fun k => point_rows m c t r k R hR) (blk6 m c t) k

/-- The projection's entry in terms of a normalised row of the block. -/
theorem proj_point (r : Fin 512) (j : Fin 2840) (R : Fin 32768) (hR : R.val = t.val * 512 + r.val) :
    projK m c (ix2 R j) = ∑ k, (k0_pay1 (yBlk m c t) (iblk m c 6 t) (sBlk m c t) (ix2 r k) : EReal)
      * inW (m ((c.tc : Thread nD τ).loc main_arg6)) (ix2 k j) := by
  refine (Ref.projected_apply _ _ _ R j).trans ?_
  exact Finset.sum_congr rfl fun k _ => congrArg₂ (· * ·) (point_norm m c t r k R hR).symm (inW_apply _ k j).symm

/-- The key-like block is the reference's there. -/
theorem point_keys (r : Fin 512) (j : Fin 1024) (R : Fin 32768) (hR : R.val = t.val * 512 + r.val) :
    k0_pay2 (yBlk m c t) (iblk m c 6 t) (sBlk m c t) (iblk m c 7 t) (ix2 r j) = Ref.keys (projK m c) (ix2 R j) := by
  rw [Ref.keys_apply, proj_point m c t r _ R hR, pay2_apply]
  exact Finset.sum_congr rfl fun k _ => congrArg (_ * ·) (blk7 m c t k j)

/-- The query- and value-like block is the reference's there. -/
theorem point_queries (b : Fin 8) (i : Fin 1792) (r : Fin 512) (p : Fin 4096)
    (hR : b.val * 4096 + p.val = t.val * 512 + r.val) :
    k0_pay3 (yBlk m c t) (iblk m c 6 t) (sBlk m c t) (iblk m c 8 t) (ix3 0 i r)
      = Ref.queries (Ref.side (projK m c)) (ix3 b i p) := by
  rw [Ref.queries_apply, Ref.side_apply, proj_point m c t r _ _ hR, pay3_apply]
  refine (Finset.sum_congr rfl fun k _ => congrArg (fun z : EReal => z * (k0_pay1 (yBlk m c t) (iblk m c 6 t) (sBlk m c t) (ix2 r k) : EReal))
    (blk8 m c t i k)).trans ?_
  exact sum_scaled (queryScale_real i).1 (queryScale_real i).2 _ _

/-- The gates' block is the reference's there. -/
theorem point_gates (b : Fin 8) (i : Fin 32) (r : Fin 512) (p : Fin 4096)
    (hR : b.val * 4096 + p.val = t.val * 512 + r.val) :
    k0_pay4 (yBlk m c t) (iblk m c 6 t) (sBlk m c t) (iblk m c 9 t) (ix3 0 i r)
      = Ref.gates (Ref.padded (Ref.gate (projK m c))) (ix3 b i p) := by
  rw [Ref.gates_apply, Ref.padded_apply, pay4_apply]
  refine (congrArg Ideal.logistic (Finset.sum_congr rfl fun k _ =>
    congrArg (fun z : EReal => z * (k0_pay1 (yBlk m c t) (iblk m c 6 t) (sBlk m c t) (ix2 r k) : EReal)) (blk9 m c t i k))).trans ?_
  by_cases h : i.val % 16 < 12
  · rw [dif_pos h, Ref.gate_apply, proj_point m c t r _ _ hR]
    refine congrArg Ideal.logistic (Finset.sum_congr rfl fun k _ => ?_)
    rw [dif_pos h]
    exact mul_comm (G := EReal) _ _
  · rw [dif_neg h]
    refine Eq.trans (congrArg Ideal.logistic (Finset.sum_eq_zero fun k _ => ?_)) logistic_zero
    rw [dif_neg h]
    exact zero_mul (M₀ := EReal) _

/-- The rows the kernel keeps at hand for its further outputs are those it writes, and so are their sums of squares. -/
theorem kept (x0 : Vec Ideal S512x1024 .f32) (x1 : Vec Ideal S1x1024 .f32) (x2 x3 : Vec Ideal S1024x2816 .bf16)
    (x4 : Vec Ideal S2816x1024 .bf16) (x5 x6 : Vec Ideal S1x1024 .f32) (x7 : Vec Ideal S1024x1024 .bf16)
    (x8 : Vec Ideal S1792x1024 .bf16) (x9 : Vec Ideal S32x1024 .bf16) :
    k0_pay7 x0 x1 x2 x3 x4 x5 x6 x7 x8 x9 = k0_pay5 x0 x1 x2 x3 x4
      ∧ k0_pay8 x0 x1 x2 x3 x4 x5 x6 x7 x8 x9 = k0_pay6 x0 x1 x2 x3 x4 := by
  have e0 : View.ld x0 r0_0 = x0 := View.ld_unit_lit _ _ (by decide)
  have e1 : View.ld x1 r0_1 = x1 := View.ld_unit_lit _ _ (by decide)
  have e2 : View.ld x2 r0_2 = x2 := View.ld_unit_lit _ _ (by decide)
  have e3 : View.ld x3 r0_2 = x3 := View.ld_unit_lit _ _ (by decide)
  have e4 : View.ld x4 r0_3 = x4 := View.ld_unit_lit _ _ (by decide)
  rw [k0_pay7, k0_pay8, e0, e1, e2, e3, e4]
  exact ⟨rfl, rfl⟩

/-- The rows' array after the run. -/
theorem final_rows : (dats m 0 c).arrAt 10 cfg0.N = rowsK m c := by
  refine (dats m 0 c).arrAt_eq_of_covers 10 _ (by decide +kernel) fun t hf y => ?_
  blk_simp
  rw [after0_10]
  frame_out
  idx_vars y
  have ht : t.val < 64 := t.isLt
  have h : ((View.whole main_v34_0).slice (win0_10.rect t)).emb (ix2 y0 y1) = ix2 ⟨t.val * 512 + y0.val, by omega⟩ y1 := by
    blk_ext! [idx t]
  rw [h]
  exact point_rows m c t y0 y1 _ rfl

/-- The key-like columns' array after the run. -/
theorem final_keys : (dats m 0 c).arrAt 11 cfg0.N = Ref.keys (projK m c) := by
  refine (dats m 0 c).arrAt_eq_of_covers 11 _ (by decide +kernel) fun t hf y => ?_
  blk_simp
  rw [after0_11]
  frame_out
  idx_vars y
  have ht : t.val < 64 := t.isLt
  have h : ((View.whole main_v34_1).slice (win0_11.rect t)).emb (ix2 y0 y1) = ix2 ⟨t.val * 512 + y0.val, by omega⟩ y1 := by
    blk_ext! [idx t]
  rw [h, (kept _ _ _ _ _ _ _ _ _ _).1, (kept _ _ _ _ _ _ _ _ _ _).2]
  exact point_keys m c t y0 y1 _ rfl

/-- The query- and value-like columns' array after the run. -/
theorem final_queries : (dats m 0 c).arrAt 12 cfg0.N = Ref.queries (Ref.side (projK m c)) := by
  refine (dats m 0 c).arrAt_eq_of_covers 12 _ (by decide +kernel) fun t hf y => ?_
  blk_simp
  rw [after0_12]
  frame_out
  idx_vars y
  have ht : t.val < 64 := t.isLt
  have h : ((View.whole main_v34_2).slice (win0_12.rect t)).emb (ix3 y0 y1 y2)
      = ix3 ⟨t.val / 8, by omega⟩ y1 ⟨t.val % 8 * 512 + y2.val, by omega⟩ := by
    blk_ext! [idx t]
  rw [h, (kept _ _ _ _ _ _ _ _ _ _).1, (kept _ _ _ _ _ _ _ _ _ _).2]
  obtain rfl : y0 = 0 := Subsingleton.elim _ _
  exact point_queries m c t _ y1 y2 _ (by dsimp only; omega)

/-- The gates' array after the run. -/
theorem final_gates : (dats m 0 c).arrAt 13 cfg0.N = Ref.gates (Ref.padded (Ref.gate (projK m c))) := by
  refine (dats m 0 c).arrAt_eq_of_covers 13 _ (by decide +kernel) fun t hf y => ?_
  blk_simp
  rw [after0_13]
  frame_out
  idx_vars y
  have ht : t.val < 64 := t.isLt
  have h : ((View.whole main_v34_3).slice (win0_13.rect t)).emb (ix3 y0 y1 y2)
      = ix3 ⟨t.val / 8, by omega⟩ y1 ⟨t.val % 8 * 512 + y2.val, by omega⟩ := by
    blk_ext! [idx t]
  rw [h, (kept _ _ _ _ _ _ _ _ _ _).1, (kept _ _ _ _ _ _ _ _ _ _).2]
  obtain rfl : y0 = 0 := Subsingleton.elim _ _
  exact point_gates m c t _ y1 y2 _ (by dsimp only; omega)

end Cert.Proof.First

end
-- ==== Proof.First.Claim.lean ====
/- The first feed-forward kernel and its reference, run from equal arguments, end with the same results over the extended
   reals. -/
module

public import proofs.«01_k».proof.Proof.First.Value

@[expose] public section

set_option maxRecDepth 16384

noncomputable section

namespace Cert.Proof.First

open Cert.Proof.Rows Idealize.ShloMosaic Idealize.ShloMosaic.TcCoe Idealize.SL.Sem

/-- From any launch memory the kernel and, from equal arguments, its reference both run to the end and leave the same four
    output arrays, their arguments unchanged. -/
theorem algebraic : Cert.algebraic_Kernel2Ideal_Reference2Ideal := by
  intro m g m' g' _ hag
  refine ⟨fun c => rowsK m c, fun c => Ref.keys (projK m c), fun c => Ref.queries (Ref.side (projK m c)),
    fun c => Ref.gates (Ref.padded (Ref.gate (projK m c))), ?_, ?_⟩
  · exact (θ_run Cert.Kernel2Ideal.defs _ _).mono (fun r h c => ⟨(h c).1.trans (final_rows m c),
      (h c).2.1.trans (final_keys m c), (h c).2.2.1.trans (final_queries m c), (h c).2.2.2.1.trans (final_gates m c),
      (h c).2.2.2.2⟩) (Cert.Kernel2Ideal.Value.run_blocks m g)
  · refine (θ_run Cert.Reference2Ideal.defs _ _).mono (fun r h c => ?_) (Cert.Reference2Ideal.Value.run m' g')
    obtain ⟨h0, h1, h2, h3, h4, h5, h6, h7⟩ := hag c
    have hp : Ref.projection m' c = projK m c := by
      unfold Ref.projection
      rw [h0, h1, h2, h3, h4, h5, h6]
    have hr : Ref.rows (m' ((c.tc : Thread _ _).loc Cert.Reference2Ideal.main_arg0)) (m' ((c.tc : Thread _ _).loc Cert.Reference2Ideal.main_arg1))
        (m' ((c.tc : Thread _ _).loc Cert.Reference2Ideal.main_arg2)) (m' ((c.tc : Thread _ _).loc Cert.Reference2Ideal.main_arg3))
        (m' ((c.tc : Thread _ _).loc Cert.Reference2Ideal.main_arg4)) = rowsK m c := by
      rw [h0, h1, h2, h3, h4]
    refine ⟨(h c).1.trans hr, (h c).2.1.trans ?_, (h c).2.2.1.trans ?_, (h c).2.2.2.1.trans ?_, (h c).2.2.2.2⟩
    · rw [Ref.keys_eq, hp]
    · rw [Ref.queries_eq, hp]
    · rw [Ref.gates_eq, hp]

end Cert.Proof.First

end
-- ==== Proof.Final.Block.lean ====
/- What one grid point of the final feed-forward kernel computes from its blocks, entry by entry. -/
module

public import proofs.«01_k».proof.Proof.Rows
public import proofs.«01_k».proof.Proof.Gen.Kernel3Ideal.Skeleton

@[expose] public section

set_option maxRecDepth 16384

noncomputable section

namespace Cert.Proof.Final

open Cert.Kernel3Ideal Cert.Kernel3Ideal.Gen Cert.Proof.Rows Idealize.ShloMosaic

variable (v0 : Vec Ideal S512x1024 .f32) (v1 v7 : Vec Ideal S1x512x512 .bf16) (v3 v9 : Vec Ideal S512x1024 .bf16)
  (g : Vec Ideal S1x1024 .f32) (wg wu : Vec Ideal S1024x2816 .bf16) (wd : Vec Ideal S2816x1024 .bf16)
  (gf : Vec Ideal S1x1024 .f32)

/-- The rows with both projections added. -/
theorem pay2_apply (r : Fin 512) (c : Fin 1024) :
    k0_pay2 v0 v1 v3 v7 v9 (ix2 r c)
      = mix (fun c => v0 (ix2 r c)) (fun k => v1 (ix3 0 k r)) (fun k => v7 (ix3 0 k r)) (fun k c => v3 (ix2 k c))
          (fun k c => v9 (ix2 k c)) c := by
  pointwise [k0_pay2]
  rfl

/-- Their normalisation. -/
theorem pay3_apply (r : Fin 512) (c : Fin 1024) :
    k0_pay3 v0 v1 v3 v7 v9 g (ix2 r c)
      = nrm (fun c => k0_pay2 v0 v1 v3 v7 v9 (ix2 r c)) (fun c => g (ix2 0 c)) c := by
  pointwise [k0_pay3]
  rfl

/-- The gate's product. -/
theorem pay4_apply (r : Fin 512) (j : Fin 2816) :
    k0_pay4 v0 v1 v3 v7 v9 g wg (ix2 r j)
      = mul (fun c => k0_pay3 v0 v1 v3 v7 v9 g (ix2 r c)) (fun k j => wg (ix2 k j)) j := by
  pointwise [k0_pay4]
  rfl

/-- The other branch's product. -/
theorem pay5_apply (r : Fin 512) (j : Fin 2816) :
    k0_pay5 v0 v1 v3 v7 v9 g wu (ix2 r j)
      = mul (fun c => k0_pay3 v0 v1 v3 v7 v9 g (ix2 r c)) (fun k j => wu (ix2 k j)) j := by
  pointwise [k0_pay5]
  rfl

/-- The gate. -/
theorem pay6_apply (r : Fin 512) (j : Fin 2816) :
    k0_pay6 v0 v1 v3 v7 v9 g wg (ix2 r j) = Ideal.logistic (k0_pay4 v0 v1 v3 v7 v9 g wg (ix2 r j)) := by
  pointwise [k0_pay6]

/-- From the rows, the gated products and the last weights: the second residual sum, normalised. -/
theorem pay1_apply (x : FVec Ideal S512x1024 .f32) (a u s : FVec Ideal S512x2816 .f32) (r : Fin 512) (c : Fin 1024) :
    k0_pay1 x a u s wd gf (ix2 r c)
      = nrm (fun c => x (ix2 r c) + Ideal.ofBits .f32 0x3F000000#32
            * mul (fun j => a (ix2 r j) * s (ix2 r j) * u (ix2 r j)) (fun j c => wd (ix2 j c)) c)
          (fun c => gf (ix2 0 c)) c := by
  pointwise [k0_pay1]
  rfl

/-- The output block's row `r`: the mixed row through the feed-forward block and the last normalisation. -/
theorem block_apply (r : Fin 512) (c : Fin 1024) :
    k0_pay1 (k0_pay2 v0 v1 v3 v7 v9) (k0_pay4 v0 v1 v3 v7 v9 g wg) (k0_pay5 v0 v1 v3 v7 v9 g wu)
        (k0_pay6 v0 v1 v3 v7 v9 g wg) wd gf (ix2 r c)
      = nrm (ffn (mix (fun c => v0 (ix2 r c)) (fun k => v1 (ix3 0 k r)) (fun k => v7 (ix3 0 k r))
              (fun k c => v3 (ix2 k c)) (fun k c => v9 (ix2 k c)))
            (fun c => g (ix2 0 c)) (fun k j => wg (ix2 k j)) (fun k j => wu (ix2 k j)) (fun j c => wd (ix2 j c)))
          (fun c => gf (ix2 0 c)) c := by
  rw [pay1_apply]
  simp only [pay6_apply, pay5_apply, pay4_apply, pay3_apply, pay2_apply]
  rfl

end Cert.Proof.Final

end
-- ==== Proof.Final.Value.lean ====
/- The final feed-forward kernel's output array after the run is the reference's result: each of the 64 grid points writes
   512 consecutive rows, and every entry is the same row-wise function of the arguments. -/
module

public import proofs.«01_k».proof.Defs
public import proofs.«01_k».proof.Proof.Final.Block
public import proofs.«01_k».proof.Proof.Final.Reference
public import proofs.«01_k».proof.Proof.Gen.Kernel3Ideal.Value
public import Idealize.ShloMosaic.Lib.Pipeline.ValueKit
public import Idealize.ShloMosaic.Lib.Claim

@[expose] public section

set_option maxRecDepth 16384

noncomputable section

namespace Cert.Proof.Final

open Cert.Kernel3Ideal Cert.Kernel3Ideal.Gen Cert.Proof.Rows Idealize.ShloMosaic Idealize.ShloMosaic.TcCoe Idealize.SL.Sem

variable (m : (ℓ : Loc nD τ sig) → Buf (Elt Ideal) ℓ) (ρ : Dev nD → PrngReg)

/-- The reference's stages at the kernel's arguments. -/
def result (c : Dev nD) : Buf (Elt Ideal) ((c.tc : Thread nD τ).loc main_v12) :=
  Ref.norm (Ref.block (Ref.mixed (m ((c.tc : Thread nD τ).loc main_arg0)) (m ((c.tc : Thread nD τ).loc main_arg1))
        (m ((c.tc : Thread nD τ).loc main_arg2)) (m ((c.tc : Thread nD τ).loc main_arg3)))
      (shapeCast Cert.Reference3Ideal.S1024 (m ((c.tc : Thread nD τ).loc main_arg4)) Cert.Reference3Ideal.Gen.shapeCasts_S1x1024_S1024)
      (shapeCast Cert.Reference3Ideal.S1024x2816 (m ((c.tc : Thread nD τ).loc main_arg5)) Cert.Reference3Ideal.Gen.shapeCasts_S1x1024x2816_S1024x2816)
      (shapeCast Cert.Reference3Ideal.S1024x2816 (m ((c.tc : Thread nD τ).loc main_arg6)) Cert.Reference3Ideal.Gen.shapeCasts_S1x1024x2816_S1024x2816)
      (shapeCast Cert.Reference3Ideal.S2816x1024 (m ((c.tc : Thread nD τ).loc main_arg7)) Cert.Reference3Ideal.Gen.shapeCasts_S1x2816x1024_S2816x1024))
    (m ((c.tc : Thread nD τ).loc main_arg8))

/-- Where each window's block lies at each grid point. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0]
    ∧ win0_6.index t = ![t.val / 8, 0, t.val % 8] ∧ win0_7.index t = ![t.val / 8, 0, t.val % 8]
    ∧ win0_8.index t = ![0, 0] ∧ win0_9.index t = ![0, 0] ∧ win0_10.index t = ![t.val, 0] := by
  decide +kernel

variable (c : Dev nD) (t : Fin cfg0.N)

/-- The residual stream's block at a point is 512 consecutive rows. -/
theorem blk0 (r : Fin 512) (k : Fin 1024) (R : Fin 32768) (hR : R.val = t.val * 512 + r.val) :
    iblk m c 0 t (ix2 r k) = m ((c.tc : Thread nD τ).loc main_arg0) (ix2 R k) := by
  blk_ext! [iblk, V, idx t, hR]

/-- The first attention output's block at a point: 512 positions of one sequence. -/
theorem blk6 (k r : Fin 512) (R : Fin 32768) (hR : R.val = t.val * 512 + r.val) :
    iblk m c 6 t (ix3 0 k r)
      = m ((c.tc : Thread nD τ).loc main_arg1) (ix3 ⟨R.val / 4096, by omega⟩ k ⟨R.val % 4096, by omega⟩) := by
  have ht : t.val < 64 := t.isLt
  have e1 : R.val / 4096 = t.val / 8 := by omega
  have e2 : R.val % 4096 = t.val % 8 * 512 + r.val := by omega
  blk_ext! [iblk, V, idx t, e1, e2]

/-- The second attention output's block at a point. -/
theorem blk7 (k r : Fin 512) (R : Fin 32768) (hR : R.val = t.val * 512 + r.val) :
    iblk m c 7 t (ix3 0 k r)
      = m ((c.tc : Thread nD τ).loc main_arg2) (ix3 ⟨R.val / 4096, by omega⟩ k ⟨R.val % 4096, by omega⟩) := by
  have ht : t.val < 64 := t.isLt
  have e1 : R.val / 4096 = t.val / 8 := by omega
  have e2 : R.val % 4096 = t.val % 8 * 512 + r.val := by omega
  blk_ext! [iblk, V, idx t, e1, e2]

/-- The output projection's first half. -/
theorem blk8 (k : Fin 512) (j : Fin 1024) :
    iblk m c 8 t (ix2 k j) = m ((c.tc : Thread nD τ).loc main_arg3) (ix3 0 ⟨k.val, by omega⟩ j) := by
  blk_ext! [iblk, V, idx t]

/-- The output projection's second half. -/
theorem blk9 (k : Fin 512) (j : Fin 1024) :
    iblk m c 9 t (ix2 k j) = m ((c.tc : Thread nD τ).loc main_arg3) (ix3 0 ⟨512 + k.val, by omega⟩ j) := by
  blk_ext! [iblk, V, idx t]

/-- The feed-forward block's norm weights. -/
theorem blk1 (k : Fin 1024) :
    iblk m c 1 t (ix2 0 k) = m ((c.tc : Thread nD τ).loc main_arg4) (ix2 0 k) := by
  blk_ext! [iblk, V, idx t]

/-- The gate's weights. -/
theorem blk2 (k : Fin 1024) (j : Fin 2816) :
    iblk m c 2 t (ix2 k j) = m ((c.tc : Thread nD τ).loc main_arg5) (ix3 0 k j) := by
  blk_ext! [iblk, V, idx t]

/-- The other branch's weights. -/
theorem blk3 (k : Fin 1024) (j : Fin 2816) :
    iblk m c 3 t (ix2 k j) = m ((c.tc : Thread nD τ).loc main_arg6) (ix3 0 k j) := by
  blk_ext! [iblk, V, idx t]

/-- The last weights. -/
theorem blk4 (k : Fin 2816) (j : Fin 1024) :
    iblk m c 4 t (ix2 k j) = m ((c.tc : Thread nD τ).loc main_arg7) (ix3 0 k j) := by
  blk_ext! [iblk, V, idx t]

/-- The last normalisation's weights. -/
theorem blk5 (k : Fin 1024) :
    iblk m c 5 t (ix2 0 k) = m ((c.tc : Thread nD τ).loc main_arg8) (ix1 k) := by
  blk_ext! [iblk, V, idx t]

/-- The result at an index, as the row-wise functions of the arguments. -/
theorem result_apply (R : Fin 32768) (j : Fin 1024) :
    result m c (ix2 R j)
      = nrm (ffn (mix (fun k => m ((c.tc : Thread nD τ).loc main_arg0) (ix2 R k))
            (fun k => m ((c.tc : Thread nD τ).loc main_arg1) (ix3 ⟨R.val / 4096, by omega⟩ k ⟨R.val % 4096, by omega⟩))
            (fun k => m ((c.tc : Thread nD τ).loc main_arg2) (ix3 ⟨R.val / 4096, by omega⟩ k ⟨R.val % 4096, by omega⟩))
            (fun k j => m ((c.tc : Thread nD τ).loc main_arg3) (ix3 0 ⟨k.val, by omega⟩ j))
            (fun k j => m ((c.tc : Thread nD τ).loc main_arg3) (ix3 0 ⟨512 + k.val, by omega⟩ j)))
          (fun k => m ((c.tc : Thread nD τ).loc main_arg4) (ix2 0 k))
          (fun k j => m ((c.tc : Thread nD τ).loc main_arg5) (ix3 0 k j))
          (fun k j => m ((c.tc : Thread nD τ).loc main_arg6) (ix3 0 k j))
          (fun k j => m ((c.tc : Thread nD τ).loc main_arg7) (ix3 0 k j)))
        (fun k => m ((c.tc : Thread nD τ).loc main_arg8) (ix1 k)) j := by
  rw [result, Ref.norm_apply]
  simp only [Ref.block_apply, Ref.mixed_apply]
  exact final_congr (fun _ => rfl) (fun _ => rfl) (fun _ => rfl) (fun _ _ => rfl) (fun _ _ => rfl) (Ref.row_apply _)
    (Ref.up_apply _) (Ref.up_apply _) (Ref.down_apply _) (fun _ => rfl) j

/-- The block a grid point leaves is the result's block there. -/
theorem point (r : Fin 512) (j : Fin 1024) (R : Fin 32768) (hR : R.val = t.val * 512 + r.val) :
    k0_pay1 (k0_pay2 (iblk m c 0 t) (iblk m c 6 t) (iblk m c 8 t) (iblk m c 7 t) (iblk m c 9 t))
        (k0_pay4 (iblk m c 0 t) (iblk m c 6 t) (iblk m c 8 t) (iblk m c 7 t) (iblk m c 9 t) (iblk m c 1 t) (iblk m c 2 t))
        (k0_pay5 (iblk m c 0 t) (iblk m c 6 t) (iblk m c 8 t) (iblk m c 7 t) (iblk m c 9 t) (iblk m c 1 t) (iblk m c 3 t))
        (k0_pay6 (iblk m c 0 t) (iblk m c 6 t) (iblk m c 8 t) (iblk m c 7 t) (iblk m c 9 t) (iblk m c 1 t) (iblk m c 2 t))
        (iblk m c 4 t) (iblk m c 5 t) (ix2 r j)
      = result m c (ix2 R j) := by
  refine (block_apply _ _ _ _ _ _ _ _ _ _ r j).trans (Eq.trans ?_ (result_apply m c R j).symm)
  exact final_congr (fun k => blk0 m c t r k R hR) (fun k => blk6 m c t k r R hR) (fun k => blk7 m c t k r R hR)
    (blk8 m c t) (blk9 m c t) (blk1 m c t) (blk2 m c t) (blk3 m c t) (blk4 m c t) (blk5 m c t) j

/-- The output array after the run. -/
theorem final : (dats m 0 c).arrAt 10 cfg0.N = result m c := by
  refine (dats m 0 c).arrAt_eq_of_covers 10 _ (by decide +kernel) fun t hf y => ?_
  blk_simp
  rw [after0_10]
  frame_out
  idx_vars y
  have ht : t.val < 64 := t.isLt
  have h : ((View.whole main_v12).slice (win0_10.rect t)).emb (ix2 y0 y1) = ix2 ⟨t.val * 512 + y0.val, by omega⟩ y1 := by
    blk_ext! [idx t]
  rw [h]
  exact point m c t y0 y1 _ rfl

end Cert.Proof.Final

end
-- ==== Proof.Final.Claim.lean ====
/- The final feed-forward kernel and its reference, run from equal arguments, end with the same result over the extended
   reals. -/
module

public import proofs.«01_k».proof.Proof.Final.Value

@[expose] public section

set_option maxRecDepth 16384

noncomputable section

namespace Cert.Proof.Final

open Cert.Proof.Rows Idealize.ShloMosaic Idealize.ShloMosaic.TcCoe Idealize.SL.Sem

/-- From any launch memory the kernel and, from equal arguments, its reference both run to the end and leave the same
    output array, their arguments unchanged. -/
theorem algebraic : Cert.algebraic_Kernel3Ideal_Reference3Ideal := by
  intro m g m' g' _ hag
  refine ⟨fun c => result m c, ?_, ?_⟩
  · exact (θ_run Cert.Kernel3Ideal.defs _ _).mono (fun r h c => ⟨(h c).1.trans (final m c), (h c).2⟩)
      (Cert.Kernel3Ideal.Value.run_blocks m g)
  · refine (θ_run Cert.Reference3Ideal.defs _ _).mono (fun r h c => ⟨(h c).1.trans ?_, (h c).2⟩)
      (Cert.Reference3Ideal.Value.run m' g')
    obtain ⟨h0, h1, h2, h3, h4, h5, h6, h7, h8⟩ := hag c
    refine (Ref.res_eq m' c).trans ?_
    rw [h0, h1, h2, h3, h4, h5, h6, h7, h8]
    rfl

end Cert.Proof.Final

end
-- ==== Proof.Compress.Rows.lean ====
/- The compression's mathematics over the extended reals: a block of 32 positions, its hidden row, and its output, as
   functions of one head's positions; and the same hidden row summed the way the kernel sums it. -/
module

public import Idealize.ShloMosaic.Lib.Pointwise

@[expose] public section

noncomputable section

namespace Cert.Proof.Compress

open Idealize.ShloMosaic

/-- Block `n` of 32 positions, stride 16: its first half is the `n`-th run of 16 positions, its second half the run after
    it, where the run after the last is the first. -/
def block (x : Fin 256 → Fin 16 → Fin 64 → EReal) (n : Fin 256) (p : Fin 32) (d : Fin 64) : EReal :=
  if h : p.val < 16 then x n ⟨p.val, h⟩ d else x ⟨(n.val + 1) % 256, by omega⟩ ⟨p.val - 16, by omega⟩ d

/-- The hidden row of block `n`: the block plus the position embedding, flattened, times the first weights. -/
def hidden (x : Fin 256 → Fin 16 → Fin 64 → EReal) (pos : Fin 32 → Fin 64 → EReal) (w : Fin 2048 → Fin 256 → EReal)
    (n j : Fin 256) : EReal :=
  ∑ k : Fin 2048, (block x n ⟨k.val / 64, by omega⟩ ⟨k.val % 64, by omega⟩ + pos ⟨k.val / 64, by omega⟩ ⟨k.val % 64, by omega⟩) * w k j

/-- The output row of a hidden row: silu, then the second weights. -/
def out (h : Fin 256 → EReal) (w : Fin 256 → Fin 64 → EReal) (d : Fin 64) : EReal :=
  ∑ j, h j * Ideal.logistic (h j) * w j d

/-- A sum over 2048 is a sum over 32 of sums over 64. -/
theorem sum_2048 (f : Fin 32 → Fin 64 → EReal) :
    ∑ k : Fin 2048, f ⟨k.val / 64, by omega⟩ ⟨k.val % 64, by omega⟩ = ∑ p, ∑ d, f p d := by
  rw [← Fintype.sum_prod_type' f]
  refine Fintype.sum_equiv (finProdFinEquiv (m := 32) (n := 64)).symm _ _ fun k => ?_
  rfl

/-- A sum over 32 is the sum over its first and its second half. -/
theorem sum_32 (f : Fin 32 → EReal) :
    ∑ p, f p = ∑ p : Fin 16, f ⟨p.val, by omega⟩ + ∑ p : Fin 16, f ⟨16 + p.val, by omega⟩ :=
  Fin.sum_univ_add (a := 16) (b := 16) f

/-- A sum over 128 lanes of terms that vanish outside the 64 lanes of head `g` is the sum over those. -/
theorem sum_lanes (g : Fin 2) (f : Fin 128 → EReal) (hf : ∀ l : Fin 128, l.val / 64 ≠ g.val → f l = 0) :
    ∑ l, f l = ∑ d : Fin 64, f ⟨g.val * 64 + d.val, by omega⟩ := by
  rw [Fin.sum_univ_add (a := 64) (b := 64) f]
  obtain ⟨g, hg⟩ := g
  obtain rfl | rfl : g = 0 ∨ g = 1 := by omega
  · rw [Finset.sum_eq_zero (f := fun d : Fin 64 => f (Fin.natAdd 64 d)) fun d _ => hf _ (by simp only [Fin.natAdd]; omega), add_zero]
    exact Finset.sum_congr rfl fun d _ => congrArg f (Fin.ext (by simp [Fin.castAdd, Fin.castLE]))
  · rw [Finset.sum_eq_zero (f := fun d : Fin 64 => f (Fin.castAdd 64 d)) fun d _ => hf _ (by simp only [Fin.castAdd, Fin.castLE]; omega), zero_add]
    exact Finset.sum_congr rfl fun d _ => congrArg f (Fin.ext (by simp [Fin.natAdd]))

/-- The hidden row as the kernel sums it: for each of 16 offsets, over the 128 lanes of both heads with the other head's
    weights zero, the first halves of block `n` and the second halves, which are the next run's. -/
theorem hidden_eq (g : Fin 2) (x : Fin 256 → Fin 16 → Fin 128 → EReal) (pos : Fin 32 → Fin 64 → EReal)
    (w : Fin 2048 → Fin 256 → EReal) (posg : Fin 32 → Fin 128 → EReal) (wg : Fin 32 → Fin 128 → Fin 256 → EReal)
    (hpos : ∀ p (d : Fin 64), posg p ⟨g.val * 64 + d.val, by omega⟩ = pos p d)
    (hw : ∀ (p : Fin 32) (d : Fin 64) j, wg p ⟨g.val * 64 + d.val, by omega⟩ j = w ⟨p.val * 64 + d.val, by omega⟩ j)
    (hz : ∀ p (l : Fin 128) j, l.val / 64 ≠ g.val → wg p l j = 0) (n j : Fin 256) :
    ∑ p : Fin 16, ∑ l, (x n p l + posg ⟨p.val, by omega⟩ l) * wg ⟨p.val, by omega⟩ l j
        + ∑ p : Fin 16, ∑ l, (x ⟨(n.val + 1) % 256, by omega⟩ p l + posg ⟨16 + p.val, by omega⟩ l) * wg ⟨16 + p.val, by omega⟩ l j
      = hidden (fun n p d => x n p ⟨g.val * 64 + d.val, by omega⟩) pos w n j := by
  have h := sum_2048 fun p d => (block (fun n p d => x n p ⟨g.val * 64 + d.val, by omega⟩) n p d + pos p d)
    * w ⟨p.val * 64 + d.val, by omega⟩ j
  have e : hidden (fun n p d => x n p ⟨g.val * 64 + d.val, by omega⟩) pos w n j
      = ∑ p : Fin 32, ∑ d : Fin 64, (block (fun n p d => x n p ⟨g.val * 64 + d.val, by omega⟩) n p d + pos p d)
        * w ⟨p.val * 64 + d.val, by omega⟩ j := by
    rw [← h, hidden]
    refine Finset.sum_congr rfl fun k _ => ?_
    congr 2
    exact Fin.ext (by simp only; omega)
  rw [e, sum_32]
  congr 1
  · refine Finset.sum_congr rfl fun p _ => ?_
    rw [sum_lanes g _ fun l hl => by rw [hz _ _ _ hl, mul_zero]]
    refine Finset.sum_congr rfl fun d _ => ?_
    rw [hpos, hw]
    simp only [block, p.isLt, dif_pos]
  · refine Finset.sum_congr rfl fun p _ => ?_
    rw [sum_lanes g _ fun l hl => by rw [hz _ _ _ hl, mul_zero]]
    refine Finset.sum_congr rfl fun d _ => ?_
    rw [hpos, hw]
    simp only [block, show ¬ 16 + p.val < 16 by omega, dif_neg, not_false_eq_true, Nat.add_sub_cancel_left]

end Cert.Proof.Compress

end
-- ==== Proof.Compress.Block.lean ====
/- The compression kernel's body over the extended reals, read at an index: the two sums over sixteen offsets, and the two
   outputs. -/
module

public import proofs.«01_k».proof.Proof.Compress.Rows
public import proofs.«01_k».proof.Proof.Gen.Kernel4Ideal.Value
public import Idealize.ShloMosaic.Lib.Pipeline.ValueKit
public import Idealize.ShloMosaic.Lib.WritesUnit

@[expose] public section

set_option maxRecDepth 16384

noncomputable section

namespace Cert.Proof.Compress

open Cert.Kernel4Ideal Cert.Kernel4Ideal.Gen Idealize.ShloMosaic Idealize.ShloMosaic.TcCoe

/-! ## One offset's contribution -/

/-- One offset's rows, shifted by the position embedding, times that offset's weights, added to what came before. -/
def step (acc : FVec Ideal S256x256 .f32) (x : Vec Ideal S256x128 .f32) (p : Vec Ideal S1x1x1x128 .f32)
    (w : Vec Ideal S1x1x1x128x256 .bf16) : FVec Ideal S256x256 .f32 :=
  addf acc (matmul dot_S256x128_S128x256_S256x256_1_0_0_1_n_n none
    (truncf .bf16 (addf x (broadcastTo S256x128 (shapeCast S1x128 p shapeCasts_S1x1x1x128_S1x128) broadcasts_S1x128_S256x128)) bitsLt_bf16_f32)
    (shapeCast S128x256 w shapeCasts_S1x1x1x128x256_S128x256 : FVec Ideal S128x256 .bf16) (constant S256x256 .f32 0x00000000#32))

theorem step_apply (acc : FVec Ideal S256x256 .f32) (x : Vec Ideal S256x128 .f32) (p : Vec Ideal S1x1x1x128 .f32)
    (w : Vec Ideal S1x1x1x128x256 .bf16) (n j : Fin 256) :
    (step acc x p w (ix2 n j) : EReal)
      = acc (ix2 n j) + ∑ l : Fin 128, ((x (ix2 n l) : EReal) + p (ix4 0 0 0 l)) * w (ix5 0 0 0 l j) := by
  pointwise [step]

/-- The contributions of all sixteen offsets, one after the other from zero. -/
def chain (X : ℕ → Vec Ideal S256x128 .f32) (P : ℕ → Vec Ideal S1x1x1x128 .f32) (W : ℕ → Vec Ideal S1x1x1x128x256 .bf16) :
    FVec Ideal S256x256 .f32 :=
  step (step (step (step (step (step (step (step (step (step (step (step (step (step (step (step (broadcast S256x256 (Scalar.ofBits .f32 0x00000000#32))
    (X 0) (P 0) (W 0))
    (X 1) (P 1) (W 1))
    (X 2) (P 2) (W 2))
    (X 3) (P 3) (W 3))
    (X 4) (P 4) (W 4))
    (X 5) (P 5) (W 5))
    (X 6) (P 6) (W 6))
    (X 7) (P 7) (W 7))
    (X 8) (P 8) (W 8))
    (X 9) (P 9) (W 9))
    (X 10) (P 10) (W 10))
    (X 11) (P 11) (W 11))
    (X 12) (P 12) (W 12))
    (X 13) (P 13) (W 13))
    (X 14) (P 14) (W 14))
    (X 15) (P 15) (W 15)

/-- Sixteen summands are the sum over sixteen. -/
theorem sum_16 (f : ℕ → EReal) :
    0 + f 0 + f 1 + f 2 + f 3 + f 4 + f 5 + f 6 + f 7 + f 8 + f 9 + f 10 + f 11 + f 12 + f 13 + f 14 + f 15
      = ∑ p : Fin 16, f p.val := by
  simp only [Fin.sum_univ_castSucc, Fin.sum_univ_zero]; rfl

theorem chain_apply (X : ℕ → Vec Ideal S256x128 .f32) (P : ℕ → Vec Ideal S1x1x1x128 .f32)
    (W : ℕ → Vec Ideal S1x1x1x128x256 .bf16) (n j : Fin 256) :
    (chain X P W (ix2 n j) : EReal)
      = ∑ p : Fin 16, ∑ l : Fin 128, ((X p.val (ix2 n l) : EReal) + P p.val (ix4 0 0 0 l)) * W p.val (ix5 0 0 0 l j) := by
  have h0 : ((broadcast S256x256 (Scalar.ofBits .f32 0x00000000#32) : FVec Ideal S256x256 .f32) (ix2 n j) : EReal) = 0 := by
    pointwise
  unfold chain
  simp only [step_apply, h0]
  exact sum_16 fun p => ∑ l : Fin 128, ((X p (ix2 n l) : EReal) + P p (ix4 0 0 0 l)) * W p (ix5 0 0 0 l j)

/-! ## The hidden rows after silu, and the two outputs -/

/-- The hidden rows: the first halves' sums, and the second halves' of the next run. -/
def hid (a b : FVec Ideal S256x256 .f32) : FVec Ideal S256x256 .f32 :=
  addf a (dynamicRotate 0 255#32 none b rotates_S256x256_d0)

theorem hid_apply (a b : FVec Ideal S256x256 .f32) (n j : Fin 256) :
    (hid a b (ix2 n j) : EReal) = a (ix2 n j) + b (ix2 ⟨(n.val + 1) % 256, by omega⟩ j) := by
  pointwise [hid]
  rfl

/-- Silu of the hidden rows. -/
def act (h : FVec Ideal S256x256 .f32) : FVec Ideal S256x256 .bf16 := truncf .bf16 (mulf h (logistic h)) bitsLt_bf16_f32

theorem act_apply (h : FVec Ideal S256x256 .f32) (n j : Fin 256) :
    (act h (ix2 n j) : EReal) = h (ix2 n j) * Ideal.logistic (h (ix2 n j)) := by
  pointwise [act]

/-- The compressed keys of one batch entry and head. -/
def keysBlk (h : FVec Ideal S256x256 .f32) (w : Vec Ideal S256x128 .bf16) : FVec Ideal S1x1x256x128 .bf16 :=
  shapeCast S1x1x256x128 (truncf .bf16 (matmul dot_S256x256_S256x128_S256x128_1_0_0_1_n_n none (act h)
    (shapeCast S256x128 w shapeCasts_S256x128_S256x128 : FVec Ideal S256x128 .bf16) (constant S256x128 .f32 0x00000000#32)) bitsLt_bf16_f32)
    shapeCasts_S256x128_S1x1x256x128

theorem keysBlk_apply (h : FVec Ideal S256x256 .f32) (w : Vec Ideal S256x128 .bf16) (n : Fin 256) (l : Fin 128) :
    (keysBlk h w (ix4 0 0 n l) : EReal)
      = ∑ j : Fin 256, (h (ix2 n j) * Ideal.logistic (h (ix2 n j)) : EReal) * w (ix2 j l) := by
  pointwise [keysBlk, act]

/-- The compressed values, transposed, with a row of ones added. -/
def valsBlk (h : FVec Ideal S256x256 .f32) (w : Vec Ideal S128x256 .bf16) : FVec Ideal S1x1x128x256 .bf16 :=
  shapeCast S1x1x128x256 (truncf .bf16 (addf (matmul dot_S128x256_S256x256_S128x256_1_1_0_0_n_n none
      (shapeCast S128x256 w shapeCasts_S128x256_S128x256 : FVec Ideal S128x256 .bf16) (act h) (constant S128x256 .f32 0x00000000#32))
    (select (cmpi .eq (iota .tc S128x256 32 [0] iota_S128x256_d0_w32) (broadcast S128x256 64#32))
      (broadcast S128x256 (Scalar.ofBits .f32 0x3F800000#32)) (broadcast S128x256 (Scalar.ofBits .f32 0x00000000#32)))) bitsLt_bf16_f32)
    shapeCasts_S128x256_S1x1x128x256

theorem valsBlk_apply (h : FVec Ideal S256x256 .f32) (w : Vec Ideal S128x256 .bf16) (l : Fin 128) (n : Fin 256) :
    (valsBlk h w (ix4 0 0 l n) : EReal)
      = (∑ j : Fin 256, (w (ix2 l j) : EReal) * (h (ix2 n j) * Ideal.logistic (h (ix2 n j))))
        + if l.val = 64 then (1 : EReal) else 0 := by
  pointwise [valsBlk, act]
  have hc : ∀ l : Fin 128, IntOp.cmpi .eq (BitVec.ofNat 32 l.val) 64#32 = if l.val = 64 then 1#1 else 0#1 := by decide
  rw [hc l]
  congr 1
  split <;> rfl

/-! ## What the body reads -/

/-- Offset `p`'s rows: every sixteenth row from `p` on. -/
def rowsFrom (x : Vec Ideal S4096x128 .f32) (p : ℕ) : Vec Ideal S256x128 .f32 :=
  fun z => x (ix2 ⟨((z 0).val * 16 + p) % 4096, Nat.mod_lt _ (by decide)⟩ (z 1))

end Cert.Proof.Compress

end
-- ==== Proof.Compress.Load.lean ====
/- A strided load of the compression kernel's scratch buffer, just stored whole. -/
module

public import proofs.«01_k».proof.Proof.Compress.Block

@[expose] public section

set_option maxRecDepth 16384

noncomputable section

namespace Cert.Proof.Compress

open Cert.Kernel4Ideal Cert.Kernel4Ideal.Gen Idealize.ShloMosaic Idealize.ShloMosaic.TcCoe

/-- Storing a whole buffer, on top of any stores, and loading from it reads what was stored. -/
theorem readCov_whole {sig : RefSig} {κ : Kind} {sp : Space} {S : Shape} {e : EltTy} (v : View sig κ sp S e)
    (off : Fin S.rank → ℕ) (inb : ∀ a, off a + S.size a ≤ S.size a)
    (w : S.Idx → Elt Ideal e) (L : List (View.Piece (Elt Ideal) S e)) (B : LoadRect S) :
    v.readCov ((⟨Rect.unit off S.size inb, w⟩ : View.Piece (Elt Ideal) S e) :: L) B = fun z => w (B.idx z) := by
  funext z
  unfold View.readCov
  rw [View.readAt_apply]
  exact View.read_writes_cons_unit_of_mem v _ inb w L (B.idx z) (B.idx z) rfl fun a => by have := inb a; omega

/-- Row `r` of a strided load from row `p`, in steps of sixteen, is row `16 r + p` of the buffer. -/
theorem idx_rows (p : ℕ) (hp : p < 16)
    (inb : ∀ a, (![256, 128] : Fin 2 → ℕ) a = 0 ∨ (![p, 0] : Fin 2 → ℕ) a + (![16, 1] : Fin 2 → ℕ) a * ((![256, 128] : Fin 2 → ℕ) a - 1) < S4096x128.size a) (r : Fin 256) (l : Fin 128) :
    (⟨![p, 0], ![256, 128], ![16, 1], inb⟩ : LoadRect S4096x128).idx (ix2 r l) = ix2 ⟨(r.val * 16 + p) % 4096, Nat.mod_lt _ (Nat.zero_lt_succ _)⟩ l := by
  funext a
  match a with
  | ⟨0, _⟩ =>
    apply Fin.ext
    have h : p + 16 * r.val = (r.val * 16 + p) % 4096 := by omega
    exact h
  | ⟨1, _⟩ =>
    apply Fin.ext
    have h : 0 + 1 * l.val = l.val := by omega
    exact h

/-- A strided load of a buffer just stored whole reads every sixteenth row of what was stored. -/
theorem readCov_rows {κ : Kind} {sp : Space} (v : View sig κ sp S4096x128 .f32) (w : Vec Ideal S4096x128 .f32)
    (L : List (View.Piece (Elt Ideal) S4096x128 .f32)) (p : ℕ) (hp : p < 16)
    (inw : ∀ a, (![0, 0] : Fin 2 → ℕ) a + (![4096, 128] : Fin 2 → ℕ) a ≤ S4096x128.size a)
    (inb : ∀ a, (![256, 128] : Fin 2 → ℕ) a = 0 ∨ (![p, 0] : Fin 2 → ℕ) a + (![16, 1] : Fin 2 → ℕ) a * ((![256, 128] : Fin 2 → ℕ) a - 1) < S4096x128.size a) :
    v.readCov (⟨Rect.unit (s := S4096x128) ![0, 0] ![4096, 128] inw, w⟩ :: L)
      (⟨![p, 0], ![256, 128], ![16, 1], inb⟩ : LoadRect S4096x128) = rowsFrom w p := by
  refine (readCov_whole (S := S4096x128) v ![0, 0] inw w L _).trans ?_
  funext z
  idx_vars z
  exact congrArg w (idx_rows p hp inb z0 z1)

/-- Offset `q`'s position row in the block of position embeddings, of the keys (`kv = 0`) or the values (`kv = 1`). -/
def posRow (x : Vec Ideal S2x1x32x128 .f32) (kv : Fin 2) (q : ℕ) : Vec Ideal S1x1x1x128 .f32 :=
  fun z => x (ix4 kv 0 ⟨q % 32, Nat.mod_lt _ (Nat.zero_lt_succ _)⟩ (z 3))

/-- Offset `q`'s weights in the block of first weights. -/
def wRows (x : Vec Ideal S2x1x32x128x256 .bf16) (kv : Fin 2) (q : ℕ) : Vec Ideal S1x1x1x128x256 .bf16 :=
  fun z => x (ix5 kv 0 ⟨q % 32, Nat.mod_lt _ (Nat.zero_lt_succ _)⟩ (z 3) (z 4))

/-- A load of one row of the block of position embeddings. -/
theorem ld_pos (x : Vec Ideal S2x1x32x128 .f32) (kv q : ℕ) (hk : kv < 2) (hq : q < 32)
    (inb : ∀ a, (![kv, 0, q, 0] : Fin 4 → ℕ) a + (![1, 1, 1, 128] : Fin 4 → ℕ) a ≤ S2x1x32x128.size a) :
    View.ld x (Rect.unit (s := S2x1x32x128) ![kv, 0, q, 0] ![1, 1, 1, 128] inb) = posRow x ⟨kv, hk⟩ q := by
  funext z
  refine congrArg x (funext fun a => Fin.ext ?_)
  match a with
  | ⟨0, _⟩ =>
    have hz : (z 0).val < 1 := (z 0).isLt
    have h : kv + 1 * (z 0).val = kv := by omega
    exact h
  | ⟨1, _⟩ =>
    have hz : (z 1).val < 1 := (z 1).isLt
    have h : 0 + 1 * (z 1).val = 0 := by omega
    exact h
  | ⟨2, _⟩ =>
    have hz : (z 2).val < 1 := (z 2).isLt
    have h : q + 1 * (z 2).val = q % 32 := by omega
    exact h
  | ⟨3, _⟩ =>
    have h : 0 + 1 * (z 3).val = (z 3).val := by omega
    exact h

/-- A load of one offset's weights. -/
theorem ld_w (x : Vec Ideal S2x1x32x128x256 .bf16) (kv q : ℕ) (hk : kv < 2) (hq : q < 32)
    (inb : ∀ a, (![kv, 0, q, 0, 0] : Fin 5 → ℕ) a + (![1, 1, 1, 128, 256] : Fin 5 → ℕ) a ≤ S2x1x32x128x256.size a) :
    View.ld x (Rect.unit (s := S2x1x32x128x256) ![kv, 0, q, 0, 0] ![1, 1, 1, 128, 256] inb) = wRows x ⟨kv, hk⟩ q := by
  funext z
  refine congrArg x (funext fun a => Fin.ext ?_)
  match a with
  | ⟨0, _⟩ =>
    have hz : (z 0).val < 1 := (z 0).isLt
    have h : kv + 1 * (z 0).val = kv := by omega
    exact h
  | ⟨1, _⟩ =>
    have hz : (z 1).val < 1 := (z 1).isLt
    have h : 0 + 1 * (z 1).val = 0 := by omega
    exact h
  | ⟨2, _⟩ =>
    have hz : (z 2).val < 1 := (z 2).isLt
    have h : q + 1 * (z 2).val = q % 32 := by omega
    exact h
  | ⟨3, _⟩ =>
    have h : 0 + 1 * (z 3).val = (z 3).val := by omega
    exact h
  | ⟨4, _⟩ =>
    have h : 0 + 1 * (z 4).val = (z 4).val := by omega
    exact h

end Cert.Proof.Compress

end
-- ==== Proof.Compress.Point.lean ====
/- What one grid point of the compression leaves in its two output blocks: the compressed keys and the compressed values, as
   functions of the blocks it reads. -/
module

public import proofs.«01_k».proof.Proof.Compress.Load
public import Idealize.ShloMosaic.Lib.Pipeline.ValueKit

@[expose] public section

set_option maxRecDepth 16384

noncomputable section

namespace Cert.Proof.Compress

open Cert.Kernel4Ideal Cert.Kernel4Ideal.Gen Idealize.ShloMosaic Idealize.ShloMosaic.TcCoe Idealize.SL.Sem

/-- The hidden rows of the keys (`kv = 0`) or the values (`kv = 1`) as the body sums them from its blocks. -/
def hidBlk (x : Vec Ideal S1x4096x128 .bf16) (pos : Vec Ideal S2x1x32x128 .f32) (w : Vec Ideal S2x1x32x128x256 .bf16)
    (kv : Fin 2) : FVec Ideal S256x256 .f32 :=
  hid (chain (rowsFrom (k0_pay2 x)) (posRow pos kv) (wRows w kv))
    (chain (rowsFrom (k0_pay2 x)) (fun q => posRow pos kv (16 + q)) (fun q => wRows w kv (16 + q)))

variable (m : (ℓ : Loc nD τ sig) → Buf (Elt Ideal) ℓ) (c : Dev nD) (t : Fin cfg0.N)

set_option maxHeartbeats 1000000 in
/-- The first output's block after a point. -/
theorem keys_point : (outsAt0 m c t).1 = keysBlk (hidBlk (iblk m c 0 t) (iblk m c 2 t) (iblk m c 3 t) 0) (iblk m c 4 t) := by
  funext z
  unfold outsAt0
  dsimp only
  frame_out
  simp (disch := decide) only [readCov_rows, ld_pos, ld_w]
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, hidBlk, keysBlk, act, hid, chain, step]
  rfl

set_option maxHeartbeats 1000000 in
/-- The second output's block after a point. -/
theorem vals_point : (outsAt0 m c t).2 = valsBlk (hidBlk (iblk m c 1 t) (iblk m c 2 t) (iblk m c 3 t) 1) (iblk m c 5 t) := by
  funext z
  unfold outsAt0
  dsimp only
  frame_out
  simp (disch := decide) only [readCov_rows, ld_pos, ld_w]
  simp only [k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay1, hidBlk, valsBlk, act, hid, chain, step]
  rfl

end Cert.Proof.Compress

end
-- ==== Proof.Compress.Host.lean ====
/- The arrays the host prepares for the compression kernel, from its arguments, each read at an index. -/
module

public import proofs.«01_k».proof.Proof.Gen.Kernel4Ideal.Frame
public import Idealize.ShloMosaic.Lib.Pointwise
public import Idealize.ShloMosaic.Lib.Pipeline.ValueKit

@[expose] public section

set_option maxRecDepth 16384

noncomputable section

namespace Cert.Proof.Compress

open Cert.Kernel4Ideal Cert.Kernel4Ideal.Gen Idealize.ShloMosaic Idealize.ShloMosaic.TcCoe

/-- The padding's zero. -/
def zeroH : FVec Ideal S_ .f32 := sitofp .f32 (constantI S_ 32 0#32)

/-- The position embedding at each head's lanes, zeros at the other's. -/
def posH (pos : FVec Ideal S1x32x64 .f32) : FVec Ideal S2x32x128 .f32 :=
  concatenate (α := Ideal .f32) S2x32x128 0
    [⟨S1x32x128, broadcastInDim S1x32x128 ![1, 2] bcast_S32x128_S1x32x128_1_2
        (pad S32x128 ![0, 0] ![0, 64] ![0, 0] (shapeCast S32x64 pos shapeCasts_S1x32x64_S32x64) zeroH
          pads_S32x64_S32x128_000_0640 h_S_)⟩,
     ⟨S1x32x128, broadcastInDim S1x32x128 ![1, 2] bcast_S32x128_S1x32x128_1_2
        (pad S32x128 ![0, 64] ![0, 0] ![0, 0] (shapeCast S32x64 pos shapeCasts_S1x32x64_S32x64) zeroH
          pads_S32x64_S32x128_000_6400 h_S_)⟩]
    concatenates_S1x32x128_S1x32x128_S2x32x128_d0

/-- The first weights, position by position. -/
def w1R (w : FVec Ideal S1x2048x256 .f32) : FVec Ideal S32x64x256 .f32 :=
  shapeCast S32x64x256 (shapeCast S2048x256 w shapeCasts_S1x2048x256_S2048x256) shapeCasts_S2048x256_S32x64x256

/-- The first weights at each head's lanes, zeros at the other's. -/
def w1H (w : FVec Ideal S1x2048x256 .f32) : FVec Ideal S2x32x128x256 .bf16 :=
  truncf .bf16 (concatenate (α := Ideal .f32) S2x32x128x256 0
    [⟨S1x32x128x256, broadcastInDim S1x32x128x256 ![1, 2, 3] bcast_S32x128x256_S1x32x128x256_1_2_3
        (pad S32x128x256 ![0, 0, 0] ![0, 64, 0] ![0, 0, 0] (w1R w) zeroH pads_S32x64x256_S32x128x256_000_0640_000 h_S_)⟩,
     ⟨S1x32x128x256, broadcastInDim S1x32x128x256 ![1, 2, 3] bcast_S32x128x256_S1x32x128x256_1_2_3
        (pad S32x128x256 ![0, 64, 0] ![0, 0, 0] ![0, 0, 0] (w1R w) zeroH pads_S32x64x256_S32x128x256_000_6400_000 h_S_)⟩]
    concatenates_S1x32x128x256_S1x32x128x256_S2x32x128x256_d0) bitsLt_bf16_f32

/-- The second weights, then 64 columns of zero. -/
def w2H (w : FVec Ideal S1x256x64 .f32) : FVec Ideal S256x128 .bf16 :=
  truncf .bf16 (pad S256x128 ![0, 0] ![0, 64] ![0, 0] (shapeCast S256x64 w shapeCasts_S1x256x64_S256x64) zeroH
    pads_S256x64_S256x128_000_0640 h_S_) bitsLt_bf16_f32

/-- The keys' and the values' position embeddings. -/
def posKV (a b : FVec Ideal S2x32x128 .f32) : FVec Ideal S2x2x32x128 .f32 :=
  concatenate (α := Ideal .f32) S2x2x32x128 0
    [⟨S1x2x32x128, broadcastInDim S1x2x32x128 ![1, 2, 3] bcast_S2x32x128_S1x2x32x128_1_2_3 a⟩,
     ⟨S1x2x32x128, broadcastInDim S1x2x32x128 ![1, 2, 3] bcast_S2x32x128_S1x2x32x128_1_2_3 b⟩]
    concatenates_S1x2x32x128_S1x2x32x128_S2x2x32x128_d0

/-- The keys' and the values' first weights. -/
def w1KV (a b : FVec Ideal S2x32x128x256 .bf16) : FVec Ideal S2x2x32x128x256 .bf16 :=
  concatenate (α := Ideal .bf16) S2x2x32x128x256 0
    [⟨S1x2x32x128x256, broadcastInDim S1x2x32x128x256 ![1, 2, 3, 4] bcast_S2x32x128x256_S1x2x32x128x256_1_2_3_4 a⟩,
     ⟨S1x2x32x128x256, broadcastInDim S1x2x32x128x256 ![1, 2, 3, 4] bcast_S2x32x128x256_S1x2x32x128x256_1_2_3_4 b⟩]
    concatenates_S1x2x32x128x256_S1x2x32x128x256_S2x2x32x128x256_d0

/-- The values' second weights, rows and columns exchanged. -/
def w2T (w : FVec Ideal S256x128 .bf16) : FVec Ideal S128x256 .bf16 :=
  transpose S128x256 [1, 0] w transposes_S256x128_S128x256_1_0

theorem zeroH_apply (i : S_.Idx) : zeroH i = (0 : EReal) := by
  change (((0#32 : BitVec 32).toInt : ℝ) : EReal) = 0
  simp

theorem posH_apply (pos : FVec Ideal S1x32x64 .f32) (g : Fin 2) (p : Fin 32) (l : Fin 128) :
    posH pos (ix3 g p l) = if h : l.val / 64 = g.val then pos (ix3 0 p ⟨l.val % 64, by omega⟩) else (0 : EReal) := by
  pointwise [posH, zeroH_apply]
  by_cases hg : g.val < 1
  · rw [dif_pos hg]
    by_cases hl : l.val < 64
    · rw [dif_pos hl, dif_pos (by omega)]
      congr 2; exact Fin.ext (by simp only; omega)
    · rw [dif_neg hl, dif_neg (by omega)]
  · rw [dif_neg hg]
    by_cases hl : 64 ≤ l.val
    · rw [dif_pos (by omega), dif_pos (by omega)]
      congr 2; exact Fin.ext (by simp only; omega)
    · rw [dif_neg (by omega), dif_neg (by omega)]

theorem w1R_apply (w : FVec Ideal S1x2048x256 .f32) (p : Fin 32) (d : Fin 64) (j : Fin 256) :
    w1R w (ix3 p d j) = w (ix3 0 ⟨p.val * 64 + d.val, by omega⟩ j) := by
  pointwise [w1R]

theorem w1H_apply (w : FVec Ideal S1x2048x256 .f32) (g : Fin 2) (p : Fin 32) (l : Fin 128) (j : Fin 256) :
    w1H w (ix4 g p l j)
      = if h : l.val / 64 = g.val then w (ix3 0 ⟨p.val * 64 + l.val % 64, by omega⟩ j) else (0 : EReal) := by
  pointwise [w1H, zeroH_apply]
  simp only [w1R_apply]
  by_cases hg : g.val < 1
  · rw [dif_pos hg]
    by_cases hl : l.val < 64
    · rw [dif_pos hl, dif_pos (by omega)]
      congr 2; exact Fin.ext (by simp only; omega)
    · rw [dif_neg hl, dif_neg (by omega)]
  · rw [dif_neg hg]
    by_cases hl : 64 ≤ l.val
    · rw [dif_pos (by omega), dif_pos (by omega)]
      congr 2; exact Fin.ext (by simp only; omega)
    · rw [dif_neg (by omega), dif_neg (by omega)]

theorem w2H_apply (w : FVec Ideal S1x256x64 .f32) (j : Fin 256) (l : Fin 128) :
    w2H w (ix2 j l) = if h : l.val < 64 then w (ix3 0 j ⟨l.val, h⟩) else (0 : EReal) := by
  pointwise [w2H, zeroH_apply]

theorem posKV_apply (a b : FVec Ideal S2x32x128 .f32) (kv g : Fin 2) (p : Fin 32) (l : Fin 128) :
    posKV a b (ix4 kv g p l) = if kv.val < 1 then a (ix3 g p l) else b (ix3 g p l) := by
  pointwise [posKV]
  exact dite_eq_ite

theorem w1KV_apply (a b : FVec Ideal S2x32x128x256 .bf16) (kv g : Fin 2) (p : Fin 32) (l : Fin 128) (j : Fin 256) :
    w1KV a b (ix5 kv g p l j) = if kv.val < 1 then a (ix4 g p l j) else b (ix4 g p l j) := by
  pointwise [w1KV]
  exact dite_eq_ite

theorem w2T_apply (w : FVec Ideal S256x128 .bf16) (l : Fin 128) (j : Fin 256) : w2T w (ix2 l j) = w (ix2 j l) := by
  pointwise [w2T]

variable (m : (ℓ : Loc nD τ sig) → Buf (Elt Ideal) ℓ) (c : Dev nD)

theorem V_pos : V m c main_v38
    = posKV (posH (m ((c.tc : Thread nD τ).loc main_arg1))) (posH (m ((c.tc : Thread nD τ).loc main_arg4))) := by
  unfold_abbrev_sides
  simp only [List.flatten_cons, List.flatten_nil, List.append_nil, List.cons_append, List.nil_append]
  after_results
  rfl

theorem V_w1 : V m c main_v41
    = w1KV (w1H (m ((c.tc : Thread nD τ).loc main_arg2))) (w1H (m ((c.tc : Thread nD τ).loc main_arg5))) := by
  unfold_abbrev_sides
  simp only [List.flatten_cons, List.flatten_nil, List.append_nil, List.cons_append, List.nil_append]
  after_results
  rfl

theorem V_w2k : V m c main_v17 = w2H (m ((c.tc : Thread nD τ).loc main_arg3)) := by
  unfold_abbrev_sides
  simp only [List.flatten_cons, List.flatten_nil, List.append_nil, List.cons_append, List.nil_append]
  after_results
  rfl

theorem V_w2v : V m c main_v42 = w2T (w2H (m ((c.tc : Thread nD τ).loc main_arg6))) := by
  unfold_abbrev_sides
  simp only [List.flatten_cons, List.flatten_nil, List.append_nil, List.cons_append, List.nil_append]
  after_results
  rfl

end Cert.Proof.Compress

end
-- ==== Proof.Compress.Reference.lean ====
/- The stages of the reference compression as whole-array operations, each read at an index as the function it is, and the
   reference's two results as their compositions. -/
module

public import proofs.«01_k».proof.Proof.Compress.Rows
public import proofs.«01_k».proof.Proof.Gen.Reference4Ideal.Run

@[expose] public section

set_option maxRecDepth 16384

noncomputable section

namespace Cert.Proof.Compress.Ref

open Cert.Reference4Ideal Cert.Reference4Ideal.Gen Idealize.ShloMosaic Idealize.ShloMosaic.TcCoe

/-- Two heads' positions in runs of 16. -/
def runs (x : FVec Ideal S8x4096x128 .f32) : FVec Ideal S8x2x256x16x64 .f32 :=
  transpose S8x2x256x16x64 [0, 3, 1, 2, 4] (shapeCast S8x256x16x2x64 x shapeCasts_S8x4096x128_S8x256x16x2x64)
    transposes_S8x256x16x2x64_S8x2x256x16x64_0_3_1_2_4

/-- The runs moved up by one, the first one last. -/
def next (x : FVec Ideal S8x2x256x16x64 .f32) : FVec Ideal S8x2x256x16x64 .f32 :=
  concatenate (α := Ideal .f32) S8x2x256x16x64 2
    [⟨S8x2x255x16x64, extractStridedSlice S8x2x255x16x64 ![0, 0, 1, 0, 0] x slices_S8x2x256x16x64_S8x2x255x16x64_0_0_1_0_0⟩,
     ⟨S8x2x1x16x64, extractStridedSlice S8x2x1x16x64 ![0, 0, 0, 0, 0] x slices_S8x2x256x16x64_S8x2x1x16x64_0_0_0_0_0⟩]
    concatenates_S8x2x255x16x64_S8x2x1x16x64_S8x2x256x16x64_d2

/-- Blocks of 32 positions, stride 16: each run and the next. -/
def blocks (x : FVec Ideal S8x2x256x16x64 .f32) : FVec Ideal S8x2x256x32x64 .f32 :=
  concatenate (α := Ideal .f32) S8x2x256x32x64 3 [⟨S8x2x256x16x64, x⟩, ⟨S8x2x256x16x64, next x⟩]
    concatenates_S8x2x256x16x64_S8x2x256x16x64_S8x2x256x32x64_d3

/-- The blocks plus the position embedding. -/
def placed (x : FVec Ideal S8x2x256x32x64 .f32) (pos : FVec Ideal S32x64 .f32) : FVec Ideal S8x2x256x32x64 .f32 :=
  addf x (broadcastInDim S8x2x256x32x64 ![0, 1, 2, 3, 4] bcast_S1x1x1x32x64_S8x2x256x32x64_0_1_2_3_4
    (broadcastInDim S1x1x1x32x64 ![3, 4] bcast_S32x64_S1x1x1x32x64_3_4 pos))

/-- The flattened blocks times the first weights. -/
def first (x : FVec Ideal S8x2x256x32x64 .f32) (w : FVec Ideal S2048x256 .f32) : FVec Ideal S8x2x256x256 .f32 :=
  Host.dotGeneral dot_S8x2x256x2048_S2048x256_S8x2x256x256_3_0_012_1_n_n none
    (shapeCast S8x2x256x2048 x shapeCasts_S8x2x256x32x64_S8x2x256x2048) w

/-- The hidden array from the two heads' positions. -/
def hid (x : FVec Ideal S8x4096x128 .f32) (pos : FVec Ideal S32x64 .f32) (w : FVec Ideal S2048x256 .f32) :
    FVec Ideal S8x2x256x256 .f32 :=
  first (placed (blocks (runs x)) pos) w

/-- silu of the hidden array, times the second weights. -/
def second (h : FVec Ideal S8x2x256x256 .f32) (w : FVec Ideal S256x64 .f32) : FVec Ideal S8x2x256x64 .f32 :=
  Host.dotGeneral dot_S8x2x256x256_S256x64_S8x2x256x64_3_0_012_1_n_n none
    (mulf h (Host.divf (broadcastInDim S8x2x256x256 ![] bcast_S_S8x2x256x256 (constant S_ .f32 0x3F800000#32))
      (addf (broadcastInDim S8x2x256x256 ![] bcast_S_S8x2x256x256 (constant S_ .f32 0x3F800000#32)) (Host.exp (Host.negf h))))) w

/-- The compressed keys: 64 lanes, then 64 of zero. -/
def keys (y : FVec Ideal S8x2x256x64 .f32) : FVec Ideal S8x2x256x128 .bf16 :=
  truncf .bf16 (concatenate (α := Ideal .f32) S8x2x256x128 3 [⟨S8x2x256x64, y⟩,
      ⟨S8x2x256x64, broadcastInDim S8x2x256x64 ![] bcast_S_S8x2x256x64 (constant S_ .f32 0x00000000#32)⟩]
    concatenates_S8x2x256x64_S8x2x256x64_S8x2x256x128_d3) bitsLt_bf16_f32

/-- The compressed values with rows and columns exchanged: 64 rows, one of ones, then 63 of zero. -/
def vals (y : FVec Ideal S8x2x256x64 .f32) : FVec Ideal S8x2x128x256 .bf16 :=
  truncf .bf16 (concatenate (α := Ideal .f32) S8x2x128x256 2
    [⟨S8x2x64x256, transpose S8x2x64x256 [0, 1, 3, 2] y transposes_S8x2x256x64_S8x2x64x256_0_1_3_2⟩,
     ⟨S8x2x1x256, broadcastInDim S8x2x1x256 ![] bcast_S_S8x2x1x256 (constant S_ .f32 0x3F800000#32)⟩,
     ⟨S8x2x63x256, broadcastInDim S8x2x63x256 ![] bcast_S_S8x2x63x256 (constant S_ .f32 0x00000000#32)⟩]
    concatenates_S8x2x64x256_S8x2x1x256_S8x2x63x256_S8x2x128x256_d2) bitsLt_bf16_f32

variable (b : Fin 8) (g : Fin 2) (n : Fin 256)

theorem runs_apply (x : FVec Ideal S8x4096x128 .f32) (p : Fin 16) (d : Fin 64) :
    runs x (ix5 b g n p d) = x (ix3 b ⟨n.val * 16 + p.val, by omega⟩ ⟨g.val * 64 + d.val, by omega⟩) := by
  pointwise [runs]

theorem next_apply (x : FVec Ideal S8x2x256x16x64 .f32) (p : Fin 16) (d : Fin 64) :
    next x (ix5 b g n p d) = x (ix5 b g ⟨(n.val + 1) % 256, by omega⟩ p d) := by
  pointwise [next]
  split
  · congr 2; exact Fin.ext (by simp only; omega)
  · congr 2; exact Fin.ext (by simp only; omega)

theorem blocks_apply (x : FVec Ideal S8x2x256x16x64 .f32) (p : Fin 32) (d : Fin 64) :
    blocks x (ix5 b g n p d) = block (fun n p d => x (ix5 b g n p d)) n p d := by
  pointwise [blocks]
  simp only [next_apply]
  rfl

theorem placed_apply (x : FVec Ideal S8x2x256x32x64 .f32) (pos : FVec Ideal S32x64 .f32) (p : Fin 32) (d : Fin 64) :
    placed x pos (ix5 b g n p d) = x (ix5 b g n p d) + pos (ix2 p d) := by
  pointwise [placed]

theorem first_apply (x : FVec Ideal S8x2x256x32x64 .f32) (w : FVec Ideal S2048x256 .f32) (j : Fin 256) :
    first x w (ix4 b g n j)
      = ∑ k : Fin 2048, x (ix5 b g n ⟨k.val / 64, by omega⟩ ⟨k.val % 64, by omega⟩) * w (ix2 k j) := by
  pointwise [first]

/-- The hidden array's rows. -/
theorem hid_apply (x : FVec Ideal S8x4096x128 .f32) (pos : FVec Ideal S32x64 .f32) (w : FVec Ideal S2048x256 .f32)
    (j : Fin 256) :
    hid x pos w (ix4 b g n j)
      = hidden (fun n p d => x (ix3 b ⟨n.val * 16 + p.val, by omega⟩ ⟨g.val * 64 + d.val, by omega⟩))
          (fun p d => pos (ix2 p d)) (fun k j => w (ix2 k j)) n j := by
  unfold hid hidden
  rw [first_apply]
  simp only [placed_apply, blocks_apply, runs_apply]

theorem second_apply (h : FVec Ideal S8x2x256x256 .f32) (w : FVec Ideal S256x64 .f32) (d : Fin 64) :
    second h w (ix4 b g n d) = out (fun j => h (ix4 b g n j)) (fun j d => w (ix2 j d)) d := by
  pointwise [second]
  rfl

theorem keys_apply (y : FVec Ideal S8x2x256x64 .f32) (l : Fin 128) :
    keys y (ix4 b g n l) = if h : l.val < 64 then y (ix4 b g n ⟨l.val, h⟩) else (0 : EReal) := by
  pointwise [keys]

theorem vals_apply (y : FVec Ideal S8x2x256x64 .f32) (l : Fin 128) :
    vals y (ix4 b g l n) = if h : l.val < 64 then y (ix4 b g n ⟨l.val, h⟩) else if l.val = 64 then (1 : EReal) else 0 := by
  pointwise [vals]
  refine dite_congr rfl (fun _ => rfl) fun h => ?_
  by_cases e : l.val = 64
  · rw [dif_pos (by omega), if_pos e]
  · rw [dif_neg (by omega), if_neg e]

/-- The compressed keys of the packed projection: its columns 512 to 639. -/
def kcOf (pk : FVec Ideal S8x4096x1024 .bf16) (pos : FVec Ideal S1x32x64 .f32) (w1 : FVec Ideal S1x2048x256 .f32)
    (w2 : FVec Ideal S1x256x64 .f32) : FVec Ideal S8x2x256x128 .bf16 :=
  keys (second (hid (extf .f32 (extractStridedSlice S8x4096x128 ![0, 0, 512] pk slices_S8x4096x1024_S8x4096x128_0_0_512)
    bitsLt_bf16_f32) (shapeCast S32x64 pos shapeCasts_S1x32x64_S32x64) (shapeCast S2048x256 w1 shapeCasts_S1x2048x256_S2048x256))
    (shapeCast S256x64 w2 shapeCasts_S1x256x64_S256x64))

/-- The compressed values of the packed projection: its columns 640 to 767. -/
def vcOf (pk : FVec Ideal S8x4096x1024 .bf16) (pos : FVec Ideal S1x32x64 .f32) (w1 : FVec Ideal S1x2048x256 .f32)
    (w2 : FVec Ideal S1x256x64 .f32) : FVec Ideal S8x2x128x256 .bf16 :=
  vals (second (hid (extf .f32 (extractStridedSlice S8x4096x128 ![0, 0, 640] pk slices_S8x4096x1024_S8x4096x128_0_0_640)
    bitsLt_bf16_f32) (shapeCast S32x64 pos shapeCasts_S1x32x64_S32x64) (shapeCast S2048x256 w1 shapeCasts_S1x2048x256_S2048x256))
    (shapeCast S256x64 w2 shapeCasts_S1x256x64_S256x64))

theorem kslice_apply (pk : FVec Ideal S8x4096x1024 .bf16) (r : Fin 4096) (l : Fin 128) :
    (extf .f32 (extractStridedSlice S8x4096x128 ![0, 0, 512] pk slices_S8x4096x1024_S8x4096x128_0_0_512)
      bitsLt_bf16_f32 : FVec Ideal S8x4096x128 .f32) (ix3 b r l) = pk (ix3 b r ⟨512 + l.val, by omega⟩) := by
  pointwise

theorem vslice_apply (pk : FVec Ideal S8x4096x1024 .bf16) (r : Fin 4096) (l : Fin 128) :
    (extf .f32 (extractStridedSlice S8x4096x128 ![0, 0, 640] pk slices_S8x4096x1024_S8x4096x128_0_0_640)
      bitsLt_bf16_f32 : FVec Ideal S8x4096x128 .f32) (ix3 b r l) = pk (ix3 b r ⟨640 + l.val, by omega⟩) := by
  pointwise

theorem pos_apply (pos : FVec Ideal S1x32x64 .f32) (p : Fin 32) (d : Fin 64) :
    shapeCast S32x64 pos shapeCasts_S1x32x64_S32x64 (ix2 p d) = pos (ix3 0 p d) := by
  pointwise

theorem w1_apply (w : FVec Ideal S1x2048x256 .f32) (k : Fin 2048) (j : Fin 256) :
    shapeCast S2048x256 w shapeCasts_S1x2048x256_S2048x256 (ix2 k j) = w (ix3 0 k j) := by
  pointwise

theorem w2_apply (w : FVec Ideal S1x256x64 .f32) (j : Fin 256) (d : Fin 64) :
    shapeCast S256x64 w shapeCasts_S1x256x64_S256x64 (ix2 j d) = w (ix3 0 j d) := by
  pointwise

/-- The compressed keys, entry by entry. -/
theorem kcOf_apply (pk : FVec Ideal S8x4096x1024 .bf16) (pos : FVec Ideal S1x32x64 .f32) (w1 : FVec Ideal S1x2048x256 .f32)
    (w2 : FVec Ideal S1x256x64 .f32) (l : Fin 128) :
    kcOf pk pos w1 w2 (ix4 b g n l)
      = if h : l.val < 64 then
          out (hidden (fun n p d => pk (ix3 b ⟨n.val * 16 + p.val, by omega⟩ ⟨512 + (g.val * 64 + d.val), by omega⟩))
            (fun p d => pos (ix3 0 p d)) (fun k j => w1 (ix3 0 k j)) n) (fun j d => w2 (ix3 0 j d)) ⟨l.val, h⟩
        else (0 : EReal) := by
  unfold kcOf
  simp only [keys_apply, second_apply, hid_apply, kslice_apply, pos_apply, w1_apply, w2_apply]

/-- The compressed values, entry by entry. -/
theorem vcOf_apply (pk : FVec Ideal S8x4096x1024 .bf16) (pos : FVec Ideal S1x32x64 .f32) (w1 : FVec Ideal S1x2048x256 .f32)
    (w2 : FVec Ideal S1x256x64 .f32) (l : Fin 128) :
    vcOf pk pos w1 w2 (ix4 b g l n)
      = if h : l.val < 64 then
          out (hidden (fun n p d => pk (ix3 b ⟨n.val * 16 + p.val, by omega⟩ ⟨640 + (g.val * 64 + d.val), by omega⟩))
            (fun p d => pos (ix3 0 p d)) (fun k j => w1 (ix3 0 k j)) n) (fun j d => w2 (ix3 0 j d)) ⟨l.val, h⟩
        else if l.val = 64 then (1 : EReal) else 0 := by
  unfold vcOf
  simp only [vals_apply, second_apply, hid_apply, vslice_apply, pos_apply, w1_apply, w2_apply]

/-- The reference's first result is the compressed keys. -/
theorem res_k (m : (ℓ : Loc nD τ sig) → Buf (Elt Ideal) ℓ) (c : Dev nD) :
    Value.res_main_v42 m c
      = kcOf (m ((c.tc : Thread nD τ).loc main_arg0)) (m ((c.tc : Thread nD τ).loc main_arg1))
          (m ((c.tc : Thread nD τ).loc main_arg2)) (m ((c.tc : Thread nD τ).loc main_arg3)) := by
  unfold Value.res_main_v42
  rfl

/-- The reference's second result is the compressed values. -/
theorem res_v (m : (ℓ : Loc nD τ sig) → Buf (Elt Ideal) ℓ) (c : Dev nD) :
    Value.res_main_v43 m c
      = vcOf (m ((c.tc : Thread nD τ).loc main_arg0)) (m ((c.tc : Thread nD τ).loc main_arg4))
          (m ((c.tc : Thread nD τ).loc main_arg5)) (m ((c.tc : Thread nD τ).loc main_arg6)) := by
  unfold Value.res_main_v43
  rfl

end Cert.Proof.Compress.Ref

end
-- ==== Proof.Compress.Value.lean ====
/- The compression kernel's output arrays after the run are the reference's results: each of the 16 grid points writes one
   sequence's and one head's compressed keys and compressed values. -/
module

public import proofs.«01_k».proof.Defs
public import proofs.«01_k».proof.Proof.Compress.Point
public import proofs.«01_k».proof.Proof.Compress.Host
public import proofs.«01_k».proof.Proof.Compress.Reference
public import proofs.«01_k».proof.Proof.Gen.Kernel4Ideal.Value
public import Idealize.ShloMosaic.Lib.Pipeline.ValueKit
public import Idealize.ShloMosaic.Lib.Claim

@[expose] public section

set_option maxRecDepth 16384

noncomputable section

namespace Cert.Proof.Compress

open Cert.Kernel4Ideal Cert.Kernel4Ideal.Gen Idealize.ShloMosaic Idealize.ShloMosaic.TcCoe Idealize.SL.Sem

/-! ## The body's blocks, read -/

theorem pay2_apply (x : Vec Ideal S1x4096x128 .bf16) (r : Fin 4096) (l : Fin 128) :
    (k0_pay2 x (ix2 r l) : EReal) = x (ix3 0 r l) := by
  pointwise [k0_pay2]

theorem rowsFrom_apply (x : Vec Ideal S1x4096x128 .bf16) (p : Fin 16) (n : Fin 256) (l : Fin 128) :
    (rowsFrom (k0_pay2 x) p.val (ix2 n l) : EReal) = x (ix3 0 ⟨n.val * 16 + p.val, by omega⟩ l) := by
  refine Eq.trans ?_ (pay2_apply x ⟨n.val * 16 + p.val, by omega⟩ l)
  have h : (⟨(n.val * 16 + p.val) % 4096, Nat.mod_lt _ (Nat.zero_lt_succ _)⟩ : Fin 4096) = ⟨n.val * 16 + p.val, by omega⟩ :=
    Fin.ext (Nat.mod_eq_of_lt (by omega))
  exact congrArg (fun r => k0_pay2 x (ix2 r l)) h

theorem posRow_apply (x : Vec Ideal S2x1x32x128 .f32) (kv : Fin 2) (q : ℕ) (hq : q < 32) (l : Fin 128) :
    (posRow x kv q (ix4 0 0 0 l) : EReal) = x (ix4 kv 0 ⟨q, hq⟩ l) := by
  have h : (⟨q % 32, Nat.mod_lt _ (Nat.zero_lt_succ _)⟩ : Fin 32) = ⟨q, hq⟩ := Fin.ext (Nat.mod_eq_of_lt hq)
  exact congrArg (fun r => x (ix4 kv 0 r l)) h

theorem wRows_apply (x : Vec Ideal S2x1x32x128x256 .bf16) (kv : Fin 2) (q : ℕ) (hq : q < 32) (l : Fin 128) (j : Fin 256) :
    (wRows x kv q (ix5 0 0 0 l j) : EReal) = x (ix5 kv 0 ⟨q, hq⟩ l j) := by
  have h : (⟨q % 32, Nat.mod_lt _ (Nat.zero_lt_succ _)⟩ : Fin 32) = ⟨q, hq⟩ := Fin.ext (Nat.mod_eq_of_lt hq)
  exact congrArg (fun r => x (ix5 kv 0 r l j)) h

/-- The body's hidden rows are the reference's, when its position and weight blocks hold one head's lanes. -/
theorem hidBlk_apply (x : Vec Ideal S1x4096x128 .bf16) (pos : Vec Ideal S2x1x32x128 .f32) (w : Vec Ideal S2x1x32x128x256 .bf16)
    (kv g : Fin 2) (pos0 : Fin 32 → Fin 64 → EReal) (w0 : Fin 2048 → Fin 256 → EReal)
    (hpos : ∀ p (d : Fin 64), pos (ix4 kv 0 p ⟨g.val * 64 + d.val, by omega⟩) = pos0 p d)
    (hw : ∀ (p : Fin 32) (d : Fin 64) j, w (ix5 kv 0 p ⟨g.val * 64 + d.val, by omega⟩ j) = w0 ⟨p.val * 64 + d.val, by omega⟩ j)
    (hz : ∀ p (l : Fin 128) j, l.val / 64 ≠ g.val → w (ix5 kv 0 p l j) = (0 : EReal)) (n j : Fin 256) :
    (hidBlk x pos w kv (ix2 n j) : EReal)
      = hidden (fun n p d => x (ix3 0 ⟨n.val * 16 + p.val, by omega⟩ ⟨g.val * 64 + d.val, by omega⟩)) pos0 w0 n j := by
  refine Eq.trans ?_ (hidden_eq g (fun n p l => x (ix3 0 ⟨n.val * 16 + p.val, by omega⟩ l)) pos0 w0
    (fun p l => pos (ix4 kv 0 p l)) (fun p l j => w (ix5 kv 0 p l j)) hpos hw hz n j)
  unfold hidBlk
  rw [hid_apply, chain_apply, chain_apply]
  refine congrArg₂ (fun a b : EReal => a + b) ?_ ?_
  · refine Finset.sum_congr rfl fun p _ => Finset.sum_congr rfl fun l _ => ?_
    rw [rowsFrom_apply, posRow_apply _ _ _ (by omega), wRows_apply _ _ _ (by omega)]
  · refine Finset.sum_congr rfl fun p _ => Finset.sum_congr rfl fun l _ => ?_
    rw [rowsFrom_apply, posRow_apply _ _ _ (by omega), wRows_apply _ _ _ (by omega)]

/-! ## The blocks at a grid point -/

/-- Where each window's block lies at each grid point. -/
theorem idx : ∀ t : Fin cfg0.N, win0_0.index t = ![t.val / 2, 0, 4] ∧ win0_1.index t = ![t.val / 2, 0, 5]
    ∧ win0_2.index t = ![0, t.val % 2, 0, 0] ∧ win0_3.index t = ![0, t.val % 2, 0, 0, 0]
    ∧ win0_4.index t = ![0, 0] ∧ win0_5.index t = ![0, 0]
    ∧ win0_6.index t = ![t.val / 2, t.val % 2, 0, 0] ∧ win0_7.index t = ![t.val / 2, t.val % 2, 0, 0] := by
  decide +kernel

variable (m : (ℓ : Loc nD τ sig) → Buf (Elt Ideal) ℓ) (c : Dev nD) (t : Fin cfg0.N)

/-- The keys' columns of one sequence. -/
theorem blk0 (b : Fin 8) (hb : b.val = t.val / 2) (r : Fin 4096) (l : Fin 128) :
    iblk m c 0 t (ix3 0 r l) = m ((c.tc : Thread nD τ).loc main_arg0) (ix3 b r ⟨512 + l.val, by omega⟩) := by
  blk_ext! [iblk, V, idx t, hb]

/-- The values' columns of one sequence. -/
theorem blk1 (b : Fin 8) (hb : b.val = t.val / 2) (r : Fin 4096) (l : Fin 128) :
    iblk m c 1 t (ix3 0 r l) = m ((c.tc : Thread nD τ).loc main_arg0) (ix3 b r ⟨640 + l.val, by omega⟩) := by
  blk_ext! [iblk, V, idx t, hb]

/-- One head's position embeddings. -/
theorem blk2 (g : Fin 2) (hg : g.val = t.val % 2) (kv : Fin 2) (p : Fin 32) (l : Fin 128) :
    iblk m c 2 t (ix4 kv 0 p l) = posKV (posH (m ((c.tc : Thread nD τ).loc main_arg1)))
      (posH (m ((c.tc : Thread nD τ).loc main_arg4))) (ix4 kv g p l) := by
  have h : iblk m c 2 t (ix4 kv 0 p l) = V m c main_v38 (ix4 kv g p l) := by blk_ext! [iblk, idx t, hg]
  rw [h, V_pos]

/-- One head's first weights. -/
theorem blk3 (g : Fin 2) (hg : g.val = t.val % 2) (kv : Fin 2) (p : Fin 32) (l : Fin 128) (j : Fin 256) :
    iblk m c 3 t (ix5 kv 0 p l j) = w1KV (w1H (m ((c.tc : Thread nD τ).loc main_arg2)))
      (w1H (m ((c.tc : Thread nD τ).loc main_arg5))) (ix5 kv g p l j) := by
  have h : iblk m c 3 t (ix5 kv 0 p l j) = V m c main_v41 (ix5 kv g p l j) := by blk_ext! [iblk, idx t, hg]
  rw [h, V_w1]

/-- The keys' second weights. -/
theorem blk4 (j : Fin 256) (l : Fin 128) :
    iblk m c 4 t (ix2 j l) = w2H (m ((c.tc : Thread nD τ).loc main_arg3)) (ix2 j l) := by
  have h : iblk m c 4 t (ix2 j l) = V m c main_v17 (ix2 j l) := by blk_ext! [iblk, idx t]
  rw [h, V_w2k]

/-- The values' second weights. -/
theorem blk5 (j : Fin 256) (l : Fin 128) :
    iblk m c 5 t (ix2 l j) = w2H (m ((c.tc : Thread nD τ).loc main_arg6)) (ix2 j l) := by
  have h : iblk m c 5 t (ix2 l j) = V m c main_v42 (ix2 l j) := by blk_ext! [iblk, idx t]
  rw [h, V_w2v, w2T_apply]

/-! ## The blocks a grid point writes -/

/-- The compressed keys of the program's arguments. -/
abbrev kcK : FVec Ideal Cert.Reference4Ideal.S8x2x256x128 .bf16 :=
  Ref.kcOf (m ((c.tc : Thread nD τ).loc main_arg0)) (m ((c.tc : Thread nD τ).loc main_arg1))
    (m ((c.tc : Thread nD τ).loc main_arg2)) (m ((c.tc : Thread nD τ).loc main_arg3))

/-- Their compressed values. -/
abbrev vcK : FVec Ideal Cert.Reference4Ideal.S8x2x128x256 .bf16 :=
  Ref.vcOf (m ((c.tc : Thread nD τ).loc main_arg0)) (m ((c.tc : Thread nD τ).loc main_arg4))
    (m ((c.tc : Thread nD τ).loc main_arg5)) (m ((c.tc : Thread nD τ).loc main_arg6))

/-- A head's lanes of the position embeddings. -/
theorem posH_lane (pos : FVec Ideal S1x32x64 .f32) (g : Fin 2) (p : Fin 32) (d : Fin 64) :
    posH pos (ix3 g p ⟨g.val * 64 + d.val, by omega⟩) = pos (ix3 0 p d) := by
  rw [posH_apply, dif_pos (by simp only; omega)]
  exact congrArg (fun d => pos (ix3 0 p d)) (Fin.ext (by simp only; omega))

/-- A head's lanes of the first weights. -/
theorem w1H_lane (w : FVec Ideal S1x2048x256 .f32) (g : Fin 2) (p : Fin 32) (d : Fin 64) (j : Fin 256) :
    w1H w (ix4 g p ⟨g.val * 64 + d.val, by omega⟩ j) = w (ix3 0 ⟨p.val * 64 + d.val, by omega⟩ j) := by
  rw [w1H_apply, dif_pos (by simp only; omega)]
  exact congrArg (fun k => w (ix3 0 k j)) (Fin.ext (by simp only; omega))

/-- The other head's lanes of the first weights. -/
theorem w1H_other (w : FVec Ideal S1x2048x256 .f32) (g : Fin 2) (p : Fin 32) (l : Fin 128) (j : Fin 256)
    (h : l.val / 64 ≠ g.val) : w1H w (ix4 g p l j) = (0 : EReal) := by
  rw [w1H_apply, dif_neg h]

/-- The keys' hidden rows at a point. -/
theorem hid_keys (b : Fin 8) (hb : b.val = t.val / 2) (g : Fin 2) (hg : g.val = t.val % 2) (n j : Fin 256) :
    (hidBlk (iblk m c 0 t) (iblk m c 2 t) (iblk m c 3 t) 0 (ix2 n j) : EReal)
      = hidden (fun n p d => m ((c.tc : Thread nD τ).loc main_arg0)
          (ix3 b ⟨n.val * 16 + p.val, by omega⟩ ⟨512 + (g.val * 64 + d.val), by omega⟩))
        (fun p d => m ((c.tc : Thread nD τ).loc main_arg1) (ix3 0 p d))
        (fun k j => m ((c.tc : Thread nD τ).loc main_arg2) (ix3 0 k j)) n j := by
  refine (hidBlk_apply (iblk m c 0 t) (iblk m c 2 t) (iblk m c 3 t) 0 g
    (fun p d => m ((c.tc : Thread nD τ).loc main_arg1) (ix3 0 p d))
    (fun k j => m ((c.tc : Thread nD τ).loc main_arg2) (ix3 0 k j)) (fun p d => ?_) (fun p d j => ?_) (fun p l j h => ?_) n j).trans ?_
  · rw [blk2 m c t g hg, posKV_apply]
    exact posH_lane _ g p d
  · rw [blk3 m c t g hg, w1KV_apply]
    exact w1H_lane _ g p d j
  · rw [blk3 m c t g hg, w1KV_apply]
    exact w1H_other _ g p l j h
  · exact congrArg (fun x => hidden x _ _ n j) (funext fun n => funext fun p => funext fun d => blk0 m c t b hb _ _)

/-- The values' hidden rows at a point. -/
theorem hid_vals (b : Fin 8) (hb : b.val = t.val / 2) (g : Fin 2) (hg : g.val = t.val % 2) (n j : Fin 256) :
    (hidBlk (iblk m c 1 t) (iblk m c 2 t) (iblk m c 3 t) 1 (ix2 n j) : EReal)
      = hidden (fun n p d => m ((c.tc : Thread nD τ).loc main_arg0)
          (ix3 b ⟨n.val * 16 + p.val, by omega⟩ ⟨640 + (g.val * 64 + d.val), by omega⟩))
        (fun p d => m ((c.tc : Thread nD τ).loc main_arg4) (ix3 0 p d))
        (fun k j => m ((c.tc : Thread nD τ).loc main_arg5) (ix3 0 k j)) n j := by
  refine (hidBlk_apply (iblk m c 1 t) (iblk m c 2 t) (iblk m c 3 t) 1 g
    (fun p d => m ((c.tc : Thread nD τ).loc main_arg4) (ix3 0 p d))
    (fun k j => m ((c.tc : Thread nD τ).loc main_arg5) (ix3 0 k j)) (fun p d => ?_) (fun p d j => ?_) (fun p l j h => ?_) n j).trans ?_
  · rw [blk2 m c t g hg, posKV_apply]
    exact posH_lane _ g p d
  · rw [blk3 m c t g hg, w1KV_apply]
    exact w1H_lane _ g p d j
  · rw [blk3 m c t g hg, w1KV_apply]
    exact w1H_other _ g p l j h
  · exact congrArg (fun x => hidden x _ _ n j) (funext fun n => funext fun p => funext fun d => blk1 m c t b hb _ _)

/-- The keys' block is the reference's there. -/
theorem point_keys (b : Fin 8) (hb : b.val = t.val / 2) (g : Fin 2) (hg : g.val = t.val % 2) (n : Fin 256) (l : Fin 128) :
    (outsAt0 m c t).1 (ix4 0 0 n l) = kcK m c (ix4 b g n l) := by
  rw [keys_point]
  refine (keysBlk_apply _ _ n l).trans (Eq.trans ?_ (Ref.kcOf_apply b g n _ _ _ _ l).symm)
  by_cases h : l.val < 64
  · rw [dif_pos h]
    refine Finset.sum_congr rfl fun j _ => ?_
    rw [hid_keys m c t b hb g hg, blk4, w2H_apply, dif_pos h]
  · rw [dif_neg h]
    refine Finset.sum_eq_zero fun j _ => ?_
    rw [blk4, w2H_apply, dif_neg h]
    exact mul_zero (M₀ := EReal) _

/-- The values' block is the reference's there. -/
theorem point_vals (b : Fin 8) (hb : b.val = t.val / 2) (g : Fin 2) (hg : g.val = t.val % 2) (l : Fin 128) (n : Fin 256) :
    (outsAt0 m c t).2 (ix4 0 0 l n) = vcK m c (ix4 b g l n) := by
  rw [vals_point]
  refine (valsBlk_apply _ _ l n).trans (Eq.trans ?_ (Ref.vcOf_apply b g n _ _ _ _ l).symm)
  by_cases h : l.val < 64
  · rw [dif_pos h, if_neg (by omega)]
    refine (add_zero (M := EReal) _).trans (Finset.sum_congr rfl fun j _ => ?_)
    rw [hid_vals m c t b hb g hg, blk5, w2H_apply, dif_pos h]
    exact mul_comm (G := EReal) _ _
  · rw [dif_neg h]
    refine Eq.trans (congrArg (fun z : EReal => z + _) (Finset.sum_eq_zero fun j _ => ?_)) (zero_add (M := EReal) _)
    rw [blk5, w2H_apply, dif_neg h]
    exact zero_mul (M₀ := EReal) _

/-! ## The arrays after the run -/

/-- The first output array after the run. -/
theorem final_keys : (dats m 0 c).arrAt 6 cfg0.N = kcK m c := by
  refine (dats m 0 c).arrAt_eq_of_covers 6 _ (by decide +kernel) fun t hf y => ?_
  blk_simp
  rw [after0_6]
  idx_vars y
  have ht : t.val < 16 := t.isLt
  have h : ((View.whole main_v43_0).slice (win0_6.rect t)).emb (ix4 y0 y1 y2 y3) = ix4 ⟨t.val / 2, by omega⟩ ⟨t.val % 2, by omega⟩ y2 y3 := by
    blk_ext! [idx t]
  obtain rfl : y0 = 0 := Subsingleton.elim _ _
  obtain rfl : y1 = 0 := Subsingleton.elim _ _
  rw [h]
  exact point_keys m c t _ rfl _ rfl y2 y3

/-- The second output array after the run. -/
theorem final_vals : (dats m 0 c).arrAt 7 cfg0.N = vcK m c := by
  refine (dats m 0 c).arrAt_eq_of_covers 7 _ (by decide +kernel) fun t hf y => ?_
  blk_simp
  rw [after0_7]
  idx_vars y
  have ht : t.val < 16 := t.isLt
  have h : ((View.whole main_v43_1).slice (win0_7.rect t)).emb (ix4 y0 y1 y2 y3) = ix4 ⟨t.val / 2, by omega⟩ ⟨t.val % 2, by omega⟩ y2 y3 := by
    blk_ext! [idx t]
  obtain rfl : y0 = 0 := Subsingleton.elim _ _
  obtain rfl : y1 = 0 := Subsingleton.elim _ _
  rw [h]
  exact point_vals m c t _ rfl _ rfl y2 y3

end Cert.Proof.Compress

end
-- ==== Proof.Compress.Claim.lean ====
/- The compression kernel and its reference, run from equal arguments, end with the same results over the extended reals. -/
module

public import proofs.«01_k».proof.Proof.Compress.Value

@[expose] public section

set_option maxRecDepth 16384

noncomputable section

namespace Cert.Proof.Compress

open Idealize.ShloMosaic Idealize.ShloMosaic.TcCoe Idealize.SL.Sem

/-- From any launch memory the kernel and, from equal arguments, its reference both run to the end and leave the same
    compressed keys and compressed values, their arguments unchanged. -/
theorem algebraic : Cert.algebraic_Kernel4Ideal_Reference4Ideal := by
  intro m g m' g' _ hag
  refine ⟨fun c => kcK m c, fun c => vcK m c, ?_, ?_⟩
  · exact (θ_run Cert.Kernel4Ideal.defs _ _).mono (fun r h c => ⟨(h c).1.trans (final_keys m c),
      (h c).2.1.trans (final_vals m c), (h c).2.2⟩) (Cert.Kernel4Ideal.Value.run_blocks m g)
  · refine (θ_run Cert.Reference4Ideal.defs _ _).mono (fun r h c => ?_) (Cert.Reference4Ideal.Value.run m' g')
    obtain ⟨h0, h1, h2, h3, h4, h5, h6⟩ := hag c
    refine ⟨(h c).1.trans ?_, (h c).2.1.trans ?_, (h c).2.2⟩
    · refine (Ref.res_k m' c).trans ?_
      rw [h0, h1, h2, h3]
    · refine (Ref.res_v m' c).trans ?_
      rw [h0, h4, h5, h6]

end Cert.Proof.Compress

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel2Ideal.Value
public import proofs.«01_k».proof.Proof.Gen.Kernel3Ideal.Value
public import proofs.«01_k».proof.Proof.Gen.Reference2Ideal.Run
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Attn.Run
public import proofs.«01_k».proof.Proof.Attn.RunIdeal
public import proofs.«01_k».proof.Proof.First.Claim
public import proofs.«01_k».proof.Proof.Final.Claim
public import proofs.«01_k».proof.Proof.Compress.Claim
public import Idealize.ShloMosaic.Adequacy
public import Idealize.ShloMosaic.Init

@[expose] public section

noncomputable section

namespace Cert.Proof

open Idealize.ShloMosaic Idealize.ShloMosaic.TcCoe Idealize.SL.Sem

/-- The attention's reference runs to the end and leaves its arguments unchanged. -/
theorem frame_reference : Cert.quiescent_ReferenceIdeal := by
  intro m ρ _
  exact (θ_run Cert.ReferenceIdeal.defs _ _).mono (fun r h => ⟨fun c => (h c).2, sem_eq_zero_of_no_sems (by decide) r.2⟩)
    (Cert.ReferenceIdeal.Value.run m ρ)

/-- The idealized attention kernel is the compiled one but for the mask's constant, which it names −∞. -/
theorem preserves : Cert.preserves_Kernel_KernelIdeal :=
  IdealRules.named_const.statement Cert.KernelIdeal.κ "mask" .f32 0xF149F2CA#32 ⊥ rfl

/-- The first feed-forward block's reference runs to the end and leaves its arguments unchanged. -/
theorem frame_reference2 : Cert.quiescent_Reference2Ideal := by
  intro m ρ _
  exact (θ_run Cert.Reference2Ideal.defs _ _).mono (fun r h => ⟨fun c => (h c).2.2.2.2, sem_eq_zero_of_no_sems (by decide) r.2⟩)
    (Cert.Reference2Ideal.Value.run m ρ)

/-- The final feed-forward block's reference runs to the end and leaves its arguments unchanged. -/
theorem frame_reference3 : Cert.quiescent_Reference3Ideal := by
  intro m ρ _
  exact (θ_run Cert.Reference3Ideal.defs _ _).mono (fun r h => ⟨fun c => (h c).2, sem_eq_zero_of_no_sems (by decide) r.2⟩)
    (Cert.Reference3Ideal.Value.run m ρ)

/-- The compression's reference runs to the end and leaves its arguments unchanged. -/
theorem frame_reference4 : Cert.quiescent_Reference4Ideal := by
  intro m ρ _
  exact (θ_run Cert.Reference4Ideal.defs _ _).mono (fun r h => ⟨fun c => (h c).2.2, sem_eq_zero_of_no_sems (by decide) r.2⟩)
    (Cert.Reference4Ideal.Value.run m ρ)

/-- The bias tables' reference runs to the end and leaves its argument unchanged. -/
theorem frame_reference5 : Cert.quiescent_Reference5Ideal := by
  intro m ρ _
  exact (θ_run Cert.Reference5Ideal.defs _ _).mono (fun r h => ⟨fun c => (h c).2.2.2, sem_eq_zero_of_no_sems (by decide) r.2⟩)
    (Cert.Reference5Ideal.Value.run m ρ)

/-- The idealized bias-table kernel is the compiled one but for the mask's constant, which it names −∞. -/
theorem preserves5 : Cert.preserves_Kernel5_Kernel5Ideal :=
  IdealRules.named_const.statement Cert.Kernel5Ideal.κ "mask" .f32 0xF149F2CA#32 ⊥ rfl

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Attn.frame m ρ, fun m ρ _ => AttnIdeal.frame m ρ, frame_reference,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ, frame_reference4,
    fun m ρ _ => Cert.Kernel5.Gen.frame m ρ, fun m ρ _ => Cert.Kernel5Ideal.Gen.frame m ρ, frame_reference5,
    preserves, trivial, First.algebraic, trivial, Final.algebraic, trivial, Compress.algebraic, preserves5⟩

end Cert.Proof

end
